-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_live_pages_known_KernelIdeal [hPre_live_pages_known_KernelIdeal : Cert.Pre_live_pages_known_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_live_pages_known_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_live_pages_known_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_live_pages_known_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_live_pages_known_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_live_pages_known_ReferenceIdeal [hPre_live_pages_known_ReferenceIdeal : Cert.Pre_live_pages_known_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_live_pages_known_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_live_pages_known_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_live_pages_known_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_live_pages_known_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_live_pages_known_KernelIdeal [hKernelIdeal : Cert.KernelIdeal.Facts] [hPre_live_pages_known_KernelIdeal : Cert.Pre_live_pages_known_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_live_pages_known_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_live_pages_known_ReferenceIdeal [hReferenceIdeal : Cert.ReferenceIdeal.Facts] [hPre_live_pages_known_ReferenceIdeal : Cert.Pre_live_pages_known_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_live_pages_known_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_live_pages_known_KernelIdeal [hKernelIdeal : Cert.KernelIdeal.Facts] [hReferenceIdeal : Cert.ReferenceIdeal.Facts] [hPre_live_pages_known_KernelIdeal : Cert.Pre_live_pages_known_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_live_pages_known_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![512, 16, 16, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![512, 16, 16, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_live_pages_known_KernelIdeal : Cert.Pre_live_pages_known_KernelIdeal.Facts) (hPre_live_pages_known_ReferenceIdeal : Cert.Pre_live_pages_known_ReferenceIdeal.Facts),
    quiescent_Kernel (hKernel := hKernel)
    ∧ quiescent_KernelIdeal (hKernelIdeal := hKernelIdeal)
    ∧ quiescent_KernelIdeal_pre_live_pages_known_KernelIdeal (hKernelIdeal := hKernelIdeal) (hPre_live_pages_known_KernelIdeal := hPre_live_pages_known_KernelIdeal)
    ∧ quiescent_ReferenceIdeal (hReferenceIdeal := hReferenceIdeal)
    ∧ quiescent_ReferenceIdeal_pre_live_pages_known_ReferenceIdeal (hReferenceIdeal := hReferenceIdeal) (hPre_live_pages_known_ReferenceIdeal := hPre_live_pages_known_ReferenceIdeal)
    ∧ preserves_Kernel_KernelIdeal
    ∧ algebraic_KernelIdeal_ReferenceIdeal_pre_live_pages_known_KernelIdeal (hKernelIdeal := hKernelIdeal) (hReferenceIdeal := hReferenceIdeal) (hPre_live_pages_known_KernelIdeal := hPre_live_pages_known_KernelIdeal)
-- ==== Pre_live_pages_known_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16 : S_.BroadcastsInDim S16 (![] : Fin 0 → Fin S16.rank)
  bcast_S_S16x1x16x64 : S_.BroadcastsInDim S16x1x16x64 (![] : Fin 0 → Fin S16x1x16x64.rank)
  bcast_S_S128x16x16x64 : S_.BroadcastsInDim S128x16x16x64 (![] : Fin 0 → Fin S128x16x16x64.rank)

variable [Facts]

def fn_part1 {F : FTy → Type} [FloatOps F] (main_v12 : IVec S16 1) (main_v14 : IVec S16x128 1) (main_v17 : IVec S16x1x16x64 1) (main_v18 : FVec F S128x16x16x64 .bf16) (main_cst_2 : FVec F S_ .bf16) : IVec S16 1 × IVec S16x128 1 × IVec S16x1x16x64 1 × IVec S128x16x16x64 1 :=
  let main_v19 : FVec F S128x16x16x64 .bf16 := broadcastInDim S128x16x16x64 ![] bcast_S_S128x16x16x64 main_cst_2
  let main_v20 : IVec S128x16x16x64 1 := cmpf .olt main_v18 main_v19
  (main_v12, main_v14, main_v17, main_v20)

def fn {F : FTy → Type} [FloatOps F] (main_arg0 : FVec F S16x1x16x64 .bf16) (main_arg1 : FVec F S128x16x16x64 .bf16) (main_arg2 : FVec F S128x16x16x64 .bf16) (main_arg3 : IVec S16x128 32) (main_arg4 : IVec S16 32) : IVec S16 1 × IVec S16x128 1 × IVec S16x1x16x64 1 × IVec S128x16x16x64 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_c : IVec S_ 32 := constantI S_ 32 0#32
  let main_v6 : IVec S16x128 32 := broadcastInDim S16x128 ![] bcast_S_S16x128 main_c
  let main_v7 : IVec S16x128 1 := cmpi .sge main_arg3 main_v6
  let main_c_0 : IVec S_ 32 := constantI S_ 32 512#32
  let main_v8 : IVec S16x128 32 := broadcastInDim S16x128 ![] bcast_S_S16x128 main_c_0
  let main_v9 : IVec S16x128 1 := cmpi .slt main_arg3 main_v8
  let main_v10 : IVec S16x128 1 := andi main_v7 main_v9
  let main_c_1 : IVec S_ 32 := constantI S_ 32 1#32
  let main_v11 : IVec S16 32 := broadcastInDim S16 ![] bcast_S_S16 main_c_1
  let main_v12 : IVec S16 1 := cmpi .sge main_arg4 main_v11
  let main_v13 : IVec S16x128 1 := noti main_v5
  let main_v14 : IVec S16x128 1 := ori main_v13 main_v10
  let main_v15 : FVec F S16x1x16x64 .bf16 := Host.absf main_arg0
  let main_cst : FVec F S_ .bf16 := constant S_ .bf16 0x7F80#16
  let main_v16 : FVec F S16x1x16x64 .bf16 := broadcastInDim S16x1x16x64 ![] bcast_S_S16x1x16x64 main_cst
  let main_v17 : IVec S16x1x16x64 1 := cmpf .olt main_v15 main_v16
  let main_v18 : FVec F S128x16x16x64 .bf16 := Host.absf main_arg1
  let main_cst_2 : FVec F S_ .bf16 := constant S_ .bf16 0x7F80#16
  fn_part1 (F := F) main_v12 main_v14 main_v17 main_v18 main_cst_2
-- ==== Pre_live_pages_known_ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16 : S_.BroadcastsInDim S16 (![] : Fin 0 → Fin S16.rank)
  bcast_S_S16x1x16x64 : S_.BroadcastsInDim S16x1x16x64 (![] : Fin 0 → Fin S16x1x16x64.rank)
  bcast_S_S512x16x16x64 : S_.BroadcastsInDim S512x16x16x64 (![] : Fin 0 → Fin S512x16x16x64.rank)

variable [Facts]

def fn_part1 {F : FTy → Type} [FloatOps F] (main_v12 : IVec S16 1) (main_v14 : IVec S16x128 1) (main_v17 : IVec S16x1x16x64 1) (main_v18 : FVec F S512x16x16x64 .bf16) (main_cst_2 : FVec F S_ .bf16) : IVec S16 1 × IVec S16x128 1 × IVec S16x1x16x64 1 × IVec S512x16x16x64 1 :=
  let main_v19 : FVec F S512x16x16x64 .bf16 := broadcastInDim S512x16x16x64 ![] bcast_S_S512x16x16x64 main_cst_2
  let main_v20 : IVec S512x16x16x64 1 := cmpf .olt main_v18 main_v19
  (main_v12, main_v14, main_v17, main_v20)

def fn {F : FTy → Type} [FloatOps F] (main_arg0 : FVec F S16x1x16x64 .bf16) (main_arg1 : FVec F S512x16x16x64 .bf16) (main_arg2 : FVec F S512x16x16x64 .bf16) (main_arg3 : IVec S16x128 32) (main_arg4 : IVec S16 32) : IVec S16 1 × IVec S16x128 1 × IVec S16x1x16x64 1 × IVec S512x16x16x64 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_c : IVec S_ 32 := constantI S_ 32 0#32
  let main_v6 : IVec S16x128 32 := broadcastInDim S16x128 ![] bcast_S_S16x128 main_c
  let main_v7 : IVec S16x128 1 := cmpi .sge main_arg3 main_v6
  let main_c_0 : IVec S_ 32 := constantI S_ 32 512#32
  let main_v8 : IVec S16x128 32 := broadcastInDim S16x128 ![] bcast_S_S16x128 main_c_0
  let main_v9 : IVec S16x128 1 := cmpi .slt main_arg3 main_v8
  let main_v10 : IVec S16x128 1 := andi main_v7 main_v9
  let main_c_1 : IVec S_ 32 := constantI S_ 32 1#32
  let main_v11 : IVec S16 32 := broadcastInDim S16 ![] bcast_S_S16 main_c_1
  let main_v12 : IVec S16 1 := cmpi .sge main_arg4 main_v11
  let main_v13 : IVec S16x128 1 := noti main_v5
  let main_v14 : IVec S16x128 1 := ori main_v13 main_v10
  let main_v15 : FVec F S16x1x16x64 .bf16 := Host.absf main_arg0
  let main_cst : FVec F S_ .bf16 := constant S_ .bf16 0x7F80#16
  let main_v16 : FVec F S16x1x16x64 .bf16 := broadcastInDim S16x1x16x64 ![] bcast_S_S16x1x16x64 main_cst
  let main_v17 : IVec S16x1x16x64 1 := cmpf .olt main_v15 main_v16
  let main_v18 : FVec F S512x16x16x64 .bf16 := Host.absf main_arg1
  let main_cst_2 : FVec F S_ .bf16 := constant S_ .bf16 0x7F80#16
  fn_part1 (F := F) main_v12 main_v14 main_v17 main_v18 main_cst_2
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64x128 : Shape := ⟨4, ![16, 16, 64, 128]⟩
abbrev S_ : Shape := ⟨0, ![]⟩
abbrev S16x4x64x128 : Shape := ⟨4, ![16, 4, 64, 128]⟩
abbrev S16x1 : Shape := ⟨2, ![16, 1]⟩
abbrev S4x4x16x128 : Shape := ⟨4, ![4, 4, 16, 128]⟩
abbrev S4x16 : Shape := ⟨2, ![4, 16]⟩
abbrev S4x16x64 : Shape := ⟨3, ![4, 16, 64]⟩
abbrev S16x16x64 : Shape := ⟨3, ![16, 16, 64]⟩
abbrev S3 : Shape := ⟨1, ![3]⟩
abbrev S16x128x128 : Shape := ⟨3, ![16, 128, 128]⟩
abbrev S16x128x1 : Shape := ⟨3, ![16, 128, 1]⟩
abbrev S16x1x1 : Shape := ⟨3, ![16, 1, 1]⟩
abbrev S1x16x128 : Shape := ⟨3, ![1, 16, 128]⟩
abbrev S1x4x64x128 : Shape := ⟨4, ![1, 4, 64, 128]⟩
abbrev S4x64x128 : Shape := ⟨3, ![4, 64, 128]⟩
abbrev S4x16x128 : Shape := ⟨3, ![4, 16, 128]⟩
abbrev S4x16x1 : Shape := ⟨3, ![4, 16, 1]⟩
abbrev S1x4x16x64 : Shape := ⟨4, ![1, 4, 16, 64]⟩
abbrev S1x4x16x1 : Shape := ⟨4, ![1, 4, 16, 1]⟩
abbrev S1 : Shape := ⟨1, ![1]⟩
abbrev S1x4x16x128 : Shape := ⟨4, ![1, 4, 16, 128]⟩

abbrev nBuf : Space → Nat
  | .hbm => 46
  | .vmem => 13
  | .smem => 0
  | _ => 0

abbrev bufTy : (tb : Table) → Fin (tcTables nBuf tb) → BufTy
  | .hbm, ⟨0, _⟩ => ⟨S16x1x16x64, .bf16⟩
  | .hbm, ⟨1, _⟩ => ⟨S128x16x16x64, .bf16⟩
  | .hbm, ⟨2, _⟩ => ⟨S128x16x16x64, .bf16⟩
  | .hbm, ⟨3, _⟩ => ⟨S16x128, .i32⟩
  | .hbm, ⟨4, _⟩ => ⟨S16, .i32⟩
  | .hbm, ⟨5, _⟩ => ⟨S16x16x64x128, .bf16⟩
  | .hbm, ⟨6, _⟩ => ⟨S16x16x64x128, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S16x4x64x128, .bf16⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S16x4x64x128, .bf16⟩
  | .hbm, ⟨44, _⟩ => ⟨S16x1, .i32⟩
  | .hbm, ⟨45, _⟩ => ⟨S16x1x16x64, .f32⟩
  | .local _ .vmem, ⟨0, _⟩ => ⟨S16x1x16x64, .bf16⟩
  | .local _ .vmem, ⟨1, _⟩ => ⟨S16x4x64x128, .bf16⟩
  | .local _ .vmem, ⟨2, _⟩ => ⟨S16x4x64x128, .bf16⟩
  | .local _ .vmem, ⟨3, _⟩ => ⟨S16x128, .i32⟩
  | .local _ .vmem, ⟨4, _⟩ => ⟨S16x1, .i32⟩
  | .local _ .vmem, ⟨5, _⟩ => ⟨S16x1x16x64, .f32⟩
  | .local _ .vmem, ⟨6, _⟩ => ⟨S4x4x16x128, .f32⟩
  | .local _ .vmem, ⟨7, _⟩ => ⟨S4x4x16x128, .f32⟩
  | .local _ .vmem, ⟨8, _⟩ => ⟨S16x128, .f32⟩
  | .local _ .vmem, ⟨9, _⟩ => ⟨S4x16, .f32⟩
  | .local _ .vmem, ⟨10, _⟩ => ⟨S4x16, .f32⟩
  | .local _ .vmem, ⟨11, _⟩ => ⟨S4x16x64, .f32⟩
  | .local _ .vmem, ⟨12, _⟩ => ⟨S16x16x64, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_c_8 : Ref sig .tc := ⟨.hbm, 30, rfl⟩
abbrev main_c_9 : Ref sig .tc := ⟨.hbm, 31, rfl⟩
abbrev main_v17 : Ref sig .tc := ⟨.hbm, 32, rfl⟩
abbrev main_c_10 : Ref sig .tc := ⟨.hbm, 33, rfl⟩
abbrev main_v18 : Ref sig .tc := ⟨.hbm, 34, rfl⟩
abbrev main_c_11 : Ref sig .tc := ⟨.hbm, 35, rfl⟩
abbrev main_v19 : Ref sig .tc := ⟨.hbm, 36, rfl⟩
abbrev main_c_12 : Ref sig .tc := ⟨.hbm, 37, rfl⟩
abbrev main_v20 : Ref sig .tc := ⟨.hbm, 38, rfl⟩
abbrev main_v21 : Ref sig .tc := ⟨.hbm, 39, rfl⟩
abbrev main_c_13 : Ref sig .tc := ⟨.hbm, 40, rfl⟩
abbrev main_c_14 : Ref sig .tc := ⟨.hbm, 41, rfl⟩
abbrev main_c_15 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_2 : BitVec 32 := 0#32
  let v13 : BitVec 1 := Scalar.cmpi .ne v12 c0_i32_2
  v13

def k0_dev1 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v462 : BitVec 32 := Scalar.muli v2 c8_i32_259
  let v463 : BitVec 32 := Scalar.addi c0_i32_260 v462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v464 : BitVec 32 := Scalar.muli v5 c4_i32_261
  let v465 : BitVec 32 := Scalar.addi v463 v464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v451 : BitVec 32 := Scalar.addi v8 c1_i32_251
  let c4_i32_252 : BitVec 32 := 4#32
  let c0_i32_253 : BitVec 32 := 0#32
  let v452 : BitVec 1 := Scalar.cmpi .eq c4_i32_252 c0_i32_253
  let c1_i32_254 : BitVec 32 := 1#32
  let v453 : BitVec 32 := Scalar.select v452 c1_i32_254 c4_i32_252
  let v454 : BitVec 32 := Scalar.remsi v451 v453
  let c0_i32_256 : BitVec 32 := 0#32
  let v456 : BitVec 1 := Scalar.cmpi .slt v454 c0_i32_256
  let c0_i32_257 : BitVec 32 := 0#32
  let v457 : BitVec 1 := Scalar.cmpi .slt v453 c0_i32_257
  let v458 : BitVec 1 := Scalar.xori v456 v457
  let c0_i32_255 : BitVec 32 := 0#32
  let v455 : BitVec 1 := Scalar.cmpi .ne v454 c0_i32_255
  let v459 : BitVec 1 := Scalar.andi v458 v455
  let v460 : BitVec 32 := Scalar.addi v454 v453
  let v461 : BitVec 32 := Scalar.select v459 v460 v454
  let c1_i32_262 : BitVec 32 := 1#32
  let v466 : BitVec 32 := Scalar.muli v461 c1_i32_262
  let v467 : BitVec 32 := Scalar.addi v465 v466
  v467.toNat
def k0_dev2 (d0 : Dev nD) : Nat :=
  let c0_i32_272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_271 : BitVec 32 := 8#32
  let v479 : BitVec 32 := Scalar.muli v2 c8_i32_271
  let v480 : BitVec 32 := Scalar.addi c0_i32_272 v479
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_273 : BitVec 32 := 4#32
  let v481 : BitVec 32 := Scalar.muli v5 c4_i32_273
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_263 : BitVec 32 := 2#32
  let v468 : BitVec 32 := Scalar.addi v8 c2_i32_263
  let c4_i32_264 : BitVec 32 := 4#32
  let c0_i32_265 : BitVec 32 := 0#32
  let v469 : BitVec 1 := Scalar.cmpi .eq c4_i32_264 c0_i32_265
  let c1_i32_266 : BitVec 32 := 1#32
  let v470 : BitVec 32 := Scalar.select v469 c1_i32_266 c4_i32_264
  let v471 : BitVec 32 := Scalar.remsi v468 v470
  let c0_i32_268 : BitVec 32 := 0#32
  let v473 : BitVec 1 := Scalar.cmpi .slt v471 c0_i32_268
  let c0_i32_269 : BitVec 32 := 0#32
  let v474 : BitVec 1 := Scalar.cmpi .slt v470 c0_i32_269
  let v475 : BitVec 1 := Scalar.xori v473 v474
  let c0_i32_267 : BitVec 32 := 0#32
  let v472 : BitVec 1 := Scalar.cmpi .ne v471 c0_i32_267
  let v476 : BitVec 1 := Scalar.andi v475 v472
  let v477 : BitVec 32 := Scalar.addi v471 v470
  let v478 : BitVec 32 := Scalar.select v476 v477 v471
  let c1_i32_274 : BitVec 32 := 1#32
  let v483 : BitVec 32 := Scalar.muli v478 c1_i32_274
  let v484 : BitVec 32 := Scalar.addi v482 v483
  v484.toNat
def k0_dev3 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_282 : BitVec 32 := 8#32
  let v496 : BitVec 32 := Scalar.muli v2 c8_i32_282
  let v497 : BitVec 32 := Scalar.addi c0_i32_283 v496
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_284 : BitVec 32 := 4#32
  let v498 : BitVec 32 := Scalar.muli v5 c4_i32_284
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v485 : BitVec 32 := Scalar.addi v8 c3_i32
  let c4_i32_275 : BitVec 32 := 4#32
  let c0_i32_276 : BitVec 32 := 0#32
  let v486 : BitVec 1 := Scalar.cmpi .eq c4_i32_275 c0_i32_276
  let c1_i32_277 : BitVec 32 := 1#32
  let v487 : BitVec 32 := Scalar.select v486 c1_i32_277 c4_i32_275
  let v488 : BitVec 32 := Scalar.remsi v485 v487
  let c0_i32_279 : BitVec 32 := 0#32
  let v490 : BitVec 1 := Scalar.cmpi .slt v488 c0_i32_279
  let c0_i32_280 : BitVec 32 := 0#32
  let v491 : BitVec 1 := Scalar.cmpi .slt v487 c0_i32_280
  let v492 : BitVec 1 := Scalar.xori v490 v491
  let c0_i32_278 : BitVec 32 := 0#32
  let v489 : BitVec 1 := Scalar.cmpi .ne v488 c0_i32_278
  let v493 : BitVec 1 := Scalar.andi v492 v489
  let v494 : BitVec 32 := Scalar.addi v488 v487
  let v495 : BitVec 32 := Scalar.select v493 v494 v488
  let c1_i32_285 : BitVec 32 := 1#32
  let v500 : BitVec 32 := Scalar.muli v495 c1_i32_285
  let v501 : BitVec 32 := Scalar.addi v499 v500
  v501.toNat
def k0_dev4 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_286 : BitVec 32 := 0#32
  let v502 : BitVec 32 := Scalar.addi v2 c0_i32_286
  let c2_i32_287 : BitVec 32 := 2#32
  let c0_i32_288 : BitVec 32 := 0#32
  let v503 : BitVec 1 := Scalar.cmpi .eq c2_i32_287 c0_i32_288
  let c1_i32_289 : BitVec 32 := 1#32
  let v504 : BitVec 32 := Scalar.select v503 c1_i32_289 c2_i32_287
  let v505 : BitVec 32 := Scalar.remsi v502 v504
  let c0_i32_291 : BitVec 32 := 0#32
  let v507 : BitVec 1 := Scalar.cmpi .slt v505 c0_i32_291
  let c0_i32_292 : BitVec 32 := 0#32
  let v508 : BitVec 1 := Scalar.cmpi .slt v504 c0_i32_292
  let v509 : BitVec 1 := Scalar.xori v507 v508
  let c0_i32_290 : BitVec 32 := 0#32
  let v506 : BitVec 1 := Scalar.cmpi .ne v505 c0_i32_290
  let v510 : BitVec 1 := Scalar.andi v509 v506
  let v511 : BitVec 32 := Scalar.addi v505 v504
  let v512 : BitVec 32 := Scalar.select v510 v511 v505
  let c8_i32_301 : BitVec 32 := 8#32
  let v524 : BitVec 32 := Scalar.muli v512 c8_i32_301
  let v525 : BitVec 32 := Scalar.addi c0_i32_302 v524
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_293 : BitVec 32 := 1#32
  let v513 : BitVec 32 := Scalar.addi v5 c1_i32_293
  let c2_i32_294 : BitVec 32 := 2#32
  let c0_i32_295 : BitVec 32 := 0#32
  let v514 : BitVec 1 := Scalar.cmpi .eq c2_i32_294 c0_i32_295
  let c1_i32_296 : BitVec 32 := 1#32
  let v515 : BitVec 32 := Scalar.select v514 c1_i32_296 c2_i32_294
  let v516 : BitVec 32 := Scalar.remsi v513 v515
  let c0_i32_298 : BitVec 32 := 0#32
  let v518 : BitVec 1 := Scalar.cmpi .slt v516 c0_i32_298
  let c0_i32_299 : BitVec 32 := 0#32
  let v519 : BitVec 1 := Scalar.cmpi .slt v515 c0_i32_299
  let v520 : BitVec 1 := Scalar.xori v518 v519
  let c0_i32_297 : BitVec 32 := 0#32
  let v517 : BitVec 1 := Scalar.cmpi .ne v516 c0_i32_297
  let v521 : BitVec 1 := Scalar.andi v520 v517
  let v522 : BitVec 32 := Scalar.addi v516 v515
  let v523 : BitVec 32 := Scalar.select v521 v522 v516
  let c4_i32_303 : BitVec 32 := 4#32
  let v526 : BitVec 32 := Scalar.muli v523 c4_i32_303
  let v527 : BitVec 32 := Scalar.addi v525 v526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v528 : BitVec 32 := Scalar.muli v8 c1_i32_304
  let v529 : BitVec 32 := Scalar.addi v527 v528
  v529.toNat
def k0_dev5 (d0 : Dev nD) : Nat :=
  let c0_i32_321 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_305 : BitVec 32 := 1#32
  let v530 : BitVec 32 := Scalar.addi v2 c1_i32_305
  let c2_i32_306 : BitVec 32 := 2#32
  let c0_i32_307 : BitVec 32 := 0#32
  let v531 : BitVec 1 := Scalar.cmpi .eq c2_i32_306 c0_i32_307
  let c1_i32_308 : BitVec 32 := 1#32
  let v532 : BitVec 32 := Scalar.select v531 c1_i32_308 c2_i32_306
  let v533 : BitVec 32 := Scalar.remsi v530 v532
  let c0_i32_310 : BitVec 32 := 0#32
  let v535 : BitVec 1 := Scalar.cmpi .slt v533 c0_i32_310
  let c0_i32_311 : BitVec 32 := 0#32
  let v536 : BitVec 1 := Scalar.cmpi .slt v532 c0_i32_311
  let v537 : BitVec 1 := Scalar.xori v535 v536
  let c0_i32_309 : BitVec 32 := 0#32
  let v534 : BitVec 1 := Scalar.cmpi .ne v533 c0_i32_309
  let v538 : BitVec 1 := Scalar.andi v537 v534
  let v539 : BitVec 32 := Scalar.addi v533 v532
  let v540 : BitVec 32 := Scalar.select v538 v539 v533
  let c8_i32_320 : BitVec 32 := 8#32
  let v552 : BitVec 32 := Scalar.muli v540 c8_i32_320
  let v553 : BitVec 32 := Scalar.addi c0_i32_321 v552
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_312 : BitVec 32 := 0#32
  let v541 : BitVec 32 := Scalar.addi v5 c0_i32_312
  let c2_i32_313 : BitVec 32 := 2#32
  let c0_i32_314 : BitVec 32 := 0#32
  let v542 : BitVec 1 := Scalar.cmpi .eq c2_i32_313 c0_i32_314
  let c1_i32_315 : BitVec 32 := 1#32
  let v543 : BitVec 32 := Scalar.select v542 c1_i32_315 c2_i32_313
  let v544 : BitVec 32 := Scalar.remsi v541 v543
  let c0_i32_317 : BitVec 32 := 0#32
  let v546 : BitVec 1 := Scalar.cmpi .slt v544 c0_i32_317
  let c0_i32_318 : BitVec 32 := 0#32
  let v547 : BitVec 1 := Scalar.cmpi .slt v543 c0_i32_318
  let v548 : BitVec 1 := Scalar.xori v546 v547
  let c0_i32_316 : BitVec 32 := 0#32
  let v545 : BitVec 1 := Scalar.cmpi .ne v544 c0_i32_316
  let v549 : BitVec 1 := Scalar.andi v548 v545
  let v550 : BitVec 32 := Scalar.addi v544 v543
  let v551 : BitVec 32 := Scalar.select v549 v550 v544
  let c4_i32_322 : BitVec 32 := 4#32
  let v554 : BitVec 32 := Scalar.muli v551 c4_i32_322
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v556 : BitVec 32 := Scalar.muli v8 c1_i32_323
  let v557 : BitVec 32 := Scalar.addi v555 v556
  v557.toNat
def k0_dev6 (d0 : Dev nD) : Nat :=
  let c0_i32_340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_324 : BitVec 32 := 1#32
  let v558 : BitVec 32 := Scalar.addi v2 c1_i32_324
  let c2_i32_325 : BitVec 32 := 2#32
  let c0_i32_326 : BitVec 32 := 0#32
  let v559 : BitVec 1 := Scalar.cmpi .eq c2_i32_325 c0_i32_326
  let c1_i32_327 : BitVec 32 := 1#32
  let v560 : BitVec 32 := Scalar.select v559 c1_i32_327 c2_i32_325
  let v561 : BitVec 32 := Scalar.remsi v558 v560
  let c0_i32_329 : BitVec 32 := 0#32
  let v563 : BitVec 1 := Scalar.cmpi .slt v561 c0_i32_329
  let c0_i32_330 : BitVec 32 := 0#32
  let v564 : BitVec 1 := Scalar.cmpi .slt v560 c0_i32_330
  let v565 : BitVec 1 := Scalar.xori v563 v564
  let c0_i32_328 : BitVec 32 := 0#32
  let v562 : BitVec 1 := Scalar.cmpi .ne v561 c0_i32_328
  let v566 : BitVec 1 := Scalar.andi v565 v562
  let v567 : BitVec 32 := Scalar.addi v561 v560
  let v568 : BitVec 32 := Scalar.select v566 v567 v561
  let c8_i32_339 : BitVec 32 := 8#32
  let v580 : BitVec 32 := Scalar.muli v568 c8_i32_339
  let v581 : BitVec 32 := Scalar.addi c0_i32_340 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_331 : BitVec 32 := 1#32
  let v569 : BitVec 32 := Scalar.addi v5 c1_i32_331
  let c2_i32_332 : BitVec 32 := 2#32
  let c0_i32_333 : BitVec 32 := 0#32
  let v570 : BitVec 1 := Scalar.cmpi .eq c2_i32_332 c0_i32_333
  let c1_i32_334 : BitVec 32 := 1#32
  let v571 : BitVec 32 := Scalar.select v570 c1_i32_334 c2_i32_332
  let v572 : BitVec 32 := Scalar.remsi v569 v571
  let c0_i32_336 : BitVec 32 := 0#32
  let v574 : BitVec 1 := Scalar.cmpi .slt v572 c0_i32_336
  let c0_i32_337 : BitVec 32 := 0#32
  let v575 : BitVec 1 := Scalar.cmpi .slt v571 c0_i32_337
  let v576 : BitVec 1 := Scalar.xori v574 v575
  let c0_i32_335 : BitVec 32 := 0#32
  let v573 : BitVec 1 := Scalar.cmpi .ne v572 c0_i32_335
  let v577 : BitVec 1 := Scalar.andi v576 v573
  let v578 : BitVec 32 := Scalar.addi v572 v571
  let v579 : BitVec 32 := Scalar.select v577 v578 v572
  let c4_i32_341 : BitVec 32 := 4#32
  let v582 : BitVec 32 := Scalar.muli v579 c4_i32_341
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v584 : BitVec 32 := Scalar.muli v8 c1_i32_342
  let v585 : BitVec 32 := Scalar.addi v583 v584
  v585.toNat
def k0_cond2 (i : grid0.Coords) : BitVec 1 :=
  let arg0 : BitVec 32 := BitVec.ofNat 32 (i 0).val
  let c0_i32_249 : BitVec 32 := 0#32
  let v448 : BitVec 1 := Scalar.cmpi .eq arg0 c0_i32_249
  let v449 : BitVec 32 := Scalar.extui v448
  let c0_i32_250 : BitVec 32 := 0#32
  let v450 : BitVec 1 := Scalar.cmpi .ne v449 c0_i32_250
  v450

def k0_dev7 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v476 : BitVec 32 := Scalar.muli v2 c8_i32_279
  let v477 : BitVec 32 := Scalar.addi c0_i32_280 v476
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v478 : BitVec 32 := Scalar.muli v5 c4_i32_281
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v465 : BitVec 32 := Scalar.addi v8 c1_i32_268
  let c4_i32_269 : BitVec 32 := 4#32
  let c0_i32_270 : BitVec 32 := 0#32
  let v466 : BitVec 1 := Scalar.cmpi .eq c4_i32_269 c0_i32_270
  let c1_i32_271 : BitVec 32 := 1#32
  let v467 : BitVec 32 := Scalar.select v466 c1_i32_271 c4_i32_269
  let v468 : BitVec 32 := Scalar.remsi v465 v467
  let c0_i32_273 : BitVec 32 := 0#32
  let v470 : BitVec 1 := Scalar.cmpi .slt v468 c0_i32_273
  let c0_i32_274 : BitVec 32 := 0#32
  let v471 : BitVec 1 := Scalar.cmpi .slt v467 c0_i32_274
  let v472 : BitVec 1 := Scalar.xori v470 v471
  let c0_i32_272 : BitVec 32 := 0#32
  let v469 : BitVec 1 := Scalar.cmpi .ne v468 c0_i32_272
  let v473 : BitVec 1 := Scalar.andi v472 v469
  let v474 : BitVec 32 := Scalar.addi v468 v467
  let v475 : BitVec 32 := Scalar.select v473 v474 v468
  let c1_i32_282 : BitVec 32 := 1#32
  let v480 : BitVec 32 := Scalar.muli v475 c1_i32_282
  let v481 : BitVec 32 := Scalar.addi v479 v480
  v481.toNat
def k0_dev8 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_300 : BitVec 32 := 8#32
  let v501 : BitVec 32 := Scalar.muli v2 c8_i32_300
  let v502 : BitVec 32 := Scalar.addi c0_i32_301 v501
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v503 : BitVec 32 := Scalar.muli v5 c4_i32_302
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_289 : BitVec 32 := 2#32
  let v490 : BitVec 32 := Scalar.addi v8 c2_i32_289
  let c4_i32_290 : BitVec 32 := 4#32
  let c0_i32_291 : BitVec 32 := 0#32
  let v491 : BitVec 1 := Scalar.cmpi .eq c4_i32_290 c0_i32_291
  let c1_i32_292 : BitVec 32 := 1#32
  let v492 : BitVec 32 := Scalar.select v491 c1_i32_292 c4_i32_290
  let v493 : BitVec 32 := Scalar.remsi v490 v492
  let c0_i32_294 : BitVec 32 := 0#32
  let v495 : BitVec 1 := Scalar.cmpi .slt v493 c0_i32_294
  let c0_i32_295 : BitVec 32 := 0#32
  let v496 : BitVec 1 := Scalar.cmpi .slt v492 c0_i32_295
  let v497 : BitVec 1 := Scalar.xori v495 v496
  let c0_i32_293 : BitVec 32 := 0#32
  let v494 : BitVec 1 := Scalar.cmpi .ne v493 c0_i32_293
  let v498 : BitVec 1 := Scalar.andi v497 v494
  let v499 : BitVec 32 := Scalar.addi v493 v492
  let v500 : BitVec 32 := Scalar.select v498 v499 v493
  let c1_i32_303 : BitVec 32 := 1#32
  let v505 : BitVec 32 := Scalar.muli v500 c1_i32_303
  let v506 : BitVec 32 := Scalar.addi v504 v505
  v506.toNat
def k0_dev9 (d0 : Dev nD) : Nat :=
  let c0_i32_321 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_320 : BitVec 32 := 8#32
  let v526 : BitVec 32 := Scalar.muli v2 c8_i32_320
  let v527 : BitVec 32 := Scalar.addi c0_i32_321 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_322 : BitVec 32 := 4#32
  let v528 : BitVec 32 := Scalar.muli v5 c4_i32_322
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v515 : BitVec 32 := Scalar.addi v8 c3_i32
  let c4_i32_310 : BitVec 32 := 4#32
  let c0_i32_311 : BitVec 32 := 0#32
  let v516 : BitVec 1 := Scalar.cmpi .eq c4_i32_310 c0_i32_311
  let c1_i32_312 : BitVec 32 := 1#32
  let v517 : BitVec 32 := Scalar.select v516 c1_i32_312 c4_i32_310
  let v518 : BitVec 32 := Scalar.remsi v515 v517
  let c0_i32_314 : BitVec 32 := 0#32
  let v520 : BitVec 1 := Scalar.cmpi .slt v518 c0_i32_314
  let c0_i32_315 : BitVec 32 := 0#32
  let v521 : BitVec 1 := Scalar.cmpi .slt v517 c0_i32_315
  let v522 : BitVec 1 := Scalar.xori v520 v521
  let c0_i32_313 : BitVec 32 := 0#32
  let v519 : BitVec 1 := Scalar.cmpi .ne v518 c0_i32_313
  let v523 : BitVec 1 := Scalar.andi v522 v519
  let v524 : BitVec 32 := Scalar.addi v518 v517
  let v525 : BitVec 32 := Scalar.select v523 v524 v518
  let c1_i32_323 : BitVec 32 := 1#32
  let v530 : BitVec 32 := Scalar.muli v525 c1_i32_323
  let v531 : BitVec 32 := Scalar.addi v529 v530
  v531.toNat
def k0_dev10 (d0 : Dev nD) : Nat :=
  let c0_i32_478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_459 : BitVec 32 := 0#32
  let v656 : BitVec 32 := Scalar.addi v2 c0_i32_459
  let c2_i32_460 : BitVec 32 := 2#32
  let c0_i32_461 : BitVec 32 := 0#32
  let v657 : BitVec 1 := Scalar.cmpi .eq c2_i32_460 c0_i32_461
  let c1_i32_462 : BitVec 32 := 1#32
  let v658 : BitVec 32 := Scalar.select v657 c1_i32_462 c2_i32_460
  let v659 : BitVec 32 := Scalar.remsi v656 v658
  let c0_i32_464 : BitVec 32 := 0#32
  let v661 : BitVec 1 := Scalar.cmpi .slt v659 c0_i32_464
  let c0_i32_465 : BitVec 32 := 0#32
  let v662 : BitVec 1 := Scalar.cmpi .slt v658 c0_i32_465
  let v663 : BitVec 1 := Scalar.xori v661 v662
  let c0_i32_463 : BitVec 32 := 0#32
  let v660 : BitVec 1 := Scalar.cmpi .ne v659 c0_i32_463
  let v664 : BitVec 1 := Scalar.andi v663 v660
  let v665 : BitVec 32 := Scalar.addi v659 v658
  let v666 : BitVec 32 := Scalar.select v664 v665 v659
  let c8_i32_477 : BitVec 32 := 8#32
  let v678 : BitVec 32 := Scalar.muli v666 c8_i32_477
  let v679 : BitVec 32 := Scalar.addi c0_i32_478 v678
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_466 : BitVec 32 := 1#32
  let v667 : BitVec 32 := Scalar.addi v5 c1_i32_466
  let c2_i32_467 : BitVec 32 := 2#32
  let c0_i32_468 : BitVec 32 := 0#32
  let v668 : BitVec 1 := Scalar.cmpi .eq c2_i32_467 c0_i32_468
  let c1_i32_469 : BitVec 32 := 1#32
  let v669 : BitVec 32 := Scalar.select v668 c1_i32_469 c2_i32_467
  let v670 : BitVec 32 := Scalar.remsi v667 v669
  let c0_i32_471 : BitVec 32 := 0#32
  let v672 : BitVec 1 := Scalar.cmpi .slt v670 c0_i32_471
  let c0_i32_472 : BitVec 32 := 0#32
  let v673 : BitVec 1 := Scalar.cmpi .slt v669 c0_i32_472
  let v674 : BitVec 1 := Scalar.xori v672 v673
  let c0_i32_470 : BitVec 32 := 0#32
  let v671 : BitVec 1 := Scalar.cmpi .ne v670 c0_i32_470
  let v675 : BitVec 1 := Scalar.andi v674 v671
  let v676 : BitVec 32 := Scalar.addi v670 v669
  let v677 : BitVec 32 := Scalar.select v675 v676 v670
  let c4_i32_479 : BitVec 32 := 4#32
  let v680 : BitVec 32 := Scalar.muli v677 c4_i32_479
  let v681 : BitVec 32 := Scalar.addi v679 v680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v682 : BitVec 32 := Scalar.muli v8 c1_i32_480
  let v683 : BitVec 32 := Scalar.addi v681 v682
  v683.toNat
def k0_dev11 (d0 : Dev nD) : Nat :=
  let c0_i32_506 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_487 : BitVec 32 := 1#32
  let v692 : BitVec 32 := Scalar.addi v2 c1_i32_487
  let c2_i32_488 : BitVec 32 := 2#32
  let c0_i32_489 : BitVec 32 := 0#32
  let v693 : BitVec 1 := Scalar.cmpi .eq c2_i32_488 c0_i32_489
  let c1_i32_490 : BitVec 32 := 1#32
  let v694 : BitVec 32 := Scalar.select v693 c1_i32_490 c2_i32_488
  let v695 : BitVec 32 := Scalar.remsi v692 v694
  let c0_i32_492 : BitVec 32 := 0#32
  let v697 : BitVec 1 := Scalar.cmpi .slt v695 c0_i32_492
  let c0_i32_493 : BitVec 32 := 0#32
  let v698 : BitVec 1 := Scalar.cmpi .slt v694 c0_i32_493
  let v699 : BitVec 1 := Scalar.xori v697 v698
  let c0_i32_491 : BitVec 32 := 0#32
  let v696 : BitVec 1 := Scalar.cmpi .ne v695 c0_i32_491
  let v700 : BitVec 1 := Scalar.andi v699 v696
  let v701 : BitVec 32 := Scalar.addi v695 v694
  let v702 : BitVec 32 := Scalar.select v700 v701 v695
  let c8_i32_505 : BitVec 32 := 8#32
  let v714 : BitVec 32 := Scalar.muli v702 c8_i32_505
  let v715 : BitVec 32 := Scalar.addi c0_i32_506 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_494 : BitVec 32 := 0#32
  let v703 : BitVec 32 := Scalar.addi v5 c0_i32_494
  let c2_i32_495 : BitVec 32 := 2#32
  let c0_i32_496 : BitVec 32 := 0#32
  let v704 : BitVec 1 := Scalar.cmpi .eq c2_i32_495 c0_i32_496
  let c1_i32_497 : BitVec 32 := 1#32
  let v705 : BitVec 32 := Scalar.select v704 c1_i32_497 c2_i32_495
  let v706 : BitVec 32 := Scalar.remsi v703 v705
  let c0_i32_499 : BitVec 32 := 0#32
  let v708 : BitVec 1 := Scalar.cmpi .slt v706 c0_i32_499
  let c0_i32_500 : BitVec 32 := 0#32
  let v709 : BitVec 1 := Scalar.cmpi .slt v705 c0_i32_500
  let v710 : BitVec 1 := Scalar.xori v708 v709
  let c0_i32_498 : BitVec 32 := 0#32
  let v707 : BitVec 1 := Scalar.cmpi .ne v706 c0_i32_498
  let v711 : BitVec 1 := Scalar.andi v710 v707
  let v712 : BitVec 32 := Scalar.addi v706 v705
  let v713 : BitVec 32 := Scalar.select v711 v712 v706
  let c4_i32_507 : BitVec 32 := 4#32
  let v716 : BitVec 32 := Scalar.muli v713 c4_i32_507
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v718 : BitVec 32 := Scalar.muli v8 c1_i32_508
  let v719 : BitVec 32 := Scalar.addi v717 v718
  v719.toNat
def k0_dev12 (d0 : Dev nD) : Nat :=
  let c0_i32_534 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_515 : BitVec 32 := 1#32
  let v728 : BitVec 32 := Scalar.addi v2 c1_i32_515
  let c2_i32_516 : BitVec 32 := 2#32
  let c0_i32_517 : BitVec 32 := 0#32
  let v729 : BitVec 1 := Scalar.cmpi .eq c2_i32_516 c0_i32_517
  let c1_i32_518 : BitVec 32 := 1#32
  let v730 : BitVec 32 := Scalar.select v729 c1_i32_518 c2_i32_516
  let v731 : BitVec 32 := Scalar.remsi v728 v730
  let c0_i32_520 : BitVec 32 := 0#32
  let v733 : BitVec 1 := Scalar.cmpi .slt v731 c0_i32_520
  let c0_i32_521 : BitVec 32 := 0#32
  let v734 : BitVec 1 := Scalar.cmpi .slt v730 c0_i32_521
  let v735 : BitVec 1 := Scalar.xori v733 v734
  let c0_i32_519 : BitVec 32 := 0#32
  let v732 : BitVec 1 := Scalar.cmpi .ne v731 c0_i32_519
  let v736 : BitVec 1 := Scalar.andi v735 v732
  let v737 : BitVec 32 := Scalar.addi v731 v730
  let v738 : BitVec 32 := Scalar.select v736 v737 v731
  let c8_i32_533 : BitVec 32 := 8#32
  let v750 : BitVec 32 := Scalar.muli v738 c8_i32_533
  let v751 : BitVec 32 := Scalar.addi c0_i32_534 v750
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_522 : BitVec 32 := 1#32
  let v739 : BitVec 32 := Scalar.addi v5 c1_i32_522
  let c2_i32_523 : BitVec 32 := 2#32
  let c0_i32_524 : BitVec 32 := 0#32
  let v740 : BitVec 1 := Scalar.cmpi .eq c2_i32_523 c0_i32_524
  let c1_i32_525 : BitVec 32 := 1#32
  let v741 : BitVec 32 := Scalar.select v740 c1_i32_525 c2_i32_523
  let v742 : BitVec 32 := Scalar.remsi v739 v741
  let c0_i32_527 : BitVec 32 := 0#32
  let v744 : BitVec 1 := Scalar.cmpi .slt v742 c0_i32_527
  let c0_i32_528 : BitVec 32 := 0#32
  let v745 : BitVec 1 := Scalar.cmpi .slt v741 c0_i32_528
  let v746 : BitVec 1 := Scalar.xori v744 v745
  let c0_i32_526 : BitVec 32 := 0#32
  let v743 : BitVec 1 := Scalar.cmpi .ne v742 c0_i32_526
  let v747 : BitVec 1 := Scalar.andi v746 v743
  let v748 : BitVec 32 := Scalar.addi v742 v741
  let v749 : BitVec 32 := Scalar.select v747 v748 v742
  let c4_i32_535 : BitVec 32 := 4#32
  let v752 : BitVec 32 := Scalar.muli v749 c4_i32_535
  let v753 : BitVec 32 := Scalar.addi v751 v752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v754 : BitVec 32 := Scalar.muli v8 c1_i32_536
  let v755 : BitVec 32 := Scalar.addi v753 v754
  v755.toNat
def k0_off1 (d0 : Dev nD) : Fin 3 → Nat :=
  let c2_i32_618 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v818 : BitVec 32 := Scalar.muli c2_i32_618 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v819 : BitVec 32 := Scalar.addi v818 v5
  let c4_i32_623 : BitVec 32 := 4#32
  let v822 : BitVec 32 := Scalar.muli v819 c4_i32_623
  let v823 : Index := Scalar.indexCast v822
  let c0_624 : Index := 0#32
  let c0_625 : Index := 0#32
  ![v823.toNat, 0, 0]
def k0_off2 (d0 : Dev nD) (c0_i32_626 : BitVec 32) (c1_i32_634 : BitVec 32) : Fin 3 → Nat :=
  let c2_i32_633 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v827 : BitVec 32 := Scalar.addi v2 c0_i32_626
  let c2_i32_627 : BitVec 32 := 2#32
  let c0_i32_628 : BitVec 32 := 0#32
  let v828 : BitVec 1 := Scalar.cmpi .eq c2_i32_627 c0_i32_628
  let c1_i32_629 : BitVec 32 := 1#32
  let v829 : BitVec 32 := Scalar.select v828 c1_i32_629 c2_i32_627
  let v830 : BitVec 32 := Scalar.remsi v827 v829
  let c0_i32_631 : BitVec 32 := 0#32
  let v832 : BitVec 1 := Scalar.cmpi .slt v830 c0_i32_631
  let c0_i32_632 : BitVec 32 := 0#32
  let v833 : BitVec 1 := Scalar.cmpi .slt v829 c0_i32_632
  let v834 : BitVec 1 := Scalar.xori v832 v833
  let c0_i32_630 : BitVec 32 := 0#32
  let v831 : BitVec 1 := Scalar.cmpi .ne v830 c0_i32_630
  let v835 : BitVec 1 := Scalar.andi v834 v831
  let v836 : BitVec 32 := Scalar.addi v830 v829
  let v837 : BitVec 32 := Scalar.select v835 v836 v830
  let v838 : BitVec 32 := Scalar.muli c2_i32_633 v837
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v839 : BitVec 32 := Scalar.addi v5 c1_i32_634
  let c2_i32_635 : BitVec 32 := 2#32
  let c0_i32_636 : BitVec 32 := 0#32
  let v840 : BitVec 1 := Scalar.cmpi .eq c2_i32_635 c0_i32_636
  let c1_i32_637 : BitVec 32 := 1#32
  let v841 : BitVec 32 := Scalar.select v840 c1_i32_637 c2_i32_635
  let v842 : BitVec 32 := Scalar.remsi v839 v841
  let c0_i32_639 : BitVec 32 := 0#32
  let v844 : BitVec 1 := Scalar.cmpi .slt v842 c0_i32_639
  let c0_i32_640 : BitVec 32 := 0#32
  let v845 : BitVec 1 := Scalar.cmpi .slt v841 c0_i32_640
  let v846 : BitVec 1 := Scalar.xori v844 v845
  let c0_i32_638 : BitVec 32 := 0#32
  let v843 : BitVec 1 := Scalar.cmpi .ne v842 c0_i32_638
  let v847 : BitVec 1 := Scalar.andi v846 v843
  let v848 : BitVec 32 := Scalar.addi v842 v841
  let v849 : BitVec 32 := Scalar.select v847 v848 v842
  let v850 : BitVec 32 := Scalar.addi v838 v849
  let c4_i32_645 : BitVec 32 := 4#32
  let v853 : BitVec 32 := Scalar.muli v850 c4_i32_645
  let v854 : Index := Scalar.indexCast v853
  let c0_646 : Index := 0#32
  let c0_647 : Index := 0#32
  ![v854.toNat, 0, 0]
def k0_off2_at (r : Fin 3) : BitVec 32 × BitVec 32 :=
  if r.val < 1 then
    (0#32, 1#32)
  else
    if r.val < 2 then
      (1#32, 0#32)
    else
      (1#32, 1#32)
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S16x1x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x4x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x1x16x64 : Shape := ⟨4, ![16, 1, 16, 64]⟩
abbrev S512x16x16x64 : Shape := ⟨4, ![512, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x16x1x2048 : Shape := ⟨4, ![16, 16, 1, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S512x16x16x64, .bf16⟩
  | .hbm, ⟨2, _⟩ => ⟨S512x16x16x64, .bf16⟩
  | .hbm, ⟨3, _⟩ => ⟨S16x128, .i32⟩
  | .hbm, ⟨4, _⟩ => ⟨S16, .i32⟩
  | .hbm, ⟨5, _⟩ => ⟨S16x1x16x64, .f32⟩
  | .hbm, ⟨6, _⟩ => ⟨S512x16x16x64, .f32⟩
  | .hbm, ⟨7, _⟩ => ⟨S512x16x16x64, .f32⟩
  | .hbm, ⟨8, _⟩ => ⟨S_, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S16x128, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x128x16x16x64, .f32⟩
  | .hbm, ⟨17, _⟩ => ⟨S16x2048x16x64, .f32⟩
  | .hbm, ⟨18, _⟩ => ⟨S_, .i32⟩
  | .hbm, ⟨19, _⟩ => ⟨S16x128, .i32⟩
  | .hbm, ⟨20, _⟩ => ⟨S16x128, .i1⟩
  | .hbm, ⟨21, _⟩ => ⟨S_, .i32⟩
  | .hbm, ⟨22, _⟩ => ⟨S16x128, .i32⟩
  | .hbm, ⟨23, _⟩ => ⟨S16x128, .i32⟩
  | .hbm, ⟨24, _⟩ => ⟨S16x128, .i32⟩
  | .hbm, ⟨25, _⟩ => ⟨S16x128x1, .i32⟩
  | .hbm, ⟨26, _⟩ => ⟨S16x128x16x16x64, .f32⟩
  | .hbm, ⟨27, _⟩ => ⟨S16x2048x16x64, .f32⟩
  | .hbm, ⟨28, _⟩ => ⟨S2048, .i32⟩
  | .hbm, ⟨29, _⟩ => ⟨S1x2048, .i32⟩
  | .hbm, ⟨30, _⟩ => ⟨S_, .i32⟩
  | .hbm, ⟨31, _⟩ => ⟨S_, .i32⟩
  | .hbm, ⟨32, _⟩ => ⟨S1x2048, .i32⟩
  | .hbm, ⟨33, _⟩ => ⟨S1x2048, .i32⟩
  | .hbm, ⟨34, _⟩ => ⟨S1x2048, .i32⟩
  | .hbm, ⟨35, _⟩ => ⟨S_, .i32⟩
  | .hbm, ⟨36, _⟩ => ⟨S1x2048, .i32⟩
  | .hbm, ⟨37, _⟩ => ⟨S1x2048, .i1⟩
  | .hbm, ⟨38, _⟩ => ⟨S1x2048, .i32⟩
  | .hbm, ⟨39, _⟩ => ⟨S1x2048, .i32⟩
  | .hbm, ⟨40, _⟩ => ⟨S_, .i32⟩
  | .hbm, ⟨41, _⟩ => ⟨S1x2048, .i32⟩
  | .hbm, ⟨42, _⟩ => ⟨S1x2048, .i1⟩
  | .hbm, ⟨43, _⟩ => ⟨S1x2048, .i1⟩
  | .hbm, ⟨44, _⟩ => ⟨S_, .i32⟩
  | .hbm, ⟨45, _⟩ => ⟨S1x2048, .i32⟩
  | .hbm, ⟨46, _⟩ => ⟨S1x2048, .i32⟩
  | .hbm, ⟨47, _⟩ => ⟨S1x2048, .i32⟩
  | .hbm, ⟨48, _⟩ => ⟨S16x1, .i32⟩
  | .hbm, ⟨49, _⟩ => ⟨S16x2048, .i32⟩
  | .hbm, ⟨50, _⟩ => ⟨S16x2048, .i32⟩
  | .hbm, ⟨51, _⟩ => ⟨S16x2048, .i1⟩
  | .hbm, ⟨52, _⟩ => ⟨S16x16x1x2048, .f32⟩
  | .hbm, ⟨53, _⟩ => ⟨S_, .f32⟩
  | .hbm, ⟨54, _⟩ => ⟨S16x16x1x2048, .f32⟩
  | .hbm, ⟨55, _⟩ => ⟨S16x16x1x2048, .f32⟩
  | .hbm, ⟨56, _⟩ => ⟨S16x1x1x2048, .i1⟩
  | .hbm, ⟨57, _⟩ => ⟨S_, .f32⟩
  | .hbm, ⟨58, _⟩ => ⟨S_, .f32⟩
  | .hbm, ⟨59, _⟩ => ⟨S16x16x1x2048, .i1⟩
  | .hbm, ⟨60, _⟩ => ⟨S16x16x1x2048, .f32⟩
  | .hbm, ⟨61, _⟩ => ⟨S16x16x1x2048, .f32⟩
  | .hbm, ⟨62, _⟩ => ⟨S_, .f32⟩
  | .hbm, ⟨63, _⟩ => ⟨S16x16x1, .f32⟩
  | .hbm, ⟨64, _⟩ => ⟨S16x16x1x1, .f32⟩
  | .hbm, ⟨65, _⟩ => ⟨S16x16x1x2048, .f32⟩
  | .hbm, ⟨66, _⟩ => ⟨S16x16x1x2048, .f32⟩
  | .hbm, ⟨67, _⟩ => ⟨S16x16x1x2048, .f32⟩
  | .hbm, ⟨68, _⟩ => ⟨S_, .f32⟩
  | .hbm, ⟨69, _⟩ => ⟨S16x16x1, .f32⟩
  | .hbm, ⟨70, _⟩ => ⟨S16x16x1x1, .f32⟩
  | .hbm, ⟨71, _⟩ => ⟨S16x16x1x2048, .f32⟩
  | .hbm, ⟨72, _⟩ => ⟨S16x16x1x2048, .f32⟩
  | .hbm, ⟨73, _⟩ => ⟨S16x16x64x1, .f32⟩
  | .hbm, ⟨74, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩

abbrev nD : Nat := 1
abbrev τ : Topo := Topo.v7x

variable {F : FTy → Type} [FloatOps F]
-- ==== Proof.Mesh.lean ====
/-
The mesh, the cells and the slots of the paged-attention kernel.

Device `c` of the 2 x 2 x 4 mesh is at position `c % 4` of its z ring and in plane `c / 4`. It sends along z to the three other
devices of its ring (`zp j`), and across x and y to the device at its own z in each of the three other planes (`xp j`). A
communication buffer is four slots of shape 4 x 16 x 128 along its first axis: slot 0 is what the device sends, slot `j + 1`
what its peer `j` sends it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Kit
public import Idealize.ShloMosaic.Lib.Rounds
public import Idealize.ShloMosaic.Lib.Ring
public import Idealize.ShloMosaic.Lib.Tactic

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Peers -/

/-- The device `j + 1` places further along `c`'s z ring. -/
def zp (j : Fin 3) (c : Dev nD) : Dev nD := ⟨4 * (c.val / 4) + (c.val % 4 + (j.val + 1)) % 4, by revert c j; decide +kernel⟩
/-- The device at `c`'s place in the ring of the plane that differs from `c`'s by `j + 1`. -/
def xp (j : Fin 3) (c : Dev nD) : Dev nD := ⟨4 * ((c.val / 4) ^^^ (j.val + 1)) + c.val % 4, by revert c j; decide +kernel⟩

/-- The opposite step along the ring: `zp (op j)` undoes `zp j`. -/
def op (j : Fin 3) : Fin 3 := ⟨2 - j.val, by omega⟩
theorem op_op (j : Fin 3) : op (op j) = j := by revert j; decide
theorem zp_zp (j : Fin 3) (c : Dev nD) : zp (op j) (zp j c) = c := by revert c j; decide
theorem zp_zp' (j : Fin 3) (c : Dev nD) : zp j (zp (op j) c) = c := by revert c j; decide
theorem xp_xp (j : Fin 3) (c : Dev nD) : xp j (xp j c) = c := by revert c j; decide +kernel

/-- A step along the ring, as a permutation of the devices. -/
def zE (j : Fin 3) : Dev nD ≃ Dev nD := ⟨zp j, zp (op j), zp_zp j, zp_zp' j⟩
/-- A step between planes, as a permutation of the devices. -/
def xE (j : Fin 3) : Dev nD ≃ Dev nD := ⟨xp j, xp j, xp_xp j, xp_xp j⟩

abbrev i0 : grid0.Coords := grid0.coords t0_0
theorem cond1 : k0_cond1 i0 = 1#1 := by decide +kernel
theorem cond2 : k0_cond2 i0 = 1#1 := by decide +kernel

theorem dev1_val : ∀ c : Dev nD, k0_dev1 c = 4 * (c.val / 4) + (c.val % 4 + 1) % 4 := by decide +kernel
theorem dev2_val : ∀ c : Dev nD, k0_dev2 c = 4 * (c.val / 4) + (c.val % 4 + 2) % 4 := by decide +kernel
theorem dev3_val : ∀ c : Dev nD, k0_dev3 c = 4 * (c.val / 4) + (c.val % 4 + 3) % 4 := by decide +kernel
theorem dev4_val : ∀ c : Dev nD, k0_dev4 c = (xp 0 c).val := by decide +kernel
theorem dev5_val : ∀ c : Dev nD, k0_dev5 c = (xp 1 c).val := by decide +kernel
theorem dev6_val : ∀ c : Dev nD, k0_dev6 c = (xp 2 c).val := by decide +kernel
theorem dev7_val : ∀ c : Dev nD, k0_dev7 c = 4 * (c.val / 4) + (c.val % 4 + 1) % 4 := by decide +kernel
theorem dev8_val : ∀ c : Dev nD, k0_dev8 c = 4 * (c.val / 4) + (c.val % 4 + 2) % 4 := by decide +kernel
theorem dev9_val : ∀ c : Dev nD, k0_dev9 c = 4 * (c.val / 4) + (c.val % 4 + 3) % 4 := by decide +kernel
theorem dev10_val : ∀ c : Dev nD, k0_dev10 c = (xp 0 c).val := by decide +kernel
theorem dev11_val : ∀ c : Dev nD, k0_dev11 c = (xp 1 c).val := by decide +kernel
theorem dev12_val : ∀ c : Dev nD, k0_dev12 c = (xp 2 c).val := by decide +kernel

theorem dev1 (c : Dev nD) (h : k0_dev1 c < nD) : (⟨k0_dev1 c, h⟩ : Dev nD) = zp 0 c := Fin.ext (dev1_val c)
theorem dev2 (c : Dev nD) (h : k0_dev2 c < nD) : (⟨k0_dev2 c, h⟩ : Dev nD) = zp 1 c := Fin.ext (dev2_val c)
theorem dev3 (c : Dev nD) (h : k0_dev3 c < nD) : (⟨k0_dev3 c, h⟩ : Dev nD) = zp 2 c := Fin.ext (dev3_val c)
theorem dev4 (c : Dev nD) (h : k0_dev4 c < nD) : (⟨k0_dev4 c, h⟩ : Dev nD) = xp 0 c := Fin.ext (dev4_val c)
theorem dev5 (c : Dev nD) (h : k0_dev5 c < nD) : (⟨k0_dev5 c, h⟩ : Dev nD) = xp 1 c := Fin.ext (dev5_val c)
theorem dev6 (c : Dev nD) (h : k0_dev6 c < nD) : (⟨k0_dev6 c, h⟩ : Dev nD) = xp 2 c := Fin.ext (dev6_val c)
theorem dev7 (c : Dev nD) (h : k0_dev7 c < nD) : (⟨k0_dev7 c, h⟩ : Dev nD) = zp 0 c := Fin.ext (dev7_val c)
theorem dev8 (c : Dev nD) (h : k0_dev8 c < nD) : (⟨k0_dev8 c, h⟩ : Dev nD) = zp 1 c := Fin.ext (dev8_val c)
theorem dev9 (c : Dev nD) (h : k0_dev9 c < nD) : (⟨k0_dev9 c, h⟩ : Dev nD) = zp 2 c := Fin.ext (dev9_val c)
theorem dev10 (c : Dev nD) (h : k0_dev10 c < nD) : (⟨k0_dev10 c, h⟩ : Dev nD) = xp 0 c := Fin.ext (dev10_val c)
theorem dev11 (c : Dev nD) (h : k0_dev11 c < nD) : (⟨k0_dev11 c, h⟩ : Dev nD) = xp 1 c := Fin.ext (dev11_val c)
theorem dev12 (c : Dev nD) (h : k0_dev12 c < nD) : (⟨k0_dev12 c, h⟩ : Dev nD) = xp 2 c := Fin.ext (dev12_val c)

/-! ## Slots -/

/-- The buffer of the z exchange and that of the exchange between planes. -/
abbrev zM : Memref sig .tc .vmem S4x4x16x128 .f32 := Memref.whole cc0_scratch0
abbrev xM : Memref sig .tc .vmem S4x4x16x128 .f32 := Memref.whole cc0_scratch1

/-- Contents of a communication buffer. -/
abbrev CBuf (F : FTy → Type) : Type := (⟨S4x4x16x128, .f32⟩ : BufTy).Contents (Elt F)

theorem inb_slot (k : Fin 4) : ∀ a, (![k.val, 0, 0, 0] : Fin 4 → Nat) a + S1x4x16x128.size a ≤ S4x4x16x128.size a := by
  revert k; decide +kernel
theorem inb_o (k : Fin 4) : ∀ a, (![k.val, 0, 0, 0] : Fin 4 → Nat) a + S1x4x16x64.size a ≤ S4x4x16x128.size a := by
  revert k; decide +kernel
theorem inb_m (k : Fin 4) : ∀ a, (![k.val, 0, 0, 64] : Fin 4 → Nat) a + S1x4x16x1.size a ≤ S4x4x16x128.size a := by
  revert k; decide +kernel
theorem inb_l (k : Fin 4) : ∀ a, (![k.val, 0, 0, 65] : Fin 4 → Nat) a + S1x4x16x1.size a ≤ S4x4x16x128.size a := by
  revert k; decide +kernel

/-- All of slot `k`; its 64 lanes of values; its lane of maxima; its lane of sums. -/
abbrev rS (k : Fin 4) : Rect S4x4x16x128 := Rect.unit (s := S4x4x16x128) ![k.val, 0, 0, 0] S1x4x16x128.size (inb_slot k)
abbrev rO (k : Fin 4) : Rect S4x4x16x128 := Rect.unit (s := S4x4x16x128) ![k.val, 0, 0, 0] S1x4x16x64.size (inb_o k)
abbrev rX (k : Fin 4) : Rect S4x4x16x128 := Rect.unit (s := S4x4x16x128) ![k.val, 0, 0, 64] S1x4x16x1.size (inb_m k)
abbrev rL (k : Fin 4) : Rect S4x4x16x128 := Rect.unit (s := S4x4x16x128) ![k.val, 0, 0, 65] S1x4x16x1.size (inb_l k)

abbrev slot (M : Memref sig .tc .vmem S4x4x16x128 .f32) (k : Fin 4) : Memref sig .tc .vmem S4x16x128 .f32 :=
  (M.slice (rS k) (fun _ => rfl)).squeeze S4x16x128 squeezes_S1x4x16x128_S4x16x128

/-- The elements of slot `k`. -/
def slotSet (k : Fin 4) : Finset S4x4x16x128.Idx := Finset.univ.filter fun i => (i 0).val = k.val

theorem mem_slotSet {k : Fin 4} {i : S4x4x16x128.Idx} : i ∈ slotSet k ↔ (i 0).val = k.val := by simp [slotSet]

theorem slotSet_eq (k : Fin 4) : slotSet k = (rS k).set := by
  ext i
  rw [Rect.mem_set_unit, mem_slotSet]
  constructor
  · intro h a
    have := (i a).isLt
    fin_cases a <;> simp_all
  · intro h
    have := h 0
    simp at this; omega

theorem slotSet_disjoint (j k : Fin 4) (h : j ≠ k) : Disjoint (slotSet j) (slotSet k) := by
  rw [Finset.disjoint_left]
  intro i hi hi'
  rw [mem_slotSet] at hi hi'
  exact h (Fin.ext (hi.symm.trans hi'))

theorem slotSet_cover : Finset.univ.biUnion slotSet = Finset.univ := by
  ext i
  simp only [Finset.mem_biUnion, Finset.mem_univ, true_and, iff_true]
  exact ⟨⟨(i 0).val, (i 0).isLt⟩, mem_slotSet.mpr rfl⟩

theorem slot_set_z (k : Fin 4) : (slot zM k).view.set = slotSet k := by
  rw [slotSet_eq]
  refine (View.set_reshape (v := (zM.slice _ _).view) _).trans ?_
  exact View.set_slice_whole _ _
theorem slot_set_x (k : Fin 4) : (slot xM k).view.set = slotSet k := by
  rw [slotSet_eq]
  refine (View.set_reshape (v := (xM.slice _ _).view) _).trans ?_
  exact View.set_slice_whole _ _

/-- What a load of a communication buffer at `r` reads. -/
def rd (r : Rect S4x4x16x128) (f : CBuf F) : r.shape.Idx → F .f32 := fun y => f (r.emb y)

/-- Contents `g` hold in slot `k` what `f` holds in slot 0, at every lane. -/
def Same (k : Fin 4) (g f : CBuf F) : Prop := ∀ y : S1x4x16x128.Idx, g ((rS k).emb y) = f ((rS 0).emb y)

omit [FloatOps F] in
theorem same_congr {k : Fin 4} {g g' f : CBuf F} (h : Same k g f) (hg : ∀ i ∈ slotSet k, g' i = g i) : Same k g' f := fun y => by
  rw [hg _ (by rw [slotSet_eq]; exact (rS k).mem_set.mpr fun a => ⟨(y a).val, (y a).isLt, rfl⟩)]; exact h y

omit [FloatOps F] in
theorem same_zero (f : CBuf F) : Same 0 f f := fun _ => rfl

/-- The index of a slot at row, sequence, head and lane. -/
def at4 (a : Fin 1) (b : Fin 4) (c : Fin 16) (d : Fin 128) : S1x4x16x128.Idx := fun i => match i with
  | ⟨0, _⟩ => a
  | ⟨1, _⟩ => b
  | ⟨2, _⟩ => c
  | ⟨3, _⟩ => d

omit [FloatOps F] in
theorem rd_o {k : Fin 4} {g f : CBuf F} (h : Same k g f) : rd (rO k) g = rd (rO 0) f := by
  funext y
  have := h (at4 (y 0) (y 1) (y 2) ⟨(y 3).val, lt_trans (y 3).isLt (show 64 < 128 by decide)⟩)
  unfold rd
  convert this using 2 <;> (funext a; apply Fin.ext; fin_cases a <;> simp [Rect.emb_apply, at4])
omit [FloatOps F] in
theorem rd_x {k : Fin 4} {g f : CBuf F} (h : Same k g f) : rd (rX k) g = rd (rX 0) f := by
  funext y
  have h3 : (y 3).val = 0 := by have := (y 3).isLt; simpa using this
  have := h (at4 (y 0) (y 1) (y 2) ⟨64, by decide⟩)
  unfold rd
  convert this using 2 <;> (funext a; apply Fin.ext; fin_cases a <;> simp [Rect.emb_apply, at4, h3])
omit [FloatOps F] in
theorem rd_l {k : Fin 4} {g f : CBuf F} (h : Same k g f) : rd (rL k) g = rd (rL 0) f := by
  funext y
  have h3 : (y 3).val = 0 := by have := (y 3).isLt; simpa using this
  have := h (at4 (y 0) (y 1) (y 2) ⟨65, by decide⟩)
  unfold rd
  convert this using 2 <;> (funext a; apply Fin.ext; fin_cases a <;> simp [Rect.emb_apply, at4, h3])

omit [FloatOps F] in
/-- A slot written with what slot 0 reads holds what slot 0 holds. -/
theorem same_write_z (k : Fin 4) (fd fs : CBuf F) :
    Same k ((slot zM k).view.write (Elt F) fd ((slot zM 0).view.read (Elt F) fs) Finset.univ) fs := fun y => by
  obtain ⟨x, rfl⟩ := (Shape.reshapeEquiv (s := S1x4x16x128) (s' := S4x16x128) (by decide)).surjective y
  exact View.write_emb_of_mem (v := (slot zM k).view) fd _ (Finset.mem_univ x)
omit [FloatOps F] in
theorem same_write_x (k : Fin 4) (fd fs : CBuf F) :
    Same k ((slot xM k).view.write (Elt F) fd ((slot xM 0).view.read (Elt F) fs) Finset.univ) fs := fun y => by
  obtain ⟨x, rfl⟩ := (Shape.reshapeEquiv (s := S1x4x16x128) (s' := S4x16x128) (by decide)).surjective y
  exact View.write_emb_of_mem (v := (slot xM k).view) fd _ (Finset.mem_univ x)

/-! ## Shares -/

/-- The share a device keeps of its slot 0, and the three it lends. -/
abbrev sh0 : PosShare TreeShare := fullShare.right.right
abbrev shJ : Fin 3 → PosShare TreeShare
  | 0 => fullShare.left.left
  | 1 => fullShare.left.right
  | 2 => fullShare.right.left

end Cert.PagedProof
end
-- ==== Proof.Sched.lean ====
/-
The protocol of the two exchanges: who pays which semaphore with what, and how the levels order the waits.

A device's barrier is signalled once by each of the six devices it sends to, each granting the slot the device will write. A
copy pays the sender's send semaphore with the share of slot 0 that it borrowed, and the receiver's receive semaphore with the slot,
holding the sender's partial result.
-/
module

public import proofs.«01_k».proof.Proof.Mesh

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources and cells -/

abbrev UU : Type := UR sig nD τ × URounds (GSem nD τ sig) (Fin 6)

local notation "𝕄" => MT nD τ sig Unit (Elt F) ℕ UU ℕ

abbrev EP : Emb (UR sig nD τ) (MT nD τ sig Unit (Elt F) ℕ UU ℕ) := embL
abbrev ER : Emb (URounds (GSem nD τ sig) (Fin 6)) (MT nD τ sig Unit (Elt F) ℕ UU ℕ) := embR

abbrev barS : Sem sig := (SemArray.scalar (sig.barrier 0 rfl) : Sems sig S_).sem
/-- The semaphore of kind `k` (z send, z receive, plane send, plane receive) of copy `j`. -/
def ds (k : Fin 4) (j : Fin 3) : DmaSem sig := (⟨6 + 3 * k.val + j.val, by omega⟩ : Fin 18)

abbrev bcell (c : Dev nD) : GSem nD τ sig := ((c : Thread nD τ), .reg barS)
abbrev dcell (k : Fin 4) (j : Fin 3) (c : Dev nD) : GSem nD τ sig := ((c : Thread nD τ), .dma (ds k j))

abbrev N : ℕ := (slot zM 0).view.dmaCredit
theorem N_pos : 0 < N := View.dmaCredit_pos _ (by decide)

/-- What each device sends along z (values, maxima, sums) and between planes (merged values). -/
structure Vals (F : FTy → Type) where
  O : Dev nD → (rO 0).shape.Idx → F .f32
  M : Dev nD → (rX 0).shape.Idx → F .f32
  L : Dev nD → (rL 0).shape.Idx → F .f32
  X : Dev nD → (rO 0).shape.Idx → F .f32

def ZOK (V : Vals F) (k : Fin 4) (s : Dev nD) (f : CBuf F) : Prop :=
  rd (rO k) f = V.O s ∧ rd (rX k) f = V.M s ∧ rd (rL k) f = V.L s
def XOK (V : Vals F) (k : Fin 4) (s : Dev nD) (f : CBuf F) : Prop := rd (rO k) f = V.X s

omit [FloatOps F] in
theorem ZOK.same {V : Vals F} {k : Fin 4} {s : Dev nD} {f g : CBuf F} (h : ZOK V 0 s f) (hs : Same k g f) : ZOK V k s g :=
  ⟨(rd_o hs).trans h.1, (rd_x hs).trans h.2.1, (rd_l hs).trans h.2.2⟩
omit [FloatOps F] in
theorem XOK.same {V : Vals F} {k : Fin 4} {s : Dev nD} {f g : CBuf F} (h : XOK V 0 s f) (hs : Same k g f) : XOK V k s g :=
  (rd_o hs).trans h

def zPts (c : Dev nD) (k : Fin 4) (q : PosShare TreeShare) (f : CBuf F) : sProp 𝕄 :=
  zM.view.loc (c : Thread nD τ) ↦[slotSet k]{q} f
def xPts (c : Dev nD) (k : Fin 4) (q : PosShare TreeShare) (f : CBuf F) : sProp 𝕄 :=
  xM.view.loc (c : Thread nD τ) ↦[slotSet k]{q} f

omit [FloatOps F] in
instance zPts_storable (c : Dev nD) (k) (q) (f) : BI.Storable (upEmb : UEmb _ 𝕄) (zPts (F := F) c k q f) := by unfold zPts; infer_instance
omit [FloatOps F] in
instance xPts_storable (c : Dev nD) (k) (q) (f) : BI.Storable (upEmb : UEmb _ 𝕄) (xPts (F := F) c k q f) := by unfold xPts; infer_instance

/-! ## The schedule -/

/-- The slot that a copy with index `j` writes. -/
abbrev nx (j : Fin 3) : Fin 4 := j.succ

def dz (j : Fin 3) : Fin 6 := ⟨j.val, by omega⟩
def dx (j : Fin 3) : Fin 6 := ⟨3 + j.val, by omega⟩

def barZ (c : Dev nD) (j : Fin 3) : sProp 𝕄 := iprop((∃ f, zPts (zp j c) (nx j) fullShare f) ∗ reached ER (dcell 1 j (zp j c)) 0)
def barX (c : Dev nD) (j : Fin 3) : sProp 𝕄 := iprop((∃ f, xPts (xp j c) (nx j) fullShare f) ∗ reached ER (dcell 3 j (xp j c)) 0)
def sendZ (c : Dev nD) (j : Fin 3) : sProp 𝕄 := iprop(∃ f, zPts c 0 (shJ j) f)
def sendX (c : Dev nD) (j : Fin 3) : sProp 𝕄 := iprop(∃ f, xPts c 0 (shJ j) f)
def recvZ (V : Vals F) (c : Dev nD) (j : Fin 3) : sProp 𝕄 := iprop(∃ f, ⌜ZOK V (nx j) (zp (op j) c) f⌝ ∗ zPts c (nx j) fullShare f)
def recvX (V : Vals F) (c : Dev nD) (j : Fin 3) : sProp 𝕄 := iprop(∃ f, ⌜XOK V (nx j) (xp j c) f⌝ ∗ xPts c (nx j) fullShare f)

def barPay (c : Dev nD) (d : Fin 6) : sProp 𝕄 :=
  if h : d.val < 3 then barZ c ⟨d.val, h⟩ else barX c ⟨d.val - 3, by omega⟩
def dmaPay (V : Vals F) (c : Dev nD) (s : Fin 18) : sProp 𝕄 :=
  if s.val < 6 then iprop(emp)
  else if s.val < 9 then sendZ c ⟨s.val % 3, by omega⟩
  else if s.val < 12 then recvZ V c ⟨s.val % 3, by omega⟩
  else if s.val < 15 then sendX c ⟨s.val % 3, by omega⟩
  else recvX V c ⟨s.val % 3, by omega⟩
def pay (V : Vals F) (c : Dev nD) (d : Fin 6) : SemLoc sig → sProp 𝕄
  | .reg _ => barPay c d
  | .dma s => dmaPay V c s
def due : SemLoc sig → Finset (Fin 6)
  | .reg _ => Finset.univ
  | .dma s => if (s : Fin 18).val < 6 then ∅ else {0}
def amt : SemLoc sig → ℕ
  | .reg _ => 1
  | .dma _ => N

def Rd (V : Vals F) : Rounds.Schedule (GSem nD τ sig) (Fin 6) 𝕄 where
  duties g r := if r = 0 ∧ g.1.2 = .tc then due g.2 else ∅
  unitless _ := False
  amount g _ _ := amt g.2
  payload g _ d := pay V g.1.1 d g.2
  amount_pos g _ _ _ := by
    unfold amt; split
    · exact Nat.one_pos
    · exact N_pos

instance Rd_payload_storable (V : Vals F) (g : GSem nD τ sig) (r : ℕ) (d : Fin 6) : BI.Storable (upEmb : UEmb _ 𝕄) ((Rd V).payload g r d) := by
  show BI.Storable upEmb (pay V g.1.1 d g.2)
  unfold pay barPay dmaPay sendZ sendX recvZ recvX barZ barX
  (repeat' split) <;> infer_instance

section Tables
variable (V : Vals F) (c : Dev nD) (j : Fin 3)

omit [FloatOps F] in
theorem duties_b : (Rd V).duties (bcell c) 0 = Finset.univ := by
  dsimp only [Rd]; rw [if_pos ⟨rfl, rfl⟩]; rfl
omit [FloatOps F] in
theorem duties_d (k : Fin 4) : (Rd V).duties (dcell k j c) 0 = {0} := by
  dsimp only [Rd]; rw [if_pos ⟨rfl, rfl⟩]
  exact if_neg (show ¬ (6 + 3 * k.val + j.val < 6) by omega)
omit [FloatOps F] in
theorem duties_later (g : GSem nD τ sig) : ∀ r, 1 ≤ r → (Rd V).duties g r = ∅ :=
  fun r hr => if_neg fun h => by omega
omit [FloatOps F] in
theorem amount_b (d : Fin 6) : (Rd V).amount (bcell c) 0 d = 1 := rfl
omit [FloatOps F] in
theorem amount_d (k : Fin 4) (d : Fin 6) : (Rd V).amount (dcell k j c) 0 d = N := rfl
omit [FloatOps F] in
theorem expect_b : (Rd V).expect (bcell c) 0 = 6 := by
  unfold Schedule.expect Schedule.amountOf; rw [duties_b]; rfl
omit [FloatOps F] in
theorem expect_d (k : Fin 4) : (Rd V).expect (dcell k j c) 0 = N := by
  unfold Schedule.expect Schedule.amountOf; rw [duties_d, Finset.sum_singleton, amount_d]

omit [FloatOps F] in
theorem pay_bz : (Rd V).payload (bcell c) 0 (dz j) = barZ c j := by
  show barPay c (dz j) = _
  unfold barPay; rw [dif_pos (show (dz j).val < 3 from j.isLt)]; rfl
omit [FloatOps F] in
theorem pay_bx : (Rd V).payload (bcell c) 0 (dx j) = barX c j := by
  show barPay c (dx j) = _
  unfold barPay; rw [dif_neg (show ¬ (dx j).val < 3 by simp [dx])]
  congr 1; apply Fin.ext; simp [dx]
omit [FloatOps F] in
theorem pay_sz (d : Fin 6) : (Rd V).payload (dcell 0 j c) 0 d = sendZ c j := by revert j; intro j; fin_cases j <;> rfl
omit [FloatOps F] in
theorem pay_rz (d : Fin 6) : (Rd V).payload (dcell 1 j c) 0 d = recvZ V c j := by revert j; intro j; fin_cases j <;> rfl
omit [FloatOps F] in
theorem pay_sx (d : Fin 6) : (Rd V).payload (dcell 2 j c) 0 d = sendX c j := by revert j; intro j; fin_cases j <;> rfl
omit [FloatOps F] in
theorem pay_rx (d : Fin 6) : (Rd V).payload (dcell 3 j c) 0 d = recvX V c j := by revert j; intro j; fin_cases j <;> rfl

omit [FloatOps F] in
theorem rest_b : bigSep ((Rd V).duties (bcell c) 0 \ ∅) (fun u => (Rd V).payload (bcell c) 0 u)
    = iprop(barZ c 0 ∗ barZ c 1 ∗ barZ c 2 ∗ barX c 0 ∗ barX c 1 ∗ barX c 2) := by
  rw [Finset.sdiff_empty, duties_b, bigSep_W0]
  exact congrArg₂ _ (pay_bz V c 0) (congrArg₂ _ (pay_bz V c 1) (congrArg₂ _ (pay_bz V c 2)
    (congrArg₂ _ (pay_bx V c 0) (congrArg₂ _ (pay_bx V c 1) (pay_bx V c 2)))))
omit [FloatOps F] in
theorem rest_d (k : Fin 4) : bigSep ((Rd V).duties (dcell k j c) 0 \ ∅) (fun u => (Rd V).payload (dcell k j c) 0 u)
    = (Rd V).payload (dcell k j c) 0 0 := by
  rw [Finset.sdiff_empty, duties_d, bigSep_singleton]

end Tables

/-! ## Levels -/

abbrev tal (g : GSem nD τ sig) (n : ℕ) : CellTallies nD τ sig Unit := tallyAt g () n

/-- What device `c` still owes after its first `n` copies, its signals all sent. -/
abbrev oX2 (c : Dev nD) : CellTallies nD τ sig Unit := 0 + tal (dcell 3 2 (xp 2 c)) N
abbrev oX1 (c : Dev nD) : CellTallies nD τ sig Unit := oX2 c + tal (dcell 3 1 (xp 1 c)) N
abbrev oX0 (c : Dev nD) : CellTallies nD τ sig Unit := oX1 c + tal (dcell 3 0 (xp 0 c)) N
abbrev oZ2 (c : Dev nD) : CellTallies nD τ sig Unit := oX0 c + tal (dcell 1 2 (zp 2 c)) N
abbrev oZ1 (c : Dev nD) : CellTallies nD τ sig Unit := oZ2 c + tal (dcell 1 1 (zp 1 c)) N
abbrev oZ0 (c : Dev nD) : CellTallies nD τ sig Unit := oZ1 c + tal (dcell 1 0 (zp 0 c)) N
/-- The signals it owes besides. -/
abbrev oB5 (c : Dev nD) : CellTallies nD τ sig Unit := oZ0 c + tal (bcell (xp 2 c)) 1
abbrev oB4 (c : Dev nD) : CellTallies nD τ sig Unit := oB5 c + tal (bcell (xp 1 c)) 1
abbrev oB3 (c : Dev nD) : CellTallies nD τ sig Unit := oB4 c + tal (bcell (xp 0 c)) 1
abbrev oB2 (c : Dev nD) : CellTallies nD τ sig Unit := oB3 c + tal (bcell (zp 2 c)) 1
abbrev oB1 (c : Dev nD) : CellTallies nD τ sig Unit := oB2 c + tal (bcell (zp 1 c)) 1
abbrev O₀ (c : Dev nD) : CellTallies nD τ sig Unit := oB1 c + tal (bcell (zp 0 c)) 1

def L (g : GSem nD τ sig) : Finset Unit := if g.1.2 = .tc then {()} else ∅
def lvS : SemLoc sig → ℕ
  | .reg _ => 1
  | .dma s => if 15 ≤ (s : Fin 18).val then 3 else if 9 ≤ (s : Fin 18).val ∧ (s : Fin 18).val < 12 then 2 else 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is on a tensor core's cell above level `k`. -/
def Above (k : ℕ) (O : CellTallies nD τ sig Unit) : Prop := ∀ g u, 0 < O g u → g.1.2 = .tc ∧ k < lvS g.2

theorem above_zero (k : ℕ) : Above k 0 := fun g u h => absurd h (Nat.lt_irrefl 0)
theorem above_add {k : ℕ} {O : CellTallies nD τ sig Unit} (hO : Above k O) {c : Dev nD} {sm : SemLoc sig} {n : ℕ} (h : k < lvS sm) :
    Above k (O + tal ((c : Thread nD τ), sm) n) := fun g u hg => by
  rw [Pi.add_apply, Finsupp.add_apply, tallyAt_apply] at hg
  by_cases h' : g = ((c : Thread nD τ), sm) ∧ u = ()
  · rw [h'.1]; exact ⟨rfl, h⟩
  · rw [if_neg h', Nat.add_zero] at hg; exact hO g u hg
theorem Above.mono {k k' : ℕ} {O : CellTallies nD τ sig Unit} (h : Above k O) (hk : k' ≤ k) : Above k' O :=
  fun g u hg => ⟨(h g u hg).1, lt_of_le_of_lt hk (h g u hg).2⟩

theorem above_oX2 (c : Dev nD) : Above 2 (oX2 c) := above_add (above_zero 2) (by decide)
theorem above_oX1 (c : Dev nD) : Above 2 (oX1 c) := above_add (above_oX2 c) (by decide)
theorem above_oX0 (c : Dev nD) : Above 2 (oX0 c) := above_add (above_oX1 c) (by decide)
theorem above_oZ0 (c : Dev nD) : Above 1 (oZ0 c) :=
  above_add (above_add (above_add ((above_oX0 c).mono (by decide)) (by decide)) (by decide)) (by decide)
theorem above_O₀ (c : Dev nD) : Above 0 (O₀ c) :=
  above_add (above_add (above_add (above_add (above_add (above_add ((above_oZ0 c).mono (by decide)) (by decide)) (by decide)) (by decide)) (by decide)) (by decide)) (by decide)

omit [FloatOps F] in
theorem mayWait (k : ℕ) (c : Dev nD) (sm : SemLoc sig) (O : CellTallies nD τ sig Unit) (hs : lvS sm ≤ k) (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.PagedProof
end
-- ==== Proof.Comm.lean ====
module

public import proofs.«01_k».proof.Proof.Sched

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of the kernel on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells and the records about them -/

def osem (s : Fin 12) : SemLoc sig := .dma (⟨6 + s.val, by omega⟩ : Fin 18)
theorem osem_inj : Function.Injective osem := by decide
theorem osem_ne_bar (s : Fin 12) : osem s ≠ .reg barS := fun h => by cases h
def kj (k : Fin 4) (j : Fin 3) : Fin 12 := ⟨3 * k.val + j.val, by omega⟩
theorem osem_kj (k : Fin 4) (j : Fin 3) : osem (kj k j) = .dma (ds k j) := by revert k j; decide

def barEmb : Dev nD ↪ GSem nD τ sig := ⟨fun c => bcell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem bar_mem (c : Dev nD) : bcell c ∈ barCells ∪ scCells :=
  Finset.mem_union_left _ (Finset.mem_map_of_mem barEmb (Finset.mem_univ c))
theorem sc_mem (c : Dev nD) (s : Fin 12) : ((c : Thread nD τ), osem s) ∈ barCells ∪ scCells :=
  Finset.mem_union_right _ (Finset.mem_map_of_mem scEmb (Finset.mem_univ (c, s)))
theorem dcell_mem (k : Fin 4) (j : Fin 3) (c : Dev nD) : dcell k j c ∈ barCells ∪ scCells := by
  have := sc_mem c (kj k j); rwa [osem_kj] at this

/-- What every device may consult: the invariants of all the cells, and that every barrier is in its first round. -/
def records (V : Vals F) (κ : GSem nD τ sig → ℕ) : sProp 𝕄 :=
  iprop((bigSep (barCells ∪ scCells) fun g => cellInv ER (Rd V) (κ g) g) ∗ bigSep barCells fun g => reached ER g 0)
instance records_persistent (V : Vals F) (κ : GSem nD τ sig → ℕ) : BI.Persistent (records V κ) := by unfold records; infer_instance

section Steps
variable (V : Vals F) (κ : GSem nD τ sig → ℕ)

omit [FloatOps F] in
theorem inv_at {g : GSem nD τ sig} (hg : g ∈ barCells ∪ scCells) : records V κ ⊢ cellInv ER (Rd V) (κ g) g := by
  have h : (bigSep (barCells ∪ scCells) fun g => (cellInv ER (Rd V) (κ g) g : sProp 𝕄)) ⊢ cellInv ER (Rd V) (κ g) g := bigSep_elim hg
  unfold records
  iintro ⟨H, -⟩
  iapply h; iexact H
omit [FloatOps F] in
theorem reached_at (c : Dev nD) : records V κ ⊢ reached ER (bcell c) 0 := by
  have h : (bigSep barCells fun g => (reached ER g 0 : sProp 𝕄)) ⊢ reached ER (bcell c) 0 := bigSep_elim (Finset.mem_map_of_mem barEmb (Finset.mem_univ c))
  unfold records
  iintro ⟨-, H⟩
  iapply h; iexact H

/-- What a core owes, the waits it has made left open. -/
def ow (c : Dev nD) (O : CellTallies nD τ sig Unit) : sProp 𝕄 := iprop(∃ W, owes (c : Thread nD τ) O W)

/-! ## Signals -/

theorem signal_z (c n : Dev nD) (j : Fin 3) (hn : n = zp j c) (O : CellTallies nD τ sig Unit) (f : CBuf F) {α : Type} {Q : α → sProp 𝕄}
    {k : PUnit → Prog (TpuEff nD τ sig (Elt F) Λ₀ .tc) α} :
    iprop(records V κ ∗ ow c (O + tal (bcell (zp j c)) 1) ∗ dutyTok ER (bcell (zp j c)) 0 (dz (op j))
        ∗ zPts c (nx (op j)) fullShare f ∗ reached ER (dcell 1 (op j) c) 0)
      ⊢ iprop((ow c O -∗ WP c (k ⟨⟩) Q) -∗ WP c (.op (.semSignal (n, .tc) barS ((1 : ℕ) : Int)) k) Q) := by
  subst hn
  unfold ow
  iintro ⟨#HR, ⟨%W, HO⟩, Ht, Hf, Hr⟩ Hk
  iapply (Rounds.wp_signal 𝒱₀ ER (Rd V) (c : Thread nD τ) none (dst := (zp j c : Thread nD τ)) (κ := κ (bcell (zp j c))) (r := 0) (d := dz (op j))
      (by rw [duties_b]; exact Finset.mem_univ _) (amount_b V (zp j c) _) () O rfl) $$ [HO Ht Hf Hr]
  · isplitr; · iapply (inv_at V κ (bar_mem (zp j c))); iexact HR
    isplitl [HO]; · iexact HO
    isplitl [Ht]; · iexact Ht
    isplitl [Hf Hr]
    · rw [pay_bz]; unfold barZ; rw [zp_zp]
      isplitl [Hf]; · iexists f; iexact Hf
      iexact Hr
    · iapply (reached_at V κ (zp j c)); iexact HR
  iintro HO
  iapply Hk; iexists W; iexact HO

theorem signal_x (c n : Dev nD) (j : Fin 3) (hn : n = xp j c) (O : CellTallies nD τ sig Unit) (f : CBuf F) {α : Type} {Q : α → sProp 𝕄}
    {k : PUnit → Prog (TpuEff nD τ sig (Elt F) Λ₀ .tc) α} :
    iprop(records V κ ∗ ow c (O + tal (bcell (xp j c)) 1) ∗ dutyTok ER (bcell (xp j c)) 0 (dx j)
        ∗ xPts c (nx j) fullShare f ∗ reached ER (dcell 3 j c) 0)
      ⊢ iprop((ow c O -∗ WP c (k ⟨⟩) Q) -∗ WP c (.op (.semSignal (n, .tc) barS ((1 : ℕ) : Int)) k) Q) := by
  subst hn
  unfold ow
  iintro ⟨#HR, ⟨%W, HO⟩, Ht, Hf, Hr⟩ Hk
  iapply (Rounds.wp_signal 𝒱₀ ER (Rd V) (c : Thread nD τ) none (dst := (xp j c : Thread nD τ)) (κ := κ (bcell (xp j c))) (r := 0) (d := dx j)
      (by rw [duties_b]; exact Finset.mem_univ _) (amount_b V (xp j c) _) () O rfl) $$ [HO Ht Hf Hr]
  · isplitr; · iapply (inv_at V κ (bar_mem (xp j c))); iexact HR
    isplitl [HO]; · iexact HO
    isplitl [Ht]; · iexact Ht
    isplitl [Hf Hr]
    · rw [pay_bx]; unfold barX; rw [xp_xp]
      isplitl [Hf]; · iexists f; iexact Hf
      iexact Hr
    · iapply (reached_at V κ (xp j c)); iexact HR
  iintro HO
  iapply Hk; iexists W; iexact HO

/-! ## Waits -/

theorem wait_bar (c : Dev nD) {α : Type} {Q : α → sProp 𝕄} {k : PUnit → Prog (TpuEff nD τ sig (Elt F) Λ₀ .tc) α} :
    iprop(records V κ ∗ levAts L lv ∗ cred (tal (bcell c) 6) ∗ ow c (oZ0 c) ∗ atPos ER (bcell c) 0 ∅ 0)
      ⊢ iprop(((ow c (oZ0 c) ∗ atPos ER (bcell c) 1 ∅ 0 ∗ (barZ c 0 ∗ barZ c 1 ∗ barZ c 2 ∗ barX c 0 ∗ barX c 1 ∗ barX c 2)) -∗ WP c (k ⟨⟩) Q)
          -∗ WP c (.op (.semWait barS ((6 : ℕ) : Int)) k) Q) := by
  unfold ow
  iintro ⟨#HR, #Hl, Hc, ⟨%W, HO⟩, Hat⟩ Hk
  iapply (Rounds.wp_wait_rest_token 𝒱₀ ER (Rd V) (c : Thread nD τ) none (κ := κ (bcell c))
      (wpE_semWait_eq 𝒱₀ (c : Thread nD τ) none Set.univ) (Set.mem_univ _) () (O := oZ0 c) (W := W) (R := 0) (m := 0) (T := ∅)
      ((Nat.zero_add 6).trans (expect_b V c).symm)) $$ [Hc HO Hat]
  · isplitr; · iapply (inv_at V κ (bar_mem c)); iexact HR
    isplitl [Hc]; · iexact Hc
    isplitl [HO]; · iexact HO
    isplitr; · iapply (mayWait 1 c _ _ (by decide) (above_oZ0 c)); iexact Hl
    iexact Hat
  iintro ⟨HO, Hat, -, Hp⟩
  iapply Hk
  isplitl [HO]; · iexists _; iexact HO
  isplitl [Hat]; · iexact Hat
  iapply (Entails.of_eq (rest_b V c)); iexact Hp

theorem wait_d (c : Dev nD) (t : Fin 4) (j : Fin 3) (s : DmaSem sig) (hs : s = ds t j) (O : CellTallies nD τ sig Unit) (m : ℕ) (hm : lvS (.dma (ds t j)) ≤ m) (hO : Above m O)
    {src dst : Memref sig .tc .vmem S4x16x128 .f32} {hsrc : src.view.WordExact} {hdst : dst.view.WordExact} (hN : dst.view.dmaCredit = N)
    {α : Type} {Q : α → sProp 𝕄} {k : PUnit → Prog (TpuEff nD τ sig (Elt F) Λ₀ .tc) α} :
    iprop(records V κ ∗ levAts L lv ∗ cred (tal (dcell t j c) N) ∗ ow c O ∗ atPos ER (dcell t j c) 0 ∅ 0)
      ⊢ iprop(((ow c O ∗ atPos ER (dcell t j c) 1 ∅ 0 ∗ (Rd V).payload (dcell t j c) 0 0) -∗ WP c (k ⟨⟩) Q)
          -∗ WP c (.op (.waitDma2 s src dst hsrc hdst) k) Q) := by
  subst hs
  unfold ow
  iintro ⟨#HR, #Hl, Hc, ⟨%W, HO⟩, Hat⟩ Hk
  iapply (Rounds.wp_wait_rest_token 𝒱₀ ER (Rd V) (c : Thread nD τ) none (κ := κ (dcell t j c))
      (wpE_waitDma2_eq 𝒱₀ (c : Thread nD τ) none Set.univ) (Set.mem_univ _) () (O := O) (W := W) (R := 0) (m := 0) (T := ∅)
      ((Nat.zero_add _).trans (hN.trans (expect_d V c j t).symm))) $$ [Hc HO Hat]
  · isplitr; · iapply (inv_at V κ (dcell_mem t j c)); iexact HR
    isplitl [Hc]; · rw [hN]; iexact Hc
    isplitl [HO]; · iexact HO
    isplitr; · iapply (mayWait m c _ _ hm hO); iexact Hl
    iexact Hat
  iintro ⟨HO, Hat, -, Hp⟩
  iapply Hk
  isplitl [HO]; · iexists _; iexact HO
  isplitl [Hat]; · iexact Hat
  iapply (Entails.of_eq (rest_d V c j t)); iexact Hp

/-! ## Copies -/

omit [FloatOps F] in
theorem credit_z (k : Fin 4) : (slot zM k).view.dmaCredit = N := rfl
omit [FloatOps F] in
theorem credit_x (k : Fin 4) : (slot xM k).view.dmaCredit = N := rfl

set_option maxHeartbeats 1000000 in
theorem send_z (c n : Dev nD) (j : Fin 3) (hn : n = zp j c) (O : CellTallies nD τ sig Unit) (fs fd : CBuf F) (hfs : ZOK V 0 c fs)
    {src dst : Memref sig .tc .vmem S4x16x128 .f32} (hs : src = slot zM 0) (hd : dst = slot zM (nx j))
    {sS sR : DmaSem sig} (hsS : sS = ds 0 j) (hsR : sR = ds 1 j)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records V κ ∗ ow c (O + tal (dcell 1 j (zp j c)) N) ∗ zPts c 0 (shJ j) fs ∗ zPts (zp j c) (nx j) fullShare fd
        ∗ dutyTok ER (dcell 0 j c) 0 0 ∗ reached ER (dcell 0 j c) 0 ∗ dutyTok ER (dcell 1 j (zp j c)) 0 0 ∗ reached ER (dcell 1 j (zp j c)) 0)
      ⊢ iprop(((cred (tal (dcell 0 j c) N) ∗ ow c O) -∗ WP c (k ⟨⟩) Q)
          -∗ WP c (.op (.enqueueDma src (.remote (Dev.tc n : Thread nD τ) dst (.dma sS) hsc) (.dma sR) hsrc hdst hsem) k) Q) := by
  subst hn hs hd hsS hsR
  unfold ow
  iintro ⟨#HR, ⟨%W, HO⟩, Hs, Hd, Ht, Hr, Ht', Hr'⟩ Hk
  iapply (Rounds.wp_send_pointsTo 𝒱₀ ER (Rd V) (c : Thread nD τ) none (c' := (zp j c : Thread nD τ)) (src := slot zM 0) (dst := slot zM (nx j))
    (sS := .dma (ds 0 j)) (sem := .dma (ds 1 j)) (κ₁ := κ (dcell 0 j c)) (κ₂ := κ (dcell 1 j (zp j c))) (q := shJ j) (fs := fs)
    (r₁ := 0) (r₂ := 0) (d₁ := 0) (d₂ := 0) (fd := fd)
    (by rw [duties_d]; exact Finset.mem_singleton_self _) (by rw [duties_d]; exact Finset.mem_singleton_self _)
    () () N (credit_z (nx j)) (amount_d V c j 0 0) (amount_d V (zp j c) j 1 0) O rfl (W := W)
    (by rw [pay_sz, slot_set_z]; unfold sendZ zPts; iintro H; iexists fs; iexact H)
    (by
      rw [pay_rz, slot_set_z]; unfold recvZ zPts; rw [zp_zp]
      iintro H; iexists _; isplitr; · ipureintro; exact hfs.same (same_write_z (nx j) fd fs)
      iexact H)) $$ [HO Hs Hd Ht Hr Ht' Hr']
  · isplitr; · iapply (inv_at V κ (dcell_mem 0 j c)); iexact HR
    isplitr; · iapply (inv_at V κ (dcell_mem 1 j (zp j c))); iexact HR
    isplitl [Hs]; · rw [slot_set_z]; unfold zPts; iexact Hs
    isplitl [Hd]; · rw [slot_set_z]; unfold zPts; iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

set_option maxHeartbeats 1000000 in
theorem send_x (c n : Dev nD) (j : Fin 3) (hn : n = xp j c) (O : CellTallies nD τ sig Unit) (fs fd : CBuf F) (hfs : XOK V 0 c fs)
    {src dst : Memref sig .tc .vmem S4x16x128 .f32} (hs : src = slot xM 0) (hd : dst = slot xM (nx j))
    {sS sR : DmaSem sig} (hsS : sS = ds 2 j) (hsR : sR = ds 3 j)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records V κ ∗ ow c (O + tal (dcell 3 j (xp j c)) N) ∗ xPts c 0 (shJ j) fs ∗ xPts (xp j c) (nx j) fullShare fd
        ∗ dutyTok ER (dcell 2 j c) 0 0 ∗ reached ER (dcell 2 j c) 0 ∗ dutyTok ER (dcell 3 j (xp j c)) 0 0 ∗ reached ER (dcell 3 j (xp j c)) 0)
      ⊢ iprop(((cred (tal (dcell 2 j c) N) ∗ ow c O) -∗ WP c (k ⟨⟩) Q)
          -∗ WP c (.op (.enqueueDma src (.remote (Dev.tc n : Thread nD τ) dst (.dma sS) hsc) (.dma sR) hsrc hdst hsem) k) Q) := by
  subst hn hs hd hsS hsR
  unfold ow
  iintro ⟨#HR, ⟨%W, HO⟩, Hs, Hd, Ht, Hr, Ht', Hr'⟩ Hk
  iapply (Rounds.wp_send_pointsTo 𝒱₀ ER (Rd V) (c : Thread nD τ) none (c' := (xp j c : Thread nD τ)) (src := slot xM 0) (dst := slot xM (nx j))
    (sS := .dma (ds 2 j)) (sem := .dma (ds 3 j)) (κ₁ := κ (dcell 2 j c)) (κ₂ := κ (dcell 3 j (xp j c))) (q := shJ j) (fs := fs)
    (r₁ := 0) (r₂ := 0) (d₁ := 0) (d₂ := 0) (fd := fd)
    (by rw [duties_d]; exact Finset.mem_singleton_self _) (by rw [duties_d]; exact Finset.mem_singleton_self _)
    () () N (credit_x (nx j)) (amount_d V c j 2 0) (amount_d V (xp j c) j 3 0) O rfl (W := W)
    (by rw [pay_sx, slot_set_x]; unfold sendX xPts; iintro H; iexists fs; iexact H)
    (by
      rw [pay_rx, slot_set_x]; unfold recvX xPts; rw [xp_xp]
      iintro H; iexists _; isplitr; · ipureintro; exact hfs.same (same_write_x (nx j) fd fs)
      iexact H)) $$ [HO Hs Hd Ht Hr Ht' Hr']
  · isplitr; · iapply (inv_at V κ (dcell_mem 2 j c)); iexact HR
    isplitr; · iapply (inv_at V κ (dcell_mem 3 j (xp j c))); iexact HR
    isplitl [Hs]; · rw [slot_set_x]; unfold xPts; iexact Hs
    isplitl [Hd]; · rw [slot_set_x]; unfold xPts; iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

/-! ## Closing the cells -/

omit [FloatOps F] in
theorem close_b (c : Dev nD) : iprop(records V κ ∗ atPos ER (bcell c) 1 ∅ 0) ⊢ (|={Set.univ}=> semVal (bcell c) 0 : sProp 𝕄) := by
  iintro ⟨#HR, Hat⟩
  iapply (Rounds.cell_close ER (Rd V) (Set.mem_univ (κ (bcell c))) (fun h => h) (R := 1) (duties_later V (bcell c)))
  isplitr; · iapply (inv_at V κ (bar_mem c)); iexact HR
  iexact Hat
omit [FloatOps F] in
theorem close_d (c : Dev nD) (t : Fin 4) (j : Fin 3) : iprop(records V κ ∗ atPos ER (dcell t j c) 1 ∅ 0) ⊢ (|={Set.univ}=> semVal (dcell t j c) 0 : sProp 𝕄) := by
  iintro ⟨#HR, Hat⟩
  iapply (Rounds.cell_close ER (Rd V) (Set.mem_univ (κ (dcell t j c))) (fun h => h) (R := 1) (duties_later V (dcell t j c)))
  isplitr; · iapply (inv_at V κ (dcell_mem t j c)); iexact HR
  iexact Hat

end Steps

/-! ## The buffers in slots and shares -/

section Slots
variable {ℓ : Loc nD τ sig} {I : Finset (Idx ℓ)}

omit [FloatOps F] in
/-- A region lent in three shares, and kept in a fourth. -/
theorem shares4 (f : Buf (Elt F) ℓ) :
    (ℓ ↦[I]{fullShare} f : sProp 𝕄) ⊢ iprop((ℓ ↦[I]{sh0} f) ∗ (ℓ ↦[I]{shJ 0} f) ∗ (ℓ ↦[I]{shJ 1} f) ∗ (ℓ ↦[I]{shJ 2} f)) := by
  iintro H
  ihave H := (pointsTo_share (PosShare.mem_left_op_right fullShare)).1 $$ H; icases H with ⟨H1, H2⟩
  ihave H1 := (pointsTo_share (PosShare.mem_left_op_right fullShare.left)).1 $$ H1; icases H1 with ⟨H11, H12⟩
  ihave H2 := (pointsTo_share (PosShare.mem_left_op_right fullShare.right)).1 $$ H2; icases H2 with ⟨H21, H22⟩
  isplitl [H22]; · iexact H22
  isplitl [H11]; · iexact H11
  isplitl [H12] <;> iassumption

omit [FloatOps F] in
/-- A lent share comes back at the contents of the share kept. -/
theorem share_back (q q' : PosShare TreeShare) (f : Buf (Elt F) ℓ) :
    iprop((ℓ ↦[I]{q} f) ∗ (∃ g, ℓ ↦[I]{q'} g)) ⊢ (iprop((ℓ ↦[I]{q} f) ∗ (ℓ ↦[I]{q'} f)) : sProp 𝕄) := by
  iintro ⟨H, ⟨%g, H'⟩⟩
  ihave %h := (pointsTo_agree (ℓ := ℓ) (I := I) (J := I)) $$ [H H']
  · isplitl [H] <;> iassumption
  ihave H' := (Entails.of_eq (pointsTo_congr (q := q') (f := g) (g := f) fun i hi => (h i (Finset.mem_inter.mpr ⟨hi, hi⟩)).1.symm)) $$ H'
  isplitl [H] <;> iassumption

omit [FloatOps F] in
theorem shares4_back (f : Buf (Elt F) ℓ) :
    iprop((ℓ ↦[I]{sh0} f) ∗ (∃ g, ℓ ↦[I]{shJ 0} g) ∗ (∃ g, ℓ ↦[I]{shJ 1} g) ∗ (∃ g, ℓ ↦[I]{shJ 2} g)) ⊢ (ℓ ↦[I]{fullShare} f : sProp 𝕄) := by
  iintro ⟨H, H0, H1, H2⟩
  ihave HH := (share_back sh0 (shJ 0) f) $$ [H H0]
  · isplitl [H] <;> iassumption
  icases HH with ⟨H, H0⟩
  ihave HH := (share_back sh0 (shJ 1) f) $$ [H H1]
  · isplitl [H] <;> iassumption
  icases HH with ⟨H, H1⟩
  ihave HH := (share_back sh0 (shJ 2) f) $$ [H H2]
  · isplitl [H] <;> iassumption
  icases HH with ⟨H, H2⟩
  iapply (pointsTo_share (PosShare.mem_left_op_right fullShare)).2
  isplitl [H0 H1]
  · iapply (pointsTo_share (PosShare.mem_left_op_right fullShare.left)).2
    isplitl [H0] <;> iassumption
  · iapply (pointsTo_share (PosShare.mem_left_op_right fullShare.right)).2
    isplitl [H2] <;> iassumption

end Slots

omit [FloatOps F] in
theorem mem_rO (k : Fin 4) (y : (rO k).shape.Idx) : (rO k).emb y ∈ slotSet k := by
  rw [mem_slotSet]; have := (y 0).isLt; simp [Rect.emb_apply] at this ⊢; omega
omit [FloatOps F] in
theorem mem_rX (k : Fin 4) (y : (rX k).shape.Idx) : (rX k).emb y ∈ slotSet k := by
  rw [mem_slotSet]; have := (y 0).isLt; simp [Rect.emb_apply] at this ⊢; omega
omit [FloatOps F] in
theorem mem_rL (k : Fin 4) (y : (rL k).shape.Idx) : (rL k).emb y ∈ slotSet k := by
  rw [mem_slotSet]; have := (y 0).isLt; simp [Rect.emb_apply] at this ⊢; omega

omit [FloatOps F] in
theorem ZOK.congr {V : Vals F} {k : Fin 4} {s : Dev nD} {f g : CBuf F} (h : ZOK V k s f) (hg : ∀ i ∈ slotSet k, g i = f i) : ZOK V k s g :=
  ⟨(funext fun y => hg _ (mem_rO k y)).trans h.1, (funext fun y => hg _ (mem_rX k y)).trans h.2.1, (funext fun y => hg _ (mem_rL k y)).trans h.2.2⟩
omit [FloatOps F] in
theorem XOK.congr {V : Vals F} {k : Fin 4} {s : Dev nD} {f g : CBuf F} (h : XOK V k s f) (hg : ∀ i ∈ slotSet k, g i = f i) : XOK V k s g :=
  (funext fun y => hg _ (mem_rO k y)).trans h

abbrev zAll (c : Dev nD) (f : CBuf F) : sProp 𝕄 := (c : Thread nD τ).loc cc0_scratch0 ↦{fullShare} f
abbrev xAll (c : Dev nD) (f : CBuf F) : sProp 𝕄 := (c : Thread nD τ).loc cc0_scratch1 ↦{fullShare} f

theorem bigSep4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
theorem z_split (c : Dev nD) (f : CBuf F) :
    zAll c f ⊢ (iprop(zPts c 0 fullShare f ∗ zPts c 1 fullShare f ∗ zPts c 2 fullShare f ∗ zPts c 3 fullShare f) : sProp 𝕄) := by
  refine (Entails.of_eq (Ring.pointsTo_blocks (ℓ := (c : Thread nD τ).loc cc0_scratch0) slotSet slotSet_disjoint slotSet_cover f)).trans ?_
  exact Entails.of_eq (bigSep_univ_eq_bigSepL [(0 : Fin 4), (1 : Fin 4), (2 : Fin 4), (3 : Fin 4)] (by decide) (by decide) _)
omit [FloatOps F] in
theorem x_split (c : Dev nD) (f : CBuf F) :
    xAll c f ⊢ (iprop(xPts c 0 fullShare f ∗ xPts c 1 fullShare f ∗ xPts c 2 fullShare f ∗ xPts c 3 fullShare f) : sProp 𝕄) := by
  refine (Entails.of_eq (Ring.pointsTo_blocks (ℓ := (c : Thread nD τ).loc cc0_scratch1) slotSet slotSet_disjoint slotSet_cover f)).trans ?_
  exact Entails.of_eq (bigSep_univ_eq_bigSepL [(0 : Fin 4), (1 : Fin 4), (2 : Fin 4), (3 : Fin 4)] (by decide) (by decide) _)

omit [FloatOps F] in
theorem z_join (c : Dev nD) (f0 f1 f2 f3 : CBuf F) :
    (iprop(zPts c 0 fullShare f0 ∗ zPts c 1 fullShare f1 ∗ zPts c 2 fullShare f2 ∗ zPts c 3 fullShare f3) : sProp 𝕄)
      ⊢ iprop(∃ g : CBuf F, ⌜(∀ i ∈ slotSet 0, g i = f0 i) ∧ (∀ i ∈ slotSet 1, g i = f1 i) ∧ (∀ i ∈ slotSet 2, g i = f2 i) ∧ (∀ i ∈ slotSet 3, g i = f3 i)⌝ ∗ zAll c g) := by
  have hj := pointsTo_biUnion_join (Ix := Unit) (Val := Elt F) (Name := ℕ) (U := UU) (Lvl := ℕ) (ℓ := (c : Thread nD τ).loc cc0_scratch0) (q := fullShare) Finset.univ slotSet (![f0, f1, f2, f3] : Fin 4 → CBuf F) f0 (fun b _ b' _ h => slotSet_disjoint b b' h)
  rw [slotSet_cover] at hj
  refine (Entails.of_eq ?_).trans (hj.trans ?_)
  · exact (bigSep_univ_eq_bigSepL [(0 : Fin 4), (1 : Fin 4), (2 : Fin 4), (3 : Fin 4)] (by decide) (by decide)
      (fun k : Fin 4 => (zPts c k fullShare ((![f0, f1, f2, f3] : Fin 4 → CBuf F) k) : sProp 𝕄))).symm
  · iintro ⟨%g, %h, H⟩
    iexists g
    isplitr
    · ipureintro; exact ⟨h 0 (Finset.mem_univ _), h 1 (Finset.mem_univ _), h 2 (Finset.mem_univ _), h 3 (Finset.mem_univ _)⟩
    iexact H
omit [FloatOps F] in
theorem x_join (c : Dev nD) (f0 f1 f2 f3 : CBuf F) :
    (iprop(xPts c 0 fullShare f0 ∗ xPts c 1 fullShare f1 ∗ xPts c 2 fullShare f2 ∗ xPts c 3 fullShare f3) : sProp 𝕄)
      ⊢ iprop(∃ g : CBuf F, ⌜(∀ i ∈ slotSet 0, g i = f0 i) ∧ (∀ i ∈ slotSet 1, g i = f1 i) ∧ (∀ i ∈ slotSet 2, g i = f2 i) ∧ (∀ i ∈ slotSet 3, g i = f3 i)⌝ ∗ xAll c g) := by
  have hj := pointsTo_biUnion_join (Ix := Unit) (Val := Elt F) (Name := ℕ) (U := UU) (Lvl := ℕ) (ℓ := (c : Thread nD τ).loc cc0_scratch1) (q := fullShare) Finset.univ slotSet (![f0, f1, f2, f3] : Fin 4 → CBuf F) f0 (fun b _ b' _ h => slotSet_disjoint b b' h)
  rw [slotSet_cover] at hj
  refine (Entails.of_eq ?_).trans (hj.trans ?_)
  · exact (bigSep_univ_eq_bigSepL [(0 : Fin 4), (1 : Fin 4), (2 : Fin 4), (3 : Fin 4)] (by decide) (by decide)
      (fun k : Fin 4 => (xPts c k fullShare ((![f0, f1, f2, f3] : Fin 4 → CBuf F) k) : sProp 𝕄))).symm
  · iintro ⟨%g, %h, H⟩
    iexists g
    isplitr
    · ipureintro; exact ⟨h 0 (Finset.mem_univ _), h 1 (Finset.mem_univ _), h 2 (Finset.mem_univ _), h 3 (Finset.mem_univ _)⟩
    iexact H

omit [FloatOps F] in
/-- After the z exchange: the shares and the three slots that came in make the whole buffer again. -/
theorem z_gather (V : Vals F) (c : Dev nD) (f : CBuf F) (hf : ZOK V 0 c f) :
    (iprop(zPts c 0 sh0 f ∗ (sendZ c 0 ∗ sendZ c 1 ∗ sendZ c 2) ∗ recvZ V c 0 ∗ recvZ V c 1 ∗ recvZ V c 2) : sProp 𝕄)
      ⊢ iprop(∃ g : CBuf F, ⌜ZOK V 0 c g ∧ ZOK V 1 (zp 2 c) g ∧ ZOK V 2 (zp 1 c) g ∧ ZOK V 3 (zp 0 c) g⌝ ∗ zAll c g) := by
  unfold sendZ recvZ
  iintro ⟨H, ⟨H0, H1, H2⟩, ⟨%g1, %h1, HA⟩, ⟨%g2, %h2, HB⟩, ⟨%g3, %h3, HC⟩⟩
  ihave H := (shares4_back (ℓ := zM.view.loc (c : Thread nD τ)) (I := slotSet 0) f) $$ [H H0 H1 H2]
  · unfold zPts
    isplitl [H]; · iexact H
    isplitl [H0]; · iexact H0
    isplitl [H1] <;> iassumption
  ihave HH := (z_join c f g1 g2 g3) $$ [H HA HB HC]
  · isplitl [H]; · unfold zPts; iexact H
    isplitl [HA]; · iexact HA
    isplitl [HB]; · iexact HB
    iexact HC
  icases HH with ⟨%g, %hg, HH⟩
  iexists g
  isplitr
  · ipureintro
    exact ⟨hf.congr hg.1, h1.congr hg.2.1, h2.congr hg.2.2.1, h3.congr hg.2.2.2⟩
  iexact HH

omit [FloatOps F] in
theorem x_gather (V : Vals F) (c : Dev nD) (f : CBuf F) (hf : XOK V 0 c f) :
    (iprop(xPts c 0 sh0 f ∗ (sendX c 0 ∗ sendX c 1 ∗ sendX c 2) ∗ recvX V c 0 ∗ recvX V c 1 ∗ recvX V c 2) : sProp 𝕄)
      ⊢ iprop(∃ g : CBuf F, ⌜XOK V 0 c g ∧ XOK V 1 (xp 0 c) g ∧ XOK V 2 (xp 1 c) g ∧ XOK V 3 (xp 2 c) g⌝ ∗ xAll c g) := by
  unfold sendX recvX
  iintro ⟨H, ⟨H0, H1, H2⟩, ⟨%g1, %h1, HA⟩, ⟨%g2, %h2, HB⟩, ⟨%g3, %h3, HC⟩⟩
  ihave H := (shares4_back (ℓ := xM.view.loc (c : Thread nD τ)) (I := slotSet 0) f) $$ [H H0 H1 H2]
  · unfold xPts
    isplitl [H]; · iexact H
    isplitl [H0]; · iexact H0
    isplitl [H1] <;> iassumption
  ihave HH := (x_join c f g1 g2 g3) $$ [H HA HB HC]
  · isplitl [H]; · unfold xPts; iexact H
    isplitl [HA]; · iexact HA
    isplitl [HB]; · iexact HB
    iexact HC
  icases HH with ⟨%g, %hg, HH⟩
  iexists g
  isplitr
  · ipureintro
    exact ⟨hf.congr hg.1, h1.congr hg.2.1, h2.congr hg.2.2.1, h3.congr hg.2.2.2⟩
  iexact HH

end Cert.PagedProof
end
-- ==== Proof.Chain.lean ====
module

public import proofs.«01_k».proof.Proof.Comm

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # The values one device computes, step by step -/

theorem inb_P (k : Fin 16) : ∀ a, (![k.val, 0, 0, 0] : Fin 4 → Nat) a + S1x4x64x128.size a ≤ S16x4x64x128.size a := by
  revert k; decide +kernel
abbrev rP (k : Fin 16) : Rect S16x4x64x128 := Rect.unit (s := S16x4x64x128) ![k.val, 0, 0, 0] S1x4x64x128.size (inb_P k)
/-- Page `k` of a block of 16 pages. -/
def kp (k : Fin 16) (f : (⟨S16x4x64x128, .bf16⟩ : BufTy).Contents (Elt F)) : Vec F S1x4x64x128 .bf16 := fun y => f ((rP k).emb y)

/-- The blocks one device stages: queries, its pages of keys and of values, the page table, the lengths. -/
structure Ins (F : FTy → Type) where
  q : (⟨S16x1x16x64, .bf16⟩ : BufTy).Contents (Elt F)
  k : (⟨S16x4x64x128, .bf16⟩ : BufTy).Contents (Elt F)
  v : (⟨S16x4x64x128, .bf16⟩ : BufTy).Contents (Elt F)
  bt : (⟨S16x128, .i32⟩ : BufTy).Contents (Elt F)
  ln : (⟨S16x1, .i32⟩ : BufTy).Contents (Elt F)

def cnt (c : Dev nD) (D : Ins F) := k0_pay26 (F := F) c (k0_pay3 D.bt) D.ln
def mr0 (c : Dev nD) (D : Ins F) := k0_pay27 (F := F)
def lr0 (c : Dev nD) (D : Ins F) := k0_pay28 (F := F)
def or0 (c : Dev nD) (D : Ins F) := k0_pay29 (F := F)
def c15 (c : Dev nD) (D : Ins F) := k0_pay30 (F := F) (cnt c D)
def c29 (c : Dev nD) (D : Ins F) := k0_pay31 (F := F) c D.q
def c32 (c : Dev nD) (D : Ins F) := k0_pay32 (F := F) c D.q (kp 0 D.k)
def c40 (c : Dev nD) (D : Ins F) := k0_pay33 (F := F) (c15 c D) (c32 c D) (Scalar.ofBits .f32 0x3E000000#32)
def c51 (c : Dev nD) (D : Ins F) := k0_pay34 (F := F) (c15 c D) (c29 c D) (kp 1 D.k)
def c62 (c : Dev nD) (D : Ins F) := k0_pay35 (F := F) (c15 c D) (c29 c D) (kp 2 D.k)
def c67 (c : Dev nD) (D : Ins F) := k0_pay36 (F := F) (c29 c D) (kp 3 D.k)
def c73 (c : Dev nD) (D : Ins F) := k0_pay37 (F := F) (c15 c D) (c67 c D) (Scalar.ofBits .f32 0x00000000#32)
def c84 (c : Dev nD) (D : Ins F) := k0_pay38 (F := F) (c15 c D) (c29 c D) (kp 4 D.k)
def c95 (c : Dev nD) (D : Ins F) := k0_pay39 (F := F) (c15 c D) (c29 c D) (kp 5 D.k)
def c100 (c : Dev nD) (D : Ins F) := k0_pay40 (F := F) (c29 c D) (kp 6 D.k)
def c102 (c : Dev nD) (D : Ins F) := k0_pay41 (F := F) (c15 c D)
def c106 (c : Dev nD) (D : Ins F) := k0_pay42 (F := F) (c100 c D) (c102 c D) (Scalar.ofBits .f32 0xF149F2CA#32)
def c117 (c : Dev nD) (D : Ins F) := k0_pay43 (F := F) (c15 c D) (c29 c D) (kp 7 D.k)
def c128 (c : Dev nD) (D : Ins F) := k0_pay44 (F := F) (c15 c D) (c29 c D) (kp 8 D.k)
def c133 (c : Dev nD) (D : Ins F) := k0_pay45 (F := F) (c29 c D) (kp 9 D.k)
def c137 (c : Dev nD) (D : Ins F) := k0_pay46 (F := F) (c15 c D)
def c138 (c : Dev nD) (D : Ins F) := k0_pay47 (F := F)
def c139 (c : Dev nD) (D : Ins F) := k0_pay48 (F := F) (c133 c D) (c137 c D) (c138 c D)
def c150 (c : Dev nD) (D : Ins F) := k0_pay49 (F := F) (c15 c D) (c29 c D) (kp 10 D.k)
def c161 (c : Dev nD) (D : Ins F) := k0_pay50 (F := F) (c15 c D) (c29 c D) (kp 11 D.k)
def c172 (c : Dev nD) (D : Ins F) := k0_pay51 (F := F) (c15 c D) (c29 c D) (kp 12 D.k)
def c183 (c : Dev nD) (D : Ins F) := k0_pay52 (F := F) (c15 c D) (c29 c D) (kp 13 D.k)
def c194 (c : Dev nD) (D : Ins F) := k0_pay53 (F := F) (c15 c D) (c29 c D) (kp 14 D.k)
def c205 (c : Dev nD) (D : Ins F) := k0_pay54 (F := F) (c15 c D) (c29 c D) (kp 15 D.k)
def c208 (c : Dev nD) (D : Ins F) := k0_pay55 (F := F) (c40 c D) (c51 c D)
def c238 (c : Dev nD) (D : Ins F) := k0_pay56 (F := F) (c62 c D) (c73 c D) (c84 c D) (c95 c D) (c106 c D) (c117 c D) (c128 c D) (c139 c D) (c150 c D) (c161 c D) (c172 c D) (c183 c D) (c194 c D) (c205 c D) (c208 c D) (mr0 c D)
def c242 (c : Dev nD) (D : Ins F) := k0_pay58 (F := F) (c62 c D) (c73 c D) (c84 c D) (c95 c D) (c106 c D) (c117 c D) (c128 c D) (c139 c D) (c150 c D) (c161 c D) (c172 c D) (c183 c D) (c194 c D) (c205 c D) (c208 c D) (mr0 c D) (lr0 c D)
def c246 (c : Dev nD) (D : Ins F) := k0_pay59 (F := F) (c62 c D) (c73 c D) (c84 c D) (c95 c D) (c106 c D) (c117 c D) (c128 c D) (c139 c D) (c150 c D) (c161 c D) (c172 c D) (c183 c D) (c194 c D) (c205 c D) (c208 c D) (mr0 c D) (or0 c D)
def c247 (c : Dev nD) (D : Ins F) := k0_pay60 (F := F) (c62 c D) (c73 c D) (c84 c D) (c95 c D) (c106 c D) (c117 c D) (c128 c D) (c139 c D) (c150 c D) (c161 c D) (c172 c D) (c183 c D) (c194 c D) (c205 c D) (c208 c D) (mr0 c D)
def c278 (c : Dev nD) (D : Ins F) := k0_pay64 (F := F) (c15 c D) (c40 c D) (c51 c D) (c62 c D) (c238 c D) (c242 c D) (c247 c D)
def c282 (c : Dev nD) (D : Ins F) := k0_pay65 (F := F) (c15 c D) (c40 c D) (c51 c D) (c62 c D) (c238 c D) (c246 c D) (c247 c D) (kp 0 D.v) (kp 1 D.v) (kp 2 D.v)
def c288 (c : Dev nD) (D : Ins F) := k0_pay66 (F := F) (c15 c D) (c73 c D) (c238 c D)
def c318 (c : Dev nD) (D : Ins F) := k0_pay69 (F := F) (c15 c D) (c84 c D) (c95 c D) (c238 c D) (c282 c D) (c288 c D) (kp 3 D.v) (kp 4 D.v) (kp 5 D.v)
def c324 (c : Dev nD) (D : Ins F) := k0_pay70 (F := F) (c15 c D) (c106 c D) (c238 c D)
def c326 (c : Dev nD) (D : Ins F) := k0_pay71 (F := F) (c15 c D) (c84 c D) (c95 c D) (c106 c D) (c238 c D) (c278 c D) (c288 c D)
def c362 (c : Dev nD) (D : Ins F) := k0_pay75 (F := F) (c15 c D) (c117 c D) (c128 c D) (c139 c D) (c238 c D) (c326 c D)
def c366 (c : Dev nD) (D : Ins F) := k0_pay76 (F := F) (c15 c D) (c117 c D) (c128 c D) (c139 c D) (c238 c D) (c318 c D) (c324 c D) (kp 6 D.v) (kp 7 D.v) (kp 8 D.v) (kp 9 D.v)
def c367 (c : Dev nD) (D : Ins F) := k0_pay77 (F := F) (c238 c D)
def c398 (c : Dev nD) (D : Ins F) := k0_pay81 (F := F) (c15 c D) (c150 c D) (c161 c D) (c172 c D) (c238 c D) (c362 c D) (c367 c D)
def c402 (c : Dev nD) (D : Ins F) := k0_pay82 (F := F) (c15 c D) (c150 c D) (c161 c D) (c172 c D) (c238 c D) (c366 c D) (c367 c D) (kp 10 D.v) (kp 11 D.v) (kp 12 D.v)
def c408 (c : Dev nD) (D : Ins F) := k0_pay83 (F := F) (c15 c D) (c183 c D) (c238 c D)
def c438 (c : Dev nD) (D : Ins F) := k0_pay86 (F := F) (c15 c D) (c194 c D) (c205 c D) (c238 c D) (c402 c D) (c408 c D) (kp 13 D.v) (kp 14 D.v) (kp 15 D.v)
def mr1 (c : Dev nD) (D : Ins F) := k0_pay87 (F := F) (c238 c D)
def lr1 (c : Dev nD) (D : Ins F) := k0_pay88 (F := F) (c15 c D) (c194 c D) (c205 c D) (c238 c D) (c398 c D) (c408 c D)
def or1 (c : Dev nD) (D : Ins F) := k0_pay1 (F := F) (c438 c D)

/-- The four partial results over the `z` axis. -/
structure Four (F : FTy → Type) where
  o : Fin 4 → Vec F S1x4x16x64 .f32
  m : Fin 4 → Vec F S1x4x16x1 .f32
  l : Fin 4 → Vec F S1x4x16x1 .f32

def d597 (W : Four F) := k0_pay8 (F := F) (W.m 1)
def d599 (W : Four F) := k0_pay9 (F := F) (W.m 2)
def d601 (W : Four F) := k0_pay10 (F := F) (W.m 3)
def d604 (W : Four F) := k0_pay11 (F := F) (W.m 0) (W.m 1) (W.m 2) (W.m 3)
def d606 := k0_pay12 (F := F)
def d608 (W : Four F) := k0_pay13 (F := F) (W.m 0) (W.m 1) (W.m 2) (W.m 3)
def d613 (W : Four F) := k0_pay14 (F := F) (W.m 0) (W.m 1) (W.m 2) (W.m 3) (W.o 0)
def d639 (W : Four F) := k0_pay17 (F := F) (d597 W) (d599 W) (d604 W) d606 (d608 W) (W.l 0) (W.l 1) (W.l 2)
def d641 (W : Four F) := k0_pay18 (F := F) (d601 W) (d604 W)
def d646 (W : Four F) := k0_pay19 (F := F) (d597 W) (d599 W) (d601 W) (d604 W) (d613 W) (W.o 1) (W.o 2) (W.o 3)
def d648 (W : Four F) := k0_pay20 (F := F) (W.l 3)
/-- The four partial results merged. -/
def merged (W : Four F) := k0_pay21 (F := F) (d639 W) (d641 W) (d646 W) (d648 W)

/-- What every device puts in its first slots, from what every device staged. -/
def fourOf (D : Dev nD → Ins F) (s : Fin 4 → Dev nD) : Four F :=
  ⟨fun k => k0_pay4 (or1 (s k) (D (s k))), fun k => k0_pay5 (mr1 (s k) (D (s k))), fun k => k0_pay6 (lr1 (s k) (D (s k)))⟩
/-- The devices whose partial results end in the slots of device `c`. -/
def zs (c : Dev nD) : Fin 4 → Dev nD := ![c, zp 2 c, zp 1 c, zp 0 c]
def xs (c : Dev nD) : Fin 4 → Dev nD := ![c, xp 0 c, xp 1 c, xp 2 c]
def valsOf (D : Dev nD → Ins F) : Vals F where
  O c := k0_pay4 (or1 c (D c))
  M c := k0_pay5 (mr1 c (D c))
  L c := k0_pay6 (lr1 c (D c))
  X c := merged (fourOf D (zs c))

end Cert.PagedProof
end
-- ==== Proof.Soft.lean ====
module

public import Idealize.ShloMosaic.PureOps.Ideal.Laws

@[expose] public section

/-! The mathematics of the merged softmax: sums over the extended reals with real weights, the merge of four partial
results each taken from its own maximum, and the count of pages as a sum over the table. -/

noncomputable section

namespace Cert.PagedProof

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem mul_sum_nn {ι : Type} (c : ℝ) (hc : 0 ≤ c) (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of real weights that are not negative goes out of a product. -/
theorem sum_mul_nn {ι : Type} (s : Finset ι) (f : ι → ℝ) (hf : ∀ i, 0 ≤ f i) (v : EReal) :
    ((∑ i ∈ s, f i : ℝ) : EReal) * v = ∑ i ∈ s, (f i : EReal) * v := by
  classical
  induction s using Finset.induction_on with
  | empty => simp
  | insert a s ha ih =>
    rw [Finset.sum_insert ha, Finset.sum_insert ha, EReal.coe_add,
      EReal.right_distrib_of_nonneg (by exact_mod_cast hf a) (by exact_mod_cast Finset.sum_nonneg fun i _ => hf i), ih]

theorem div_coe (x : EReal) (y : ℝ) (hy : y ≠ 0) : Ideal.div x (y : EReal) = x * ((y⁻¹ : ℝ) : EReal) := by
  unfold Ideal.div
  rw [if_neg (by exact_mod_cast hy), EReal.coe_inv]

/-- Four partial softmax results, each weighed from its own reference value `m i`, brought to a common one and
normalized: the reference values drop out. -/
theorem merge {ι : Type} [Fintype ι] (m : Fin 4 → ℝ) (M : ℝ) (σ w : Fin 4 → ι → ℝ) (hw : ∀ i x, 0 ≤ w i x)
    (v : Fin 4 → ι → EReal) (hW : 0 < ∑ i, ∑ x, w i x * Real.exp (σ i x)) :
    Ideal.div (∑ i, (∑ x, ((Real.exp (σ i x - m i) * w i x : ℝ) : EReal) * v i x) * ((Real.exp (m i - M) : ℝ) : EReal))
        ((∑ i, (∑ x, Real.exp (σ i x - m i) * w i x) * Real.exp (m i - M) : ℝ) : EReal)
      = ∑ i, ∑ x, ((w i x * Real.exp (σ i x) / (∑ i, ∑ x, w i x * Real.exp (σ i x)) : ℝ) : EReal) * v i x := by
  have hd : (∑ i, (∑ x, Real.exp (σ i x - m i) * w i x) * Real.exp (m i - M)) = (∑ i, ∑ x, w i x * Real.exp (σ i x)) * Real.exp (-M) := by
    rw [Finset.sum_mul]
    refine Finset.sum_congr rfl fun i _ => ?_
    rw [Finset.sum_mul, Finset.sum_mul]
    refine Finset.sum_congr rfl fun x _ => ?_
    have e : Real.exp (σ i x - m i) * Real.exp (m i - M) = Real.exp (σ i x) * Real.exp (-M) := by
      rw [← Real.exp_add, ← Real.exp_add]; congr 1; ring
    calc _ = w i x * (Real.exp (σ i x - m i) * Real.exp (m i - M)) := by ring
      _ = _ := by rw [e]; ring
  rw [hd]
  generalize hWd : (∑ i, ∑ x, w i x * Real.exp (σ i x)) = W at hW ⊢
  have hE := Real.exp_pos (-M)
  have hp : 0 < W * Real.exp (-M) := mul_pos hW hE
  rw [div_coe _ _ hp.ne', mul_sum_nn _ (inv_pos.mpr hp).le]
  refine Finset.sum_congr rfl fun i _ => ?_
  rw [mul_sum_nn _ (Real.exp_pos _).le, mul_sum_nn _ (inv_pos.mpr hp).le]
  refine Finset.sum_congr rfl fun x _ => ?_
  rw [mul_assoc, ← EReal.coe_mul, mul_comm, ← mul_assoc, ← EReal.coe_mul]
  congr 2
  have e : Real.exp (m i - M) * Real.exp (σ i x - m i) = Real.exp (σ i x) * Real.exp (-M) := by
    rw [← Real.exp_add, ← Real.exp_add]; congr 1; ring
  calc _ = (Real.exp (m i - M) * Real.exp (σ i x - m i)) * w i x * (W * Real.exp (-M))⁻¹ := by ring
    _ = _ := by rw [e]; field_simp

/-- A softmax taken from any reference value, normalized term by term. -/
theorem softmax {ι : Type} [Fintype ι] (μ : ℝ) (s w : ι → ℝ) (v : ι → EReal) (hW : 0 < ∑ x, w x * Real.exp (s x)) :
    ∑ x, Ideal.div ((w x * Real.exp (s x - μ) : ℝ) : EReal) ((∑ x, w x * Real.exp (s x - μ) : ℝ) : EReal) * v x
      = ∑ x, ((w x * Real.exp (s x) / (∑ x, w x * Real.exp (s x)) : ℝ) : EReal) * v x := by
  have hd : (∑ x, w x * Real.exp (s x - μ)) = (∑ x, w x * Real.exp (s x)) * Real.exp (-μ) := by
    rw [Finset.sum_mul]
    refine Finset.sum_congr rfl fun x _ => ?_
    rw [sub_eq_add_neg, Real.exp_add]; ring
  rw [hd]
  generalize hWd : (∑ x, w x * Real.exp (s x)) = W at hW ⊢
  have hE := Real.exp_pos (-μ)
  have hp : 0 < W * Real.exp (-μ) := mul_pos hW hE
  refine Finset.sum_congr rfl fun x _ => ?_
  rw [div_coe _ _ hp.ne', ← EReal.coe_mul]
  congr 2
  rw [sub_eq_add_neg, Real.exp_add]
  field_simp

/-- A sum over pages, each as often as the live entries of a table name it, is the sum over those entries. -/
theorem by_pages {A : Type} [AddCommMonoid A] (live : Fin 128 → Prop) [DecidablePred live] (pg : Fin 128 → ℕ)
    (hpg : ∀ j, live j → pg j < 512) (z : Fin 4 → Fin 4) (hz : Function.Bijective z) (G : ℕ → A) :
    ∑ i : Fin 4, ∑ p : Fin 128, ∑ j : Fin 128, (if pg j = 128 * (z i).val + p.val ∧ live j then G (128 * (z i).val + p.val) else 0)
      = ∑ j : Fin 128, if live j then G (pg j) else 0 := by
  rw [Finset.sum_congr rfl fun i _ => Finset.sum_comm, Finset.sum_comm]
  refine Finset.sum_congr rfl fun j _ => ?_
  by_cases hl : live j
  · have h5 := hpg j hl
    obtain ⟨i0, hi0⟩ := hz.2 ⟨pg j / 128, by omega⟩
    have hi0' : (z i0).val = pg j / 128 := congrArg Fin.val hi0
    rw [if_pos hl, Finset.sum_eq_single i0, Finset.sum_eq_single (⟨pg j % 128, Nat.mod_lt _ (by decide)⟩ : Fin 128)]
    · have e : 128 * (z i0).val + pg j % 128 = pg j := by omega
      simp only [e]
      rw [if_pos ⟨trivial, hl⟩]
    · intro p _ hne
      refine if_neg fun h => hne (Fin.ext ?_)
      have := h.1; have := p.isLt
      show p.val = pg j % 128
      omega
    · intro h; exact absurd (Finset.mem_univ _) h
    · intro i _ hne
      refine Finset.sum_eq_zero fun p _ => if_neg fun h => hne (hz.1 (Fin.ext ?_))
      have := h.1; have := p.isLt
      omega
    · intro h; exact absurd (Finset.mem_univ _) h
  · rw [if_neg hl]
    exact Finset.sum_eq_zero fun i _ => Finset.sum_eq_zero fun p _ => if_neg fun h => hl h.2

end Cert.PagedProof
end
-- ==== Proof.Pointwise.lean ====
module

public import proofs.«01_k».proof.Proof.Chain
public import proofs.«01_k».proof.Proof.Soft
public import Idealize.ShloMosaic.Lib.IdealHost
public import Idealize.ShloMosaic.Lib.ValueLayout
public import Idealize.ShloMosaic.Lib.MatmulPlain
public import Mathlib.Data.Finset.Fold

@[expose] public section
set_option maxRecDepth 16384
noncomputable section
namespace Cert.PagedProof
open Cert.KernelIdeal Cert.KernelIdeal.Gen
open Idealize.ShloMosaic Idealize.ShloMosaic.ValueIdx
open scoped BigOperators

/-! # The kernel's steps, read at an index over the extended reals -/

variable {α : Type}

/-! ## Layout -/

theorem cast_ab_ab1 {a b : ℕ} (x : (⟨2, ![a, b]⟩ : Shape).Idx → α) (h : (⟨2, ![a, b]⟩ : Shape).ShapeCasts ⟨3, ![a, b, 1]⟩)
    (i : Fin a) (j : Fin b) (k : Fin 1) : shapeCast ⟨3, ![a, b, 1]⟩ x h (ix3 i j k) = x (ix2 i j) :=
  shapeCast_apply x h _ _ (by
    have hk : k.val = 0 := by omega
    rw [Shape.rowMajor_val_three, Shape.rowMajor_val_two]
    show i.val * b + j.val = (i.val * b + j.val) * 1 + k.val
    omega)
theorem cast_a1_a11 {a : ℕ} (x : (⟨2, ![a, 1]⟩ : Shape).Idx → α) (h : (⟨2, ![a, 1]⟩ : Shape).ShapeCasts ⟨3, ![a, 1, 1]⟩)
    (i : Fin a) (j k : Fin 1) : shapeCast ⟨3, ![a, 1, 1]⟩ x h (ix3 i j k) = x (ix2 i 0) :=
  shapeCast_apply x h _ _ (by
    rw [Shape.rowMajor_val_three, Shape.rowMajor_val_two]
    show i.val * 1 + 0 = (i.val * 1 + j.val) * 1 + k.val
    omega)
theorem cast_a1bc {a b c : ℕ} (x : (⟨4, ![a, 1, b, c]⟩ : Shape).Idx → α) (h : (⟨4, ![a, 1, b, c]⟩ : Shape).ShapeCasts ⟨3, ![a, b, c]⟩)
    (i : Fin a) (j : Fin b) (k : Fin c) : shapeCast ⟨3, ![a, b, c]⟩ x h (ix3 i j k) = x (ix4 i 0 j k) :=
  shapeCast_apply x h _ _ (by
    rw [Shape.rowMajor_val_three, Shape.rowMajor_val_four]
    show ((i.val * 1 + 0) * b + j.val) * c + k.val = (i.val * b + j.val) * c + k.val
    rw [Nat.mul_one, Nat.add_zero])
theorem cast_abc_a1bc {a b c : ℕ} (x : (⟨3, ![a, b, c]⟩ : Shape).Idx → α) (h : (⟨3, ![a, b, c]⟩ : Shape).ShapeCasts ⟨4, ![a, 1, b, c]⟩)
    (i : Fin a) (u : Fin 1) (j : Fin b) (k : Fin c) : shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [Nat.mul_one, hu, Nat.add_zero])
theorem cast_self {s : Shape} (x : s.Idx → α) (h : s.ShapeCasts s) (i : s.Idx) : shapeCast s x h i = x i :=
  shapeCast_apply x h i i rfl

theorem bc_lane (x : S4x16x1.Idx → α) (i : Fin 4) (j : Fin 16) (k : Fin 128) :
    broadcastTo S4x16x128 x broadcasts_S4x16x1_S4x16x128 (ix3 i j k) = x (ix3 i j 0) :=
  broadcastTo_apply _ _ _ _ fun a => match a with | ⟨0, _⟩ => rfl | ⟨1, _⟩ => rfl | ⟨2, _⟩ => rfl
theorem bc_lane64 (x : S4x16x1.Idx → α) (i : Fin 4) (j : Fin 16) (k : Fin 64) :
    broadcastTo S4x16x64 x broadcasts_S4x16x1_S4x16x64 (ix3 i j k) = x (ix3 i j 0) :=
  broadcastTo_apply _ _ _ _ fun a => match a with | ⟨0, _⟩ => rfl | ⟨1, _⟩ => rfl | ⟨2, _⟩ => rfl
theorem bc_head (x : S1x16x128.Idx → α) (i : Fin 4) (j : Fin 16) (k : Fin 128) :
    broadcastTo S4x16x128 x broadcasts_S1x16x128_S4x16x128 (ix3 i j k) = x (ix3 0 j k) :=
  broadcastTo_apply _ _ _ _ fun a => match a with | ⟨0, _⟩ => rfl | ⟨1, _⟩ => rfl | ⟨2, _⟩ => rfl
theorem bc_tab (x : S16x128x1.Idx → α) (i : Fin 16) (j k : Fin 128) :
    broadcastTo S16x128x128 x broadcasts_S16x128x1_S16x128x128 (ix3 i j k) = x (ix3 i j 0) :=
  broadcastTo_apply _ _ _ _ fun a => match a with | ⟨0, _⟩ => rfl | ⟨1, _⟩ => rfl | ⟨2, _⟩ => rfl
theorem bc_len (x : S16x1x1.Idx → α) (i : Fin 16) (j k : Fin 128) :
    broadcastTo S16x128x128 x broadcasts_S16x1x1_S16x128x128 (ix3 i j k) = x (ix3 i 0 0) :=
  broadcastTo_apply _ _ _ _ fun a => match a with | ⟨0, _⟩ => rfl | ⟨1, _⟩ => rfl | ⟨2, _⟩ => rfl

theorem lift_lane (i : Fin 4) (j : Fin 16) (k : Fin 128) : reduces_S4x16x128_S4x16.lift (ix2 i j) k = ix3 i j k := by
  funext a; apply Fin.ext
  match a with | ⟨0, _⟩ => rfl | ⟨1, _⟩ => rfl | ⟨2, _⟩ => rfl
theorem lift_row (i : Fin 16) (j k : Fin 128) : reduces_S16x128x128_S16x128.lift (ix2 i j) k = ix3 i k j := by
  funext a; apply Fin.ext
  match a with | ⟨0, _⟩ => rfl | ⟨1, _⟩ => rfl | ⟨2, _⟩ => rfl

theorem kp_at (k : Fin 16) (f : (⟨S16x4x64x128, .bf16⟩ : BufTy).Contents (Elt Ideal)) (u : Fin 1) (h : Fin 4) (d : Fin 64) (p : Fin 128) :
    kp k f (ix4 u h d p) = f (ix4 k h d p) := by
  unfold kp
  refine congrArg f (funext fun a => Fin.ext ?_)
  have hu : u.val = 0 := by omega
  match a with
  | ⟨0, _⟩ => show k.val + 1 * u.val = k.val; omega
  | ⟨1, _⟩ => show 0 + 1 * h.val = h.val; omega
  | ⟨2, _⟩ => show 0 + 1 * d.val = d.val; omega
  | ⟨3, _⟩ => show 0 + 1 * p.val = p.val; omega

/-! ## Contractions -/

theorem qk_at {φ₁ φ₂ : FTy} (A : FVec Ideal S4x16x64 φ₁) (B : FVec Ideal S4x64x128 φ₂) (h : Fin 4) (b : Fin 16) (p : Fin 128) :
    matmul dot_S4x16x64_S4x64x128_S4x16x128_2_1_1_2_0_0 none A B (constant S4x16x128 .f32 0x00000000#32) (ix3 h b p)
      = ∑ d : Fin 64, A (ix3 h b d) * B (ix3 h d p) := by
  let D := dot_S4x16x64_S4x64x128_S4x16x128_2_1_1_2_0_0
  refine (Ideal.matmul_constant_zero_apply D none A B (ix3 h b p)).trans ?_
  rw [← Equiv.sum_comp (contrEquiv1 D 64 rfl rfl).symm]
  refine Finset.sum_congr rfl fun d _ => ?_
  have hk := contrEquiv1_symm_val D 64 rfl rfl d
  have el : D.lhsIdx (ix3 h b p) ((contrEquiv1 D 64 rfl rfl).symm d) = ix3 h b d := by
    funext a; apply Fin.ext
    match a with | ⟨0, _⟩ => rfl | ⟨1, _⟩ => rfl | ⟨2, _⟩ => exact hk
  have er : D.rhsIdx (ix3 h b p) ((contrEquiv1 D 64 rfl rfl).symm d) = ix3 h d p := by
    funext a; apply Fin.ext
    match a with | ⟨0, _⟩ => rfl | ⟨1, _⟩ => exact hk | ⟨2, _⟩ => rfl
  exact congrArg₂ (fun x y : EReal => x * y) (congrArg A el) (congrArg B er)

theorem pv_at {φ₁ φ₂ : FTy} (A : FVec Ideal S4x16x128 φ₁) (B : FVec Ideal S4x64x128 φ₂) (h : Fin 4) (b : Fin 16) (d : Fin 64) :
    matmul dot_S4x16x128_S4x64x128_S4x16x64_2_2_1_1_0_0 none A B (constant S4x16x64 .f32 0x00000000#32) (ix3 h b d)
      = ∑ p : Fin 128, A (ix3 h b p) * B (ix3 h d p) := by
  let D := dot_S4x16x128_S4x64x128_S4x16x64_2_2_1_1_0_0
  refine (Ideal.matmul_constant_zero_apply D none A B (ix3 h b d)).trans ?_
  rw [← Equiv.sum_comp (contrEquiv1 D 128 rfl rfl).symm]
  refine Finset.sum_congr rfl fun p _ => ?_
  have hk := contrEquiv1_symm_val D 128 rfl rfl p
  have el : D.lhsIdx (ix3 h b d) ((contrEquiv1 D 128 rfl rfl).symm p) = ix3 h b p := by
    funext a; apply Fin.ext
    match a with | ⟨0, _⟩ => rfl | ⟨1, _⟩ => rfl | ⟨2, _⟩ => exact hk
  have er : D.rhsIdx (ix3 h b d) ((contrEquiv1 D 128 rfl rfl).symm p) = ix3 h d p := by
    funext a; apply Fin.ext
    match a with | ⟨0, _⟩ => rfl | ⟨1, _⟩ => rfl | ⟨2, _⟩ => exact hk
  exact congrArg₂ (fun x y : EReal => x * y) (congrArg A el) (congrArg B er)

theorem sel_at {φ₁ φ₂ : FTy} (A : FVec Ideal S4x16 φ₁) (B : FVec Ideal S16x16x64 φ₂) (h : Fin 4) (b : Fin 16) (d : Fin 64) :
    matmul dot_S4x16_S16x16x64_S4x16x64_1_1_0_02_n_n none A B (constant S4x16x64 .f32 0x00000000#32) (ix3 h b d)
      = ∑ x : Fin 16, A (ix2 h x) * B (ix3 b x d) := by
  let D := dot_S4x16_S16x16x64_S4x16x64_1_1_0_02_n_n
  refine (Ideal.matmul_constant_zero_apply D none A B (ix3 h b d)).trans ?_
  rw [← Equiv.sum_comp (contrEquiv1 D 16 rfl rfl).symm]
  refine Finset.sum_congr rfl fun x _ => ?_
  have hk := contrEquiv1_symm_val D 16 rfl rfl x
  have el : D.lhsIdx (ix3 h b d) ((contrEquiv1 D 16 rfl rfl).symm x) = ix2 h x := by
    funext a; apply Fin.ext
    match a with | ⟨0, _⟩ => rfl | ⟨1, _⟩ => exact hk
  have er : D.rhsIdx (ix3 h b d) ((contrEquiv1 D 16 rfl rfl).symm x) = ix3 b x d := by
    funext a; apply Fin.ext
    match a with | ⟨0, _⟩ => rfl | ⟨1, _⟩ => exact hk | ⟨2, _⟩ => rfl
  exact congrArg₂ (fun x y : EReal => x * y) (congrArg A el) (congrArg B er)

/-! ## Constants -/

/-- The scale of the scores. -/
abbrev scale : EReal := Ideal.ofBits .f32 0x3E000000#32
/-- The score of a page no live entry names. -/
abbrev low : EReal := Ideal.ofBits .f32 0xF149F2CA#32

theorem scale_eq : scale = ((1 / 8 : ℝ) : EReal) := by
  unfold scale
  simp [Ideal.ofBits, Ideal.ieee, -EReal.coe_mul]; norm_num
theorem low_real : ∃ r : ℝ, low = (r : EReal) := by
  unfold low
  simp [Ideal.ofBits, Ideal.ieee, -EReal.coe_mul, -EReal.coe_neg]

/-! ## One page of scores, of weights; one step of each accumulator -/

theorem score_at (w : FVec Ideal S1x16x128 .f32) (q : FVec Ideal S4x16x64 .f32) (k : Vec Ideal S1x4x64x128 .bf16) (h : Fin 4) (b : Fin 16) (p : Fin 128) :
    k0_pay34 w q k (ix3 h b p)
      = if 0 < w (ix3 0 b p) then (∑ d : Fin 64, q (ix3 h b d) * k (ix4 0 h d p)) * scale else low := by
  unfold k0_pay34
  rw [select_apply, bc_head, cast_self]
  show Scalar.select (Ideal.cmp .ogt (w (ix3 0 b p)) (Ideal.ofBits .f32 0x00000000#32)) (_ * scale) low = _
  rw [Ideal.ofBits_zero_f32, qk_at]
  have e : ∀ d : Fin 64, shapeCast S4x64x128 k shapeCasts_S1x4x64x128_S4x64x128 (ix3 h d p) = k (ix4 0 h d p) :=
    fun d => shapeCast_1abc_abc_apply _ _ _ _ _
  rw [Finset.sum_congr rfl fun d _ => by rw [e d]]
  by_cases hw : (0 : EReal) < w (ix3 0 b p)
  · rw [if_pos hw]
    have : Ideal.cmp .ogt (w (ix3 0 b p)) 0 = 1#1 := by unfold Ideal.cmp; simp [hw]
    rw [this]; rfl
  · rw [if_neg hw]
    have : Ideal.cmp .ogt (w (ix3 0 b p)) 0 = 0#1 := by unfold Ideal.cmp; simp [hw]
    rw [this]; rfl

theorem weight_at (w : FVec Ideal S1x16x128 .f32) (s : FVec Ideal S4x16x128 .f32) (m : FVec Ideal S4x16 .f32) (h : Fin 4) (b : Fin 16) (p : Fin 128) :
    k0_pay62 w s m (ix3 h b p) = Ideal.exp (s (ix3 h b p) - m (ix2 h b)) * w (ix3 0 b p) := by
  unfold k0_pay62
  show Ideal.exp (s (ix3 h b p) - broadcastTo S4x16x128 _ _ (ix3 h b p)) * broadcastTo S4x16x128 _ _ (ix3 h b p) = _
  rw [bc_lane, bc_head, cast_ab_ab1]

/-- The sum over a page added to an accumulator. -/
def lStep (l : FVec Ideal S4x16 .f32) (w : FVec Ideal S4x16x128 .f32) : FVec Ideal S4x16 .f32 :=
  addf l (multiReduction .add [2] S4x16 w 0x00000000#32 reduces_S4x16x128_S4x16 (.inl rfl) rfl)
theorem lStep_at (l : FVec Ideal S4x16 .f32) (w : FVec Ideal S4x16x128 .f32) (h : Fin 4) (b : Fin 16) :
    lStep l w (ix2 h b) = l (ix2 h b) + ∑ p : Fin 128, w (ix3 h b p) := by
  unfold lStep
  refine congrArg (l (ix2 h b) + ·) ((Ideal.multiReduction_add_single _ _ _ _ _ _).trans ?_)
  exact Finset.sum_congr rfl fun p _ => congrArg w (lift_lane h b p)

/-- A page's weighted values added to an accumulator. -/
def oStep (o : FVec Ideal S4x16x64 .f32) (w : FVec Ideal S4x16x128 .f32) (v : Vec Ideal S1x4x64x128 .bf16) : FVec Ideal S4x16x64 .f32 :=
  addf o (matmul dot_S4x16x128_S4x64x128_S4x16x64_2_2_1_1_0_0 none w (shapeCast S4x64x128 v shapeCasts_S1x4x64x128_S4x64x128 : FVec Ideal S4x64x128 .bf16) (constant S4x16x64 .f32 0x00000000#32))
theorem oStep_at (o : FVec Ideal S4x16x64 .f32) (w : FVec Ideal S4x16x128 .f32) (v : Vec Ideal S1x4x64x128 .bf16) (h : Fin 4) (b : Fin 16) (d : Fin 64) :
    oStep o w v (ix3 h b d) = o (ix3 h b d) + ∑ p : Fin 128, w (ix3 h b p) * v (ix4 0 h d p) := by
  unfold oStep
  refine congrArg (o (ix3 h b d) + ·) ((pv_at _ _ h b d).trans (Finset.sum_congr rfl fun p _ => ?_))
  exact congrArg (w (ix3 h b p) * ·) (shapeCast_1abc_abc_apply _ _ _ _ _)

/-- A page's largest score. -/
def pMax (s : FVec Ideal S4x16x128 .f32) : FVec Ideal S4x16 .f32 :=
  multiReduction .maximumf [2] S4x16 s 0xFF800000#32 reduces_S4x16x128_S4x16 (.inl rfl) rfl
theorem pMax_lt (s : FVec Ideal S4x16x128 .f32) (h : Fin 4) (b : Fin 16) (hs : ∀ p, s (ix3 h b p) < ⊤) : pMax s (ix2 h b) < ⊤ := by
  unfold pMax
  refine lt_of_eq_of_lt (Ideal.multiReduction_maximumf_single _ _ _ _ _ _) ?_
  refine (Finset.fold_max_lt (c := (⊤ : EReal))).2 ⟨?_, fun p _ => ?_⟩
  · show Ideal.ofBits .f32 0xFF800000#32 < ⊤
    simp [Ideal.ofBits, Ideal.ieee]
  · show s (reduces_S4x16x128_S4x16.lift (ix2 h b) p) < ⊤
    rw [show reduces_S4x16x128_S4x16.lift (ix2 h b) p = ix3 h b p from lift_lane h b p]; exact hs p

end Cert.PagedProof
end
-- ==== Proof.Words.lean ====
module

public import proofs.«01_k».proof.Proof.Pointwise

@[expose] public section
set_option maxRecDepth 16384
noncomputable section
namespace Cert.PagedProof
open Cert.KernelIdeal Cert.KernelIdeal.Gen
open Idealize.ShloMosaic Idealize.ShloMosaic.ValueIdx
open scoped BigOperators

/-! # The count of the table's entries naming a page, and a device's own heads of the queries -/

theorem bit_at (b : BitVec 1) : (FloatOps.sitofp .f32 (b.setWidth 32) : Ideal .f32) = ((if b = 1#1 then (1 : ℝ) else 0 : ℝ) : EReal) := by
  show ((((b.setWidth 32).toInt : ℤ) : ℝ) : EReal) = _
  rcases (by decide : ∀ x : BitVec 1, x = 0#1 ∨ x = 1#1) b with h | h <;> subst h
  · rw [show ((0#1 : BitVec 1).setWidth 32).toInt = 0 by decide, if_neg (by decide)]; norm_num
  · rw [show ((1#1 : BitVec 1).setWidth 32).toInt = 1 by decide, if_pos rfl]; norm_num
theorem and_bit (x y : Bool) : IntOp.andi (BitVec.ofBool x) (BitVec.ofBool y) = 1#1 ↔ x = true ∧ y = true := by
  cases x <;> cases y <;> decide
theorem slt_ofNat (n : ℕ) (hn : n < 2 ^ 31) (y : BitVec 32) : ((BitVec.ofNat 32 n).slt y = true) ↔ (n : ℤ) < y.toInt := by
  have e : (BitVec.ofNat 32 n).toInt = n := by rw [BitVec.toInt_ofNat']; simp only [Int.bmod]; omega
  rw [BitVec.slt_iff_toInt_lt, e]
theorem eq_ofNat (x : BitVec 32) (n : ℕ) (hn : n < 2 ^ 32) : ((x == BitVec.ofNat 32 n) = true) ↔ x.toNat = n := by
  rw [beq_iff_eq, ← BitVec.toNat_inj, BitVec.toNat_ofNat, Nat.mod_eq_of_lt hn]

theorem zword (c : Dev nD) : Scalar.muli (Scalar.remsi (Scalar.divsi (Dev.word c) 1#32) 4#32) 128#32 = BitVec.ofNat 32 (128 * (c.val % 4)) := by
  revert c; decide +kernel
theorem gword (c : Dev nD) : Scalar.muli (Scalar.addi (Scalar.muli 2#32 (Scalar.remsi (Scalar.divsi (Dev.word c) 8#32) 2#32))
    (Scalar.remsi (Scalar.divsi (Dev.word c) 4#32) 2#32)) 4#32 = BitVec.ofNat 32 (4 * (c.val / 4)) := by
  revert c; decide +kernel

/-- How often the live entries of sequence `b` name page `p` of the keys' block `z`. -/
def times (bt : (⟨S16x128, .i32⟩ : BufTy).Contents (Elt Ideal)) (ln : (⟨S16x1, .i32⟩ : BufTy).Contents (Elt Ideal)) (z : ℕ) (b : Fin 16) (p : Fin 128) : ℝ :=
  ∑ j : Fin 128, if (bt (ix2 b j) : BitVec 32).toNat = 128 * z + p.val ∧ (j.val : ℤ) < (ln (ix2 b 0) : BitVec 32).toInt then 1 else 0

theorem times_nonneg (bt ln z b p) : 0 ≤ times bt ln z b p :=
  Finset.sum_nonneg fun j _ => by split_ifs <;> norm_num

theorem cnt_at (c : Dev nD) (D : Ins Ideal) (b : Fin 16) (p : Fin 128) :
    cnt c D (ix2 b p) = ((times D.bt D.ln (c.val % 4) b p : ℝ) : EReal) := by
  unfold cnt k0_pay26
  rw [cast_self]
  refine (Ideal.multiReduction_add_single _ _ _ _ _ _).trans ?_
  unfold times
  rw [coe_sum]
  refine Finset.sum_congr rfl fun (j : Fin 128) _ => ?_
  rw [show reduces_S16x128x128_S16x128.lift (ix2 b p) j = ix3 b j p from lift_row b p j]
  refine (bit_at _).trans ?_
  congr 1
  refine if_congr ?_ rfl rfl
  show IntOp.andi (IntOp.cmpi .eq (broadcastTo S16x128x128 _ _ (ix3 b j p)) (IntOp.addi (Scalar.muli (Scalar.remsi (Scalar.divsi (Dev.word c) 1#32) 4#32) 128#32) (BitVec.ofNat 32 (0 * 128 + p.val))))
      (IntOp.cmpi .slt (BitVec.ofNat 32 (0 * 128 + j.val)) (broadcastTo S16x128x128 _ _ (ix3 b j p))) = 1#1 ↔ _
  rw [zword, bc_tab, bc_len, cast_ab_ab1, cast_a1_a11, cast_self]
  unfold k0_pay3
  rw [cast_self]
  have hz : 128 * (c.val % 4) + p.val < 2 ^ 31 := by have := p.isLt; omega
  have e : IntOp.addi (BitVec.ofNat 32 (128 * (c.val % 4))) (BitVec.ofNat 32 (0 * 128 + p.val)) = BitVec.ofNat 32 (128 * (c.val % 4) + p.val) := by
    show BitVec.ofNat 32 _ + BitVec.ofNat 32 _ = _
    rw [← BitVec.ofNat_add]; congr 1; omega
  rw [e]
  refine (and_bit _ _).trans (and_congr (eq_ofNat _ _ (by omega)) ?_)
  refine (slt_ofNat _ (by have := j.isLt; omega) _).trans ?_
  rw [Nat.zero_mul, Nat.zero_add]

theorem c15_at (c : Dev nD) (D : Ins Ideal) (u : Fin 1) (b : Fin 16) (p : Fin 128) :
    c15 c D (ix3 u b p) = ((times D.bt D.ln (c.val % 4) b p : ℝ) : EReal) := by
  unfold c15 k0_pay30
  exact (shapeCast_ab_1ab_apply _ _ _ _ _).trans (cnt_at c D b p)

/-- Head `h` of device `c`, among the 16 heads. -/
def headOf (c : Dev nD) (h : Fin 4) : Fin 16 := ⟨4 * (c.val / 4) + h.val, by
  have hc : c.val < 16 := c.isLt
  have := h.isLt
  omega⟩

theorem c29_at (c : Dev nD) (D : Ins Ideal) (h : Fin 4) (b : Fin 16) (d : Fin 64) :
    c29 c D (ix3 h b d) = D.q (ix4 b 0 (headOf c h) d) := by
  unfold c29 k0_pay31
  refine (sel_at _ _ h b d).trans ?_
  have key : ∀ x : Fin 16, (sitofp .f32 (extui 32 (cmpi .eq (iota .tc S4x16 32 [1] iota_S4x16_d1_w32) (addi (iota .tc S4x16 32 [0] iota_S4x16_d0_w32)
      (broadcast S4x16 (Scalar.muli (Scalar.addi (Scalar.muli 2#32 (Scalar.remsi (Scalar.divsi (Dev.word c) 8#32) 2#32))
    (Scalar.remsi (Scalar.divsi (Dev.word c) 4#32) 2#32)) 4#32)))) natLt_1_32) : FVec Ideal S4x16 .f32) (ix2 h x)
      = ((if x = headOf c h then (1 : ℝ) else 0 : ℝ) : EReal) := by
    intro x
    refine (bit_at _).trans ?_
    congr 1
    refine if_congr ?_ rfl rfl
    show IntOp.cmpi .eq (BitVec.ofNat 32 (0 * 16 + x.val)) (IntOp.addi (BitVec.ofNat 32 (0 * 4 + h.val)) (Scalar.muli (Scalar.addi (Scalar.muli 2#32 (Scalar.remsi (Scalar.divsi (Dev.word c) 8#32) 2#32))
    (Scalar.remsi (Scalar.divsi (Dev.word c) 4#32) 2#32)) 4#32)) = 1#1 ↔ _
    rw [gword]
    have hc : c.val < 16 := c.isLt
    have e : IntOp.addi (BitVec.ofNat 32 (0 * 4 + h.val)) (BitVec.ofNat 32 (4 * (c.val / 4))) = BitVec.ofNat 32 (4 * (c.val / 4) + h.val) := by
      show BitVec.ofNat 32 _ + BitVec.ofNat 32 _ = _
      rw [← BitVec.ofNat_add]; congr 1; omega
    rw [e]
    have t : ∀ q : Bool, BitVec.ofBool q = 1#1 ↔ q = true := by decide
    refine (t _).trans ((eq_ofNat _ _ (by have := h.isLt; omega)).trans ?_)
    rw [BitVec.toNat_ofNat, Nat.mod_eq_of_lt (by have := x.isLt; omega), Fin.ext_iff]
    show 0 * 16 + x.val = _ ↔ x.val = 4 * (c.val / 4) + h.val
    rw [Nat.zero_mul, Nat.zero_add]
  rw [Finset.sum_eq_single (headOf c h)]
  · refine (congrArg₂ (fun x y : EReal => x * y) (key (headOf c h)) (cast_a1bc _ _ b (headOf c h) d)).trans ?_
    rw [if_pos rfl, cast_self]
    exact (one_mul _)
  · intro x _ hne
    refine (congrArg₂ (fun x y : EReal => x * y) (key x) rfl).trans ?_
    rw [if_neg hne]
    exact zero_mul _
  · intro hn; exact absurd (Finset.mem_univ _) hn

end Cert.PagedProof
end
-- ==== Proof.RefRead.lean ====
module

public import proofs.«01_k».proof.Proof.Gen.ReferenceIdeal.Run
public import proofs.«01_k».proof.Proof.Words
public import Idealize.ShloMosaic.Lib.KernelVsHost

@[expose] public section
set_option maxRecDepth 16384
noncomputable section
namespace Cert.PagedProof.Plain
open Cert.ReferenceIdeal Cert.ReferenceIdeal.Gen Cert.PagedProof
open Idealize.ShloMosaic Idealize.ShloMosaic.ValueIdx Idealize.ShloMosaic.TcCoe
open scoped BigOperators

/-! # The reference's operations, read at an index -/

/-- The pages named, a negative one counted from the end. -/
def row (bt : IVec S16x128 32) : IVec S16x128x1 32 :=
  broadcastInDim S16x128x1 ![0, 1] bcast_S16x128_S16x128x1_0_1 (select (cmpi .slt bt (broadcastInDim S16x128 ![] bcast_S_S16x128 (constantI S_ 32 0#32))) (addi bt (broadcastInDim S16x128 ![] bcast_S_S16x128 (constantI S_ 32 512#32))) bt)
/-- The rows of the pages named. -/
def rows (x : FVec Ideal S512x16x16x64 .bf16) (bt : IVec S16x128 32) : FVec Ideal S16x2048x16x64 .f32 :=
  shapeCast S16x2048x16x64 (Host.gather gather_S512x16x16x64_S16x128x1_S16x128x16x16x64_234_0_n_n_0_2_1161664 (extf .f32 x bitsLt_bf16_f32) (row bt)) shapeCasts_S16x128x16x16x64_S16x2048x16x64
/-- The number of each key. -/
def num : IVec S1x2048 32 := broadcastInDim S1x2048 ![1] bcast_S2048_S1x2048_1 (iotaInDim S2048 32 0)
/-- The entry each key belongs to. -/
def entry : IVec S1x2048 32 :=
  select (andi (cmpi .ne (signi num) (broadcastInDim S1x2048 ![] bcast_S_S1x2048 (signi (id (constantI S_ 32 16#32))))) (cmpi .ne (Host.remsi num (broadcastInDim S1x2048 ![] bcast_S_S1x2048 (id (constantI S_ 32 16#32)))) (broadcastInDim S1x2048 ![] bcast_S_S1x2048 (constantI S_ 32 0#32)))) (subi (Host.divsi num (broadcastInDim S1x2048 ![] bcast_S_S1x2048 (id (constantI S_ 32 16#32)))) (broadcastInDim S1x2048 ![] bcast_S_S1x2048 (constantI S_ 32 1#32))) (Host.divsi num (broadcastInDim S1x2048 ![] bcast_S_S1x2048 (id (constantI S_ 32 16#32))))
/-- Which keys count. -/
def mask (ln : IVec S16 32) : IVec S16x16x1x2048 1 :=
  broadcastInDim S16x16x1x2048 ![0, 1, 2, 3] bcast_S16x1x1x2048_S16x16x1x2048_0_1_2_3 (broadcastInDim S16x1x1x2048 ![0, 3] bcast_S16x2048_S16x1x1x2048_0_3 (cmpi .slt (broadcastInDim S16x2048 ![0, 1] bcast_S1x2048_S16x2048_0_1 entry) (broadcastInDim S16x2048 ![0, 1] bcast_S16x1_S16x2048_0_1 (broadcastInDim S16x1 ![0] bcast_S16_S16x1_0 ln))))
/-- The scores, those that do not count at the lowest value. -/
def scores (q : FVec Ideal S16x1x16x64 .bf16) (k : FVec Ideal S512x16x16x64 .bf16) (bt : IVec S16x128 32) (ln : IVec S16 32) : FVec Ideal S16x16x1x2048 .f32 :=
  select (mask ln) (mulf (Host.dotGeneral dot_S16x1x16x64_S16x2048x16x64_S16x16x1x2048_3_3_1_1_02_02 none (extf .f32 q bitsLt_bf16_f32) (rows k bt)) (broadcastInDim S16x16x1x2048 ![] bcast_S_S16x16x1x2048 (constant S_ .f32 0x3E000000#32))) (broadcastInDim S16x16x1x2048 ![] bcast_S_S16x16x1x2048 (id (constant S_ .f32 0xFF800000#32)))
/-- The largest score. -/
def top (s : FVec Ideal S16x16x1x2048 .f32) : FVec Ideal S16x16x1 .f32 :=
  Host.reduce FloatOps.maximumf s (constant S_ .f32 0xFF800000#32) reducesTo_S16x16x1x2048_S16x16x1_d3 h_S_
/-- One value for every key. -/
def spread (x : FVec Ideal S16x16x1 .f32) : FVec Ideal S16x16x1x2048 .f32 :=
  broadcastInDim S16x16x1x2048 ![0, 1, 2, 3] bcast_S16x16x1x1_S16x16x1x2048_0_1_2_3 (broadcastInDim S16x16x1x1 ![0, 1, 2] bcast_S16x16x1_S16x16x1x1_0_1_2 x)
/-- The weights before they are made to sum to one. -/
def raw (s : FVec Ideal S16x16x1x2048 .f32) : FVec Ideal S16x16x1x2048 .f32 := Host.exp (subf s (spread (top s)))
/-- The sum of the weights. -/
def whole (e : FVec Ideal S16x16x1x2048 .f32) : FVec Ideal S16x16x1 .f32 :=
  Host.reduceAdd e (constant S_ .f32 0x00000000#32) reducesTo_S16x16x1x2048_S16x16x1_d3 h_S_
/-- The weights applied to the values. -/
def result (v : FVec Ideal S16x2048x16x64 .f32) (e : FVec Ideal S16x16x1x2048 .f32) : FVec Ideal S16x1x16x64 .f32 :=
  transpose S16x1x16x64 [0, 3, 1, 2] (Host.dotGeneral dot_S16x2048x16x64_S16x16x1x2048_S16x16x64x1_1_3_3_2_02_01 none v (Host.divf e (spread (whole e)))) transposes_S16x16x64x1_S16x1x16x64_0_3_1_2

theorem result_eq (m : (ℓ : Loc nD τ sig) → Buf (Elt Ideal) ℓ) (c : Dev nD) (q : FVec Ideal S16x1x16x64 .bf16) (k v : FVec Ideal S512x16x16x64 .bf16)
    (bt : IVec S16x128 32) (ln : IVec S16 32) (hq : m ((c.tc : Thread nD τ).loc main_arg0) = q) (hk : m ((c.tc : Thread nD τ).loc main_arg1) = k)
    (hv : m ((c.tc : Thread nD τ).loc main_arg2) = v) (hb : m ((c.tc : Thread nD τ).loc main_arg3) = bt) (hl : m ((c.tc : Thread nD τ).loc main_arg4) = ln) :
    Value.res_main_v41 m c = result (rows v bt) (raw (scores q k bt ln)) := by
  subst hq hk hv hb hl
  rfl

/-! ## Indices -/

/-- Key `kk` of entry `j`. -/
def key (j : Fin 128) (kk : Fin 16) : Fin 2048 := ⟨16 * j.val + kk.val, by omega⟩

/-- The page entry `j` names. -/
def pick (bt : IVec S16x128 32) (b : Fin 16) (j : Fin 128) : Fin 512 := ⟨min (row bt (ix3 b j 0)).toInt.toNat 511, by omega⟩

theorem row_at (bt : IVec S16x128 32) (b : Fin 16) (j : Fin 128) :
    row bt (ix3 b j 0) = Scalar.select (IntOp.cmpi .slt (bt (ix2 b j)) 0#32) (IntOp.addi (bt (ix2 b j)) 512#32) (bt (ix2 b j)) := by
  unfold row
  refine (broadcastInDim_apply _ _ _ (ix3 b j 0) (ix2 b j) fun a => match a with | ⟨0, _⟩ => rfl | ⟨1, _⟩ => rfl).trans ?_
  rfl

theorem pick_val (bt : IVec S16x128 32) (b : Fin 16) (j : Fin 128) (h0 : 0 ≤ (bt (ix2 b j) : BitVec 32).toInt) (h1 : (bt (ix2 b j) : BitVec 32).toInt < 512) :
    (pick bt b j).val = (bt (ix2 b j) : BitVec 32).toNat := by
  show min (row bt (ix3 b j 0)).toInt.toNat 511 = _
  rw [row_at]
  have hs : IntOp.cmpi .slt (bt (ix2 b j)) 0#32 = 0#1 := by
    show BitVec.ofBool ((bt (ix2 b j) : BitVec 32).slt 0#32) = 0#1
    have : ((bt (ix2 b j) : BitVec 32).slt 0#32) = false := by
      rw [Bool.eq_false_iff, ne_eq, BitVec.slt_iff_toInt_lt]
      simpa using h0
    rw [this]; rfl
  rw [hs]
  show min (bt (ix2 b j) : BitVec 32).toInt.toNat 511 = _
  rw [BitVec.toInt_eq_toNat_cond] at *
  have := (bt (ix2 b j) : BitVec 32).isLt
  split_ifs at * <;> omega

theorem gather_at {α : Type} (x : S512x16x16x64.Idx → α) (bt : IVec S16x128 32) (b : Fin 16) (j : Fin 128) (kk hh : Fin 16) (d : Fin 64) :
    Host.gather gather_S512x16x16x64_S16x128x1_S16x128x16x16x64_234_0_n_n_0_2_1161664 x (row bt) (ix5 b j kk hh d) = x (ix4 (pick bt b j) kk hh d) := by
  let D := gather_S512x16x16x64_S16x128x1_S16x128x16x16x64_234_0_n_n_0_2_1161664
  unfold Host.gather
  refine congrArg x ?_
  funext a
  refine Fin.ext ?_
  show D.start (ix5 b j kk hh d) (row bt) a + D.batchCoord (ix5 b j kk hh d) a + D.offCoord (ix5 b j kk hh d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hsi : D.siIdx (ix5 b j kk hh d) ⟨List.idxOf (0 : Fin 4) D.startIndexMap, List.idxOf_lt_length_iff.2 (List.mem_singleton.mpr rfl)⟩ = ix3 b j 0 := by
      funext a; refine Fin.ext ?_
      match a with
      | ⟨0, _⟩ => rfl
      | ⟨1, _⟩ => rfl
      | ⟨2, _⟩ => rfl
    have hst : D.start (ix5 b j kk hh d) (row bt) (0 : Fin 4) = min (row bt (ix3 b j 0)).toInt.toNat 511 := by
      unfold GatherDims.start
      rw [dif_pos (show (0 : Fin 4) ∈ D.startIndexMap from List.mem_singleton.mpr rfl), hsi]
      rfl
    exact hst
  | ⟨1, _⟩ =>
    have h0 : D.start (ix5 b j kk hh d) (row bt) (1 : Fin 4) = 0 := by
      unfold GatherDims.start; exact dif_neg (by decide)
    exact (congrArg (· + 0 + D.offCoord (ix5 b j kk hh d) (1 : Fin 4)) h0).trans (by show 0 + 0 + kk.val = kk.val; omega)
  | ⟨2, _⟩ =>
    have h0 : D.start (ix5 b j kk hh d) (row bt) (2 : Fin 4) = 0 := by
      unfold GatherDims.start; exact dif_neg (by decide)
    exact (congrArg (· + 0 + D.offCoord (ix5 b j kk hh d) (2 : Fin 4)) h0).trans (by show 0 + 0 + hh.val = hh.val; omega)
  | ⟨3, _⟩ =>
    have h0 : D.start (ix5 b j kk hh d) (row bt) (3 : Fin 4) = 0 := by
      unfold GatherDims.start; exact dif_neg (by decide)
    exact (congrArg (· + 0 + D.offCoord (ix5 b j kk hh d) (3 : Fin 4)) h0).trans (by show 0 + 0 + d.val = d.val; omega)

theorem rows_at (x : FVec Ideal S512x16x16x64 .bf16) (bt : IVec S16x128 32) (b : Fin 16) (j : Fin 128) (kk hh : Fin 16) (d : Fin 64) :
    rows x bt (ix4 b (key j kk) hh d) = x (ix4 (pick bt b j) kk hh d) := by
  unfold rows
  refine (shapeCast_apply _ _ (ix4 b (key j kk) hh d) (ix5 b j kk hh d) ?_).trans (gather_at _ bt b j kk hh d)
  rw [Shape.rowMajor_val_five, Shape.rowMajor_val_four]
  show (((b.val * 128 + j.val) * 16 + kk.val) * 16 + hh.val) * 64 + d.val = ((b.val * 2048 + (16 * j.val + kk.val)) * 16 + hh.val) * 64 + d.val
  omega

/-- A word's sign. -/
def sgn (x : BitVec 32) : BitVec 32 := if x = 0 then 0 else if x.msb then -1 else 1
theorem entry_key (x : Fin 2048) : entry (ix2 0 x) = BitVec.ofNat 32 (x.val / 16) := by
  have e : num (ix2 0 x) = BitVec.ofNat 32 x.val :=
    (broadcastInDim_apply _ _ _ (ix2 0 x) (ix1 x) fun a => match a with | ⟨0, _⟩ => rfl)
  unfold entry
  rw [select_apply]
  show Scalar.select (IntOp.andi (IntOp.cmpi .ne (sgn (num (ix2 0 x))) (sgn 16#32)) (IntOp.cmpi .ne (IntOp.remsi .host (num (ix2 0 x)) 16#32) 0#32))
    (IntOp.subi (IntOp.divsi .host (num (ix2 0 x)) 16#32) 1#32) (IntOp.divsi .host (num (ix2 0 x)) 16#32) = _
  rw [e]
  revert x; decide +kernel

theorem mask_at (ln : IVec S16 32) (b hh : Fin 16) (u : Fin 1) (j : Fin 128) (kk : Fin 16) :
    mask ln (ix4 b hh u (key j kk)) = if (j.val : ℤ) < (ln (ix1 b) : BitVec 32).toInt then 1#1 else 0#1 := by
  obtain rfl : u = 0 := Subsingleton.elim _ _
  unfold mask
  refine (broadcastInDim_apply _ _ _ (ix4 b hh 0 (key j kk)) (ix4 b 0 0 (key j kk)) fun a => match a with | ⟨0, _⟩ => rfl | ⟨1, _⟩ => rfl | ⟨2, _⟩ => rfl | ⟨3, _⟩ => rfl).trans ?_
  refine (broadcastInDim_apply _ _ _ (ix4 b 0 0 (key j kk)) (ix2 b (key j kk)) fun a => match a with | ⟨0, _⟩ => rfl | ⟨1, _⟩ => rfl).trans ?_
  have e1 : broadcastInDim S16x2048 ![0, 1] bcast_S1x2048_S16x2048_0_1 entry (ix2 b (key j kk)) = BitVec.ofNat 32 j.val := by
    refine (broadcastInDim_apply _ _ _ (ix2 b (key j kk)) (ix2 0 (key j kk)) fun a => match a with | ⟨0, _⟩ => rfl | ⟨1, _⟩ => rfl).trans ?_
    rw [entry_key]
    refine congrArg (BitVec.ofNat 32) ?_
    show (16 * j.val + kk.val) / 16 = j.val
    omega
  have e2 : broadcastInDim S16x2048 ![0, 1] bcast_S16x1_S16x2048_0_1 (broadcastInDim S16x1 ![0] bcast_S16_S16x1_0 ln) (ix2 b (key j kk)) = ln (ix1 b) := by
    refine (broadcastInDim_apply _ _ _ (ix2 b (key j kk)) (ix2 b 0) fun a => match a with | ⟨0, _⟩ => rfl | ⟨1, _⟩ => rfl).trans ?_
    exact broadcastInDim_apply _ _ _ (ix2 b 0) (ix1 b) fun a => match a with | ⟨0, _⟩ => rfl
  show BitVec.ofBool (BitVec.slt _ _) = _
  rw [e1, e2]
  have h := slt_ofNat j.val (by omega) (ln (ix1 b))
  by_cases hl : (j.val : ℤ) < (ln (ix1 b) : BitVec 32).toInt
  · rw [if_pos hl, h.2 hl]; rfl
  · rw [if_neg hl, Bool.eq_false_iff.2 (fun e => hl (h.1 e))]; rfl

/-! ## Contractions -/

theorem qk (A : FVec Ideal S16x1x16x64 .f32) (B : FVec Ideal S16x2048x16x64 .f32) (b hh : Fin 16) (u : Fin 1) (x : Fin 2048) :
    Host.dotGeneral dot_S16x1x16x64_S16x2048x16x64_S16x16x1x2048_3_3_1_1_02_02 none A B (ix4 b hh u x)
      = (∑ d : Fin 64, A (ix4 b u hh d) * B (ix4 b x hh d) : EReal) := by
  let D := dot_S16x1x16x64_S16x2048x16x64_S16x16x1x2048_3_3_1_1_02_02
  simp only [Host.dotGeneral]
  refine (Ideal.dotGeneral_apply D none _ A B (ix4 b hh u x)).trans ?_
  rw [← Equiv.sum_comp (contrEquiv1 D 64 rfl rfl).symm]
  refine Finset.sum_congr rfl fun d _ => ?_
  have hk := contrEquiv1_symm_val D 64 rfl rfl d
  have el : D.lhsIdx (ix4 b hh u x) ((contrEquiv1 D 64 rfl rfl).symm d) = ix4 b u hh d := by
    funext a; apply Fin.ext
    match a with | ⟨0, _⟩ => rfl | ⟨1, _⟩ => rfl | ⟨2, _⟩ => rfl | ⟨3, _⟩ => exact hk
  have er : D.rhsIdx (ix4 b hh u x) ((contrEquiv1 D 64 rfl rfl).symm d) = ix4 b x hh d := by
    funext a; apply Fin.ext
    match a with | ⟨0, _⟩ => rfl | ⟨1, _⟩ => rfl | ⟨2, _⟩ => rfl | ⟨3, _⟩ => exact hk
  exact congrArg₂ (fun x y : EReal => x * y) (congrArg A el) (congrArg B er)

theorem pv (A : FVec Ideal S16x2048x16x64 .f32) (B : FVec Ideal S16x16x1x2048 .f32) (b hh : Fin 16) (u : Fin 1) (d : Fin 64) :
    Host.dotGeneral dot_S16x2048x16x64_S16x16x1x2048_S16x16x64x1_1_3_3_2_02_01 none A B (ix4 b hh d u)
      = (∑ x : Fin 2048, A (ix4 b x hh d) * B (ix4 b hh u x) : EReal) := by
  let D := dot_S16x2048x16x64_S16x16x1x2048_S16x16x64x1_1_3_3_2_02_01
  simp only [Host.dotGeneral]
  refine (Ideal.dotGeneral_apply D none _ A B (ix4 b hh d u)).trans ?_
  rw [← Equiv.sum_comp (contrEquiv1 D 2048 rfl rfl).symm]
  refine Finset.sum_congr rfl fun x _ => ?_
  have hk := contrEquiv1_symm_val D 2048 rfl rfl x
  have el : D.lhsIdx (ix4 b hh d u) ((contrEquiv1 D 2048 rfl rfl).symm x) = ix4 b x hh d := by
    funext a; apply Fin.ext
    match a with | ⟨0, _⟩ => rfl | ⟨1, _⟩ => exact hk | ⟨2, _⟩ => rfl | ⟨3, _⟩ => rfl
  have er : D.rhsIdx (ix4 b hh d u) ((contrEquiv1 D 2048 rfl rfl).symm x) = ix4 b hh u x := by
    funext a; apply Fin.ext
    match a with | ⟨0, _⟩ => rfl | ⟨1, _⟩ => rfl | ⟨2, _⟩ => rfl | ⟨3, _⟩ => exact hk
  exact congrArg₂ (fun x y : EReal => x * y) (congrArg A el) (congrArg B er)

/-! ## Reductions -/

theorem shape_ok : S16x16x1x2048.Reduces [3] S16x16x1 := by decide
theorem lift_key (b hh : Fin 16) (u : Fin 1) (x : Fin 2048) : shape_ok.lift (ix3 b hh u) x = ix4 b hh u x := by
  funext a; apply Fin.ext
  match a with | ⟨0, _⟩ => rfl | ⟨1, _⟩ => rfl | ⟨2, _⟩ => rfl | ⟨3, _⟩ => rfl

theorem spread_at (x : FVec Ideal S16x16x1 .f32) (b hh : Fin 16) (u : Fin 1) (y : Fin 2048) : spread x (ix4 b hh u y) = x (ix3 b hh u) := by
  obtain rfl : u = 0 := Subsingleton.elim _ _
  unfold spread
  refine (broadcastInDim_apply _ _ _ (ix4 b hh 0 y) (ix4 b hh 0 0) fun a => match a with | ⟨0, _⟩ => rfl | ⟨1, _⟩ => rfl | ⟨2, _⟩ => rfl | ⟨3, _⟩ => rfl).trans ?_
  exact broadcastInDim_apply _ _ _ (ix4 b hh 0 0) (ix3 b hh 0) fun a => match a with | ⟨0, _⟩ => rfl | ⟨1, _⟩ => rfl | ⟨2, _⟩ => rfl

theorem whole_at (e : FVec Ideal S16x16x1x2048 .f32) (b hh : Fin 16) (u : Fin 1) : whole e (ix3 b hh u) = (∑ x : Fin 2048, e (ix4 b hh u x) : EReal) := by
  unfold whole
  refine (hostReduceAdd_apply _ _ _ _ _).trans ((Ideal.hostReduceAdd_single _ shape_ok e _ _).trans ?_)
  refine (congrArg (· + (∑ x : Fin 2048, e (shape_ok.lift (ix3 b hh u) x) : EReal)) (show constant (F := Ideal) S_ .f32 0x00000000#32 (Shape.Idx.first h_S_) = (0 : EReal) from Ideal.ofBits_zero_f32)).trans ?_
  refine (zero_add _).trans (Finset.sum_congr rfl fun x _ => ?_)
  rw [lift_key]

theorem top_at (s : FVec Ideal S16x16x1x2048 .f32) (b hh : Fin 16) (u : Fin 1) :
    top s (ix3 b hh u) = (Finset.univ : Finset (Fin 2048)).fold max (⊥ : EReal) (fun x => s (ix4 b hh u x)) := by
  unfold top
  rw [hostReduce_maximumf_eq_multiReduction s 0xFF800000#32 _ _ shape_ok (.inl rfl) rfl]
  refine (Ideal.multiReduction_maximumf_single _ _ _ _ _ _).trans ?_
  have e : (FloatOps.ofBits .f32 0xFF800000#32 : Ideal .f32) = (⊥ : EReal) := by
    show Ideal.ofBits .f32 0xFF800000#32 = ⊥
    simp [Ideal.ofBits, Ideal.ieee]
  rw [e]
  refine congrArg (Finset.fold max (⊥ : EReal) · Finset.univ) (funext fun x => ?_)
  exact congrArg s (lift_key b hh u x)

theorem result_at (v : FVec Ideal S16x2048x16x64 .f32) (e : FVec Ideal S16x16x1x2048 .f32) (b hh : Fin 16) (u : Fin 1) (d : Fin 64) :
    result v e (ix4 b u hh d) = (∑ x : Fin 2048, Ideal.div (e (ix4 b hh u x)) (∑ y : Fin 2048, e (ix4 b hh u y) : EReal) * v (ix4 b x hh d) : EReal) := by
  unfold result
  refine (transpose_apply [0, 3, 1, 2] _ _ (ix4 b u hh d) (ix4 b hh d u) fun a => match a with | ⟨0, _⟩ => rfl | ⟨1, _⟩ => rfl | ⟨2, _⟩ => rfl | ⟨3, _⟩ => rfl).trans ?_
  refine (pv _ _ b hh u d).trans (Finset.sum_congr rfl fun x _ => ?_)
  rw [hostDivf_apply, spread_at, whole_at]
  exact mul_comm (_ : EReal) _

theorem scores_at (q : FVec Ideal S16x1x16x64 .bf16) (k : FVec Ideal S512x16x16x64 .bf16) (bt : IVec S16x128 32) (ln : IVec S16 32)
    (b hh : Fin 16) (u : Fin 1) (j : Fin 128) (kk : Fin 16) :
    scores q k bt ln (ix4 b hh u (key j kk)) = (if (j.val : ℤ) < (ln (ix1 b) : BitVec 32).toInt
      then (∑ d : Fin 64, q (ix4 b u hh d) * k (ix4 (pick bt b j) kk hh d)) * scale else ⊥ : EReal) := by
  unfold scores
  rw [select_apply, mask_at]
  by_cases hl : (j.val : ℤ) < (ln (ix1 b) : BitVec 32).toInt
  · rw [if_pos hl, if_pos hl]
    refine congrArg (fun z : EReal => z * scale) ((qk _ _ b hh u _).trans (Finset.sum_congr rfl fun d _ => ?_))
    rw [rows_at]; rfl
  · rw [if_neg hl, if_neg hl]
    show Ideal.ofBits .f32 0xFF800000#32 = ⊥
    simp [Ideal.ofBits, Ideal.ieee]

end Cert.PagedProof.Plain
end
-- ==== Proof.Device.lean ====
module

public import proofs.«01_k».proof.Proof.Words

@[expose] public section
set_option maxRecDepth 16384
noncomputable section
namespace Cert.PagedProof
open Cert.KernelIdeal Cert.KernelIdeal.Gen
open Idealize.ShloMosaic Idealize.ShloMosaic.ValueIdx
open scoped BigOperators

/-! # One device's partial result in closed form -/

/-- The scores of page `k`. -/
def sc (c : Dev nD) (D : Ins Ideal) (k : Fin 16) : FVec Ideal S4x16x128 .f32 := k0_pay34 (c15 c D) (c29 c D) (kp k D.k)
/-- The weights of page `k`. -/
def wt (c : Dev nD) (D : Ins Ideal) (k : Fin 16) : FVec Ideal S4x16x128 .f32 := k0_pay62 (c15 c D) (sc c D k) (c238 c D)

variable (c : Dev nD) (D : Ins Ideal)

theorem c40_sc : c40 c D = sc c D 0 := rfl
theorem c51_sc : c51 c D = sc c D 1 := rfl
theorem c62_sc : c62 c D = sc c D 2 := rfl
theorem c73_sc : c73 c D = sc c D 3 := rfl
theorem c84_sc : c84 c D = sc c D 4 := rfl
theorem c95_sc : c95 c D = sc c D 5 := rfl
theorem c106_sc : c106 c D = sc c D 6 := rfl
theorem c117_sc : c117 c D = sc c D 7 := rfl
theorem c128_sc : c128 c D = sc c D 8 := rfl
theorem c139_sc : c139 c D = sc c D 9 := rfl
theorem c150_sc : c150 c D = sc c D 10 := rfl
theorem c161_sc : c161 c D = sc c D 11 := rfl
theorem c172_sc : c172 c D = sc c D 12 := rfl
theorem c183_sc : c183 c D = sc c D 13 := rfl
theorem c194_sc : c194 c D = sc c D 14 := rfl
theorem c205_sc : c205 c D = sc c D 15 := rfl

/-- The largest score, from the starting value. -/
theorem c238_nest : c238 c D = maximumf (k0_pay27 (F := Ideal)) (maximumf (maximumf (maximumf (maximumf (maximumf (maximumf (maximumf (maximumf
    (maximumf (maximumf (maximumf (maximumf (maximumf (maximumf (maximumf (pMax (sc c D 0)) (pMax (sc c D 1))) (pMax (sc c D 2))) (pMax (sc c D 3)))
      (pMax (sc c D 4))) (pMax (sc c D 5))) (pMax (sc c D 6))) (pMax (sc c D 7))) (pMax (sc c D 8))) (pMax (sc c D 9))) (pMax (sc c D 10)))
      (pMax (sc c D 11))) (pMax (sc c D 12))) (pMax (sc c D 13))) (pMax (sc c D 14))) (pMax (sc c D 15))) := by
  unfold c238 k0_pay56 c208 k0_pay55
  rw [c40_sc, c51_sc, c62_sc, c73_sc, c84_sc, c95_sc, c106_sc, c117_sc, c128_sc, c139_sc, c150_sc, c161_sc, c172_sc, c183_sc, c194_sc, c205_sc]
  rfl

theorem low_at (i : S4x16.Idx) : k0_pay27 (F := Ideal) i = low := by
  unfold k0_pay27
  rw [cast_self]; rfl

theorem max_lt_top {x y : EReal} (hx : x < ⊤) (hy : y < ⊤) : max x y < ⊤ := max_lt hx hy

theorem c238_real (h : Fin 4) (b : Fin 16) (hs : ∀ k p, sc c D k (ix3 h b p) < ⊤) : ∃ r : ℝ, c238 c D (ix2 h b) = (r : EReal) := by
  have hl : low < ⊤ := by obtain ⟨r, hr⟩ := low_real; rw [hr]; exact EReal.coe_lt_top r
  have hb : low ≤ c238 c D (ix2 h b) := by
    rw [c238_nest, ← low_at (ix2 h b)]; exact le_max_left _ _
  have ht : c238 c D (ix2 h b) < ⊤ := by
    rw [c238_nest]
    have P := fun k => pMax_lt (sc c D k) h b (hs k)
    refine max_lt (by rw [low_at]; exact hl) ?_
    exact max_lt (max_lt (max_lt (max_lt (max_lt (max_lt (max_lt (max_lt (max_lt (max_lt (max_lt (max_lt (max_lt (max_lt (max_lt (P 0) (P 1)) (P 2)) (P 3)) (P 4))
      (P 5)) (P 6)) (P 7)) (P 8)) (P 9)) (P 10)) (P 11)) (P 12)) (P 13)) (P 14)) (P 15)
  have hn : c238 c D (ix2 h b) ≠ ⊥ := by
    intro e
    rw [e] at hb
    obtain ⟨r, hr⟩ := low_real
    rw [hr] at hb
    exact absurd hb (not_le.mpr (EReal.bot_lt_coe r))
  exact ⟨_, (EReal.coe_toReal ht.ne hn).symm⟩

/-! ## The accumulators -/

theorem c247_eq : c247 c D = shapeCast S4x16x1 (c238 c D) shapeCasts_S4x16_S4x16x1 := rfl
theorem wt0 : k0_pay61 (c15 c D) (c40 c D) (c247 c D) = wt c D 0 := rfl

theorem c278_nest : c278 c D = lStep (lStep (lStep (c242 c D) (wt c D 0)) (wt c D 1)) (wt c D 2) := rfl
theorem c326_nest : c326 c D = lStep (lStep (lStep (lStep (c278 c D) (wt c D 3)) (wt c D 4)) (wt c D 5)) (wt c D 6) := rfl
theorem c362_nest : c362 c D = lStep (lStep (lStep (c326 c D) (wt c D 7)) (wt c D 8)) (wt c D 9) := rfl
theorem c398_nest : c398 c D = lStep (lStep (lStep (c362 c D) (wt c D 10)) (wt c D 11)) (wt c D 12) := rfl
theorem lr1_nest : lr1 c D = shapeCast S4x16 (lStep (lStep (lStep (c398 c D) (wt c D 13)) (wt c D 14)) (wt c D 15)) shapeCasts_S4x16_S4x16 := rfl
theorem c282_nest : c282 c D = oStep (oStep (oStep (c246 c D) (wt c D 0) (kp 0 D.v)) (wt c D 1) (kp 1 D.v)) (wt c D 2) (kp 2 D.v) := rfl
theorem c318_nest : c318 c D = oStep (oStep (oStep (c282 c D) (wt c D 3) (kp 3 D.v)) (wt c D 4) (kp 4 D.v)) (wt c D 5) (kp 5 D.v) := rfl
theorem c366_nest : c366 c D = oStep (oStep (oStep (oStep (c318 c D) (wt c D 6) (kp 6 D.v)) (wt c D 7) (kp 7 D.v)) (wt c D 8) (kp 8 D.v)) (wt c D 9) (kp 9 D.v) := rfl
theorem c402_nest : c402 c D = oStep (oStep (oStep (c366 c D) (wt c D 10) (kp 10 D.v)) (wt c D 11) (kp 11 D.v)) (wt c D 12) (kp 12 D.v) := rfl
theorem c438_nest : c438 c D = oStep (oStep (oStep (c402 c D) (wt c D 13) (kp 13 D.v)) (wt c D 14) (kp 14 D.v)) (wt c D 15) (kp 15 D.v) := rfl

theorem zero_lit : (Ideal.ofBits .f32 0x00000000#32 : EReal) = 0 := Ideal.ofBits_zero_f32

theorem c242_at (i : S4x16.Idx) : c242 c D i = 0 := by
  have e : lr0 c D i = (0 : EReal) := by
    unfold lr0 k0_pay28
    rw [cast_self]; exact zero_lit
  unfold c242 k0_pay58
  show (lr0 c D i : EReal) * _ = 0
  rw [e]; exact zero_mul _
theorem c246_at (i : S4x16x64.Idx) : c246 c D i = 0 := by
  have e : or0 c D i = (0 : EReal) := by
    unfold or0 k0_pay29
    rw [cast_self]; exact zero_lit
  unfold c246 k0_pay59
  show (or0 c D i : EReal) * _ = 0
  rw [e]; exact zero_mul _

/-- The sum of the weights of a page. -/
def lPart (h : Fin 4) (b : Fin 16) (k : Fin 16) : EReal := ∑ p : Fin 128, wt c D k (ix3 h b p)
/-- The weighted sum of the values of a page. -/
def oPart (h : Fin 4) (b : Fin 16) (d : Fin 64) (k : Fin 16) : EReal := ∑ p : Fin 128, wt c D k (ix3 h b p) * D.v (ix4 k h d p)

theorem lr1_sum (h : Fin 4) (b : Fin 16) : lr1 c D (ix2 h b) = ∑ k : Fin 16, lPart c D h b k := by
  have S : ∀ l k, lStep l (wt c D k) (ix2 h b) = l (ix2 h b) + lPart c D h b k := fun l k => lStep_at l _ h b
  rw [lr1_nest, cast_self, S, S, S, c398_nest, S, S, S, c362_nest, S, S, S, c326_nest, S, S, S, S, c278_nest, S, S, S, c242_at]
  simp only [Fin.sum_univ_castSucc, Fin.sum_univ_zero]
  rfl

theorem or1_sum (h : Fin 4) (b : Fin 16) (d : Fin 64) : or1 c D (ix3 h b d) = ∑ k : Fin 16, oPart c D h b d k := by
  have S : ∀ l k, oStep l (wt c D k) (kp k D.v) (ix3 h b d) = l (ix3 h b d) + oPart c D h b d k := fun l k =>
    (oStep_at l _ _ h b d).trans (congrArg (l (ix3 h b d) + ·) (Finset.sum_congr rfl fun p _ => congrArg (wt c D k (ix3 h b p) * ·) (kp_at k D.v 0 h d p)))
  unfold or1 k0_pay1
  rw [cast_self, c438_nest, S, S, S, c402_nest, S, S, S, c366_nest, S, S, S, S, c318_nest, S, S, S, c282_nest, S, S, S, c246_at]
  simp only [Fin.sum_univ_castSucc, Fin.sum_univ_zero]
  rfl

theorem mr1_eq (i : S4x16.Idx) : mr1 c D i = c238 c D i := by
  unfold mr1 k0_pay87
  rw [cast_self]

/-! ## With real scores -/

/-- The weights of a page, once the scores of the pages named are real. -/
theorem wt_at (h : Fin 4) (b : Fin 16) (k : Fin 16) (p : Fin 128) (σ m : ℝ) (hm : c238 c D (ix2 h b) = (m : EReal))
    (hσ : (∑ d : Fin 64, D.q (ix4 b 0 (headOf c h) d) * D.k (ix4 k h d p)) * scale = (σ : EReal)) :
    wt c D k (ix3 h b p) = ((Real.exp (σ - m) * times D.bt D.ln (c.val % 4) b p : ℝ) : EReal) := by
  unfold wt
  rw [weight_at, c15_at, hm]
  unfold sc
  rw [score_at, c15_at]
  by_cases h0 : times D.bt D.ln (c.val % 4) b p = 0
  · rw [h0, mul_zero]
    exact (congrArg _ EReal.coe_zero).trans ((mul_zero _).trans EReal.coe_zero.symm)
  · have hp : 0 < times D.bt D.ln (c.val % 4) b p := lt_of_le_of_ne (times_nonneg _ _ _ _ _) (Ne.symm h0)
    rw [if_pos (by exact_mod_cast hp)]
    rw [Finset.sum_congr rfl fun d _ => congrArg₂ (fun x y : EReal => x * y) (c29_at c D h b d) (kp_at k D.k 0 h d p)]
    refine (congrArg (fun z : EReal => Ideal.exp (z - (m : EReal)) * _) hσ).trans ?_
    rw [← EReal.coe_sub, Ideal.exp_coe, ← EReal.coe_mul]

/-- Scores of real data stay below the top. -/
theorem sc_lt (h : Fin 4) (b : Fin 16) (k : Fin 16) (p : Fin 128) (σ : ℝ)
    (hσ : (∑ d : Fin 64, D.q (ix4 b 0 (headOf c h) d) * D.k (ix4 k h d p)) * scale = (σ : EReal)) : sc c D k (ix3 h b p) < ⊤ := by
  unfold sc
  rw [score_at]
  split_ifs
  · rw [Finset.sum_congr rfl fun d _ => congrArg₂ (fun x y : EReal => x * y) (c29_at c D h b d) (kp_at k D.k 0 h d p)]
    refine lt_of_eq_of_lt hσ (EReal.coe_lt_top σ)
  · obtain ⟨r, hr⟩ := low_real; rw [hr]; exact EReal.coe_lt_top r

/-- One device's partial result: a real maximum, the sum of the weights, the weighted values. -/
theorem device_at (h : Fin 4) (b : Fin 16) (σ : Fin 16 → Fin 128 → ℝ)
    (hσ : ∀ k p, (∑ d : Fin 64, D.q (ix4 b 0 (headOf c h) d) * D.k (ix4 k h d p)) * scale = (σ k p : EReal)) :
    ∃ m : ℝ, mr1 c D (ix2 h b) = (m : EReal)
      ∧ lr1 c D (ix2 h b) = ((∑ x : Fin 16 × Fin 128, Real.exp (σ x.1 x.2 - m) * times D.bt D.ln (c.val % 4) b x.2 : ℝ) : EReal)
      ∧ ∀ d, or1 c D (ix3 h b d) = ∑ x : Fin 16 × Fin 128, ((Real.exp (σ x.1 x.2 - m) * times D.bt D.ln (c.val % 4) b x.2 : ℝ) : EReal) * D.v (ix4 x.1 h d x.2) := by
  obtain ⟨m, hm⟩ := c238_real c D h b fun k p => sc_lt c D h b k p _ (hσ k p)
  refine ⟨m, (mr1_eq c D _).trans hm, ?_, fun d => ?_⟩
  · rw [lr1_sum, coe_sum, Fintype.sum_prod_type]
    exact Finset.sum_congr rfl fun k _ => Finset.sum_congr rfl fun p _ => wt_at c D h b k p _ m hm (hσ k p)
  · rw [or1_sum, Fintype.sum_prod_type]
    exact Finset.sum_congr rfl fun k _ => Finset.sum_congr rfl fun p _ => congrArg (fun z : EReal => z * D.v (ix4 k h d p)) (wt_at c D h b k p _ m hm (hσ k p))

end Cert.PagedProof
end
-- ==== Proof.Parts.lean ====
module

public import proofs.«01_k».proof.Proof.Comm
public import proofs.«01_k».proof.Proof.Chain

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # The printed parts that compute -/

abbrev p1 (d0 : Dev nD) (v2 : BitVec 32) (v5 : BitVec 32) (v8 : BitVec 32) (v10 : Sems sig S_) (k0_h1 : k0_cond1 i0 = 1#1) : Prog (TpuEff nD τ sig (Elt F) Λ₀ .tc) (PUnit) :=
  k0_part1 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v10 k0_h1

abbrev p2 (d0 : Dev nD) (v2 : BitVec 32) (v5 : BitVec 32) (v8 : BitVec 32) (v10 : Sems sig S_) (k0_h1 : k0_cond1 i0 = 1#1) : Prog (TpuEff nD τ sig (Elt F) Λ₀ .tc) (Σ' (v512 : BitVec 32) (v515 : BitVec 32) (v516 : BitVec 32) (v517 : BitVec 1), BitVec 1) :=
  k0_part2 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v10 k0_h1

abbrev p3 (d0 : Dev nD) (v2 : BitVec 32) (v5 : BitVec 32) (v8 : BitVec 32) (v10 : Sems sig S_) (k0_h1 : k0_cond1 i0 = 1#1) (v512 : BitVec 32) (v515 : BitVec 32) (v516 : BitVec 32) (v517 : BitVec 1) (v518 : BitVec 1) : Prog (TpuEff nD τ sig (Elt F) Λ₀ .tc) (Σ' (v551 : BitVec 32) (v553 : BitVec 32), BitVec 32) :=
  k0_part3 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v10 k0_h1 v512 v515 v516 v517 v518

abbrev p4 (d0 : Dev nD) (v2 : BitVec 32) (v5 : BitVec 32) (v8 : BitVec 32) (v10 : Sems sig S_) (k0_h1 : k0_cond1 i0 = 1#1) (v551 : BitVec 32) (v553 : BitVec 32) (c4_i32_322 : BitVec 32) : Prog (TpuEff nD τ sig (Elt F) Λ₀ .tc) (IVec S16x128 32) :=
  k0_part4 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v10 k0_h1 v551 v553 c4_i32_322

abbrev p5 (v8 : BitVec 32) (v10 : Sems sig S_) : Prog (TpuEff nD τ sig (Elt F) Λ₀ .tc) (BitVec 32) :=
  k0_part5 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v8 v10

abbrev p6 (d0 : Dev nD) (v2 : BitVec 32) (v5 : BitVec 32) (v8 : BitVec 32) (k0_h2 : k0_cond2 i0 = 1#1) (v475 : BitVec 32) : Prog (TpuEff nD τ sig (Elt F) Λ₀ .tc) (BitVec 32) :=
  k0_part6 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 k0_h2 v475

abbrev p7 (d0 : Dev nD) (v2 : BitVec 32) (v5 : BitVec 32) (v8 : BitVec 32) (k0_h2 : k0_cond2 i0 = 1#1) : Prog (TpuEff nD τ sig (Elt F) Λ₀ .tc) (BitVec 32) :=
  k0_part7 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 k0_h2

abbrev p8 (v2 : BitVec 32) (v5 : BitVec 32) (v475 : BitVec 32) : Prog (TpuEff nD τ sig (Elt F) Λ₀ .tc) (PUnit) :=
  k0_part8 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v475

abbrev p9 (v2 : BitVec 32) (v5 : BitVec 32) (v500 : BitVec 32) : Prog (TpuEff nD τ sig (Elt F) Λ₀ .tc) (Σ' (v585 : BitVec 32), BitVec 32) :=
  k0_part9 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v500

abbrev p10 (v525 : BitVec 32) (v585 : BitVec 32) (c1_i32_398 : BitVec 32) : Prog (TpuEff nD τ sig (Elt F) Λ₀ .tc) (Σ' (v597 : FVec F S4x16x1 .f32) (v599 : FVec F S4x16x1 .f32) (v601 : FVec F S4x16x1 .f32) (v604 : FVec F S4x16x1 .f32) (v606 : FVec F S4x16x1 .f32) (v608 : FVec F S4x16x1 .f32), FVec F S4x16x64 .f32) :=
  k0_part10 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v525 v585 c1_i32_398

abbrev p11 (v597 : FVec F S4x16x1 .f32) (v599 : FVec F S4x16x1 .f32) (v601 : FVec F S4x16x1 .f32) (v604 : FVec F S4x16x1 .f32) (v606 : FVec F S4x16x1 .f32) (v608 : FVec F S4x16x1 .f32) (v613 : FVec F S4x16x64 .f32) : Prog (TpuEff nD τ sig (Elt F) Λ₀ .tc) (Σ' (v639 : FVec F S4x16x1 .f32) (v641 : FVec F S4x16x1 .f32) (v646 : FVec F S4x16x64 .f32), FVec F S4x16x1 .f32) :=
  k0_part11 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v597 v599 v601 v604 v606 v608 v613

abbrev p12 (v2 : BitVec 32) (v5 : BitVec 32) (v639 : FVec F S4x16x1 .f32) (v641 : FVec F S4x16x1 .f32) (v646 : FVec F S4x16x64 .f32) (v648 : FVec F S4x16x1 .f32) : Prog (TpuEff nD τ sig (Elt F) Λ₀ .tc) (Σ' (v666 : BitVec 32) (v677 : BitVec 32) (v681 : BitVec 32), BitVec 32) :=
  k0_part12 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v639 v641 v646 v648

abbrev p13 (d0 : Dev nD) (v2 : BitVec 32) (v5 : BitVec 32) (v8 : BitVec 32) (k0_h2 : k0_cond2 i0 = 1#1) (v681 : BitVec 32) (c1_i32_480 : BitVec 32) : Prog (TpuEff nD τ sig (Elt F) Λ₀ .tc) (Σ' (v702 : BitVec 32) (v713 : BitVec 32) (v714 : BitVec 32), BitVec 32) :=
  k0_part13 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 k0_h2 v681 c1_i32_480

abbrev p14 (d0 : Dev nD) (v2 : BitVec 32) (v5 : BitVec 32) (v8 : BitVec 32) (k0_h2 : k0_cond2 i0 = 1#1) (v713 : BitVec 32) (v714 : BitVec 32) (c0_i32_506 : BitVec 32) : Prog (TpuEff nD τ sig (Elt F) Λ₀ .tc) (Σ' (v738 : BitVec 32), BitVec 32) :=
  k0_part14 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 k0_h2 v713 v714 c0_i32_506

abbrev p15 (d0 : Dev nD) (v8 : BitVec 32) (k0_h2 : k0_cond2 i0 = 1#1) (v666 : BitVec 32) (v677 : BitVec 32) (v738 : BitVec 32) (v749 : BitVec 32) : Prog (TpuEff nD τ sig (Elt F) Λ₀ .tc) (PUnit) :=
  k0_part15 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v8 k0_h2 v666 v677 v738 v749

abbrev p16 (v8 : BitVec 32) (v702 : BitVec 32) (v713 : BitVec 32) : Prog (TpuEff nD τ sig (Elt F) Λ₀ .tc) (PUnit) :=
  k0_part16 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v8 v702 v713

abbrev p17 (d0 : Dev nD) (v2 : BitVec 32) (v5 : BitVec 32) (v8 : BitVec 32) (k0_h2 : k0_cond2 i0 = 1#1) (v738 : BitVec 32) (v749 : BitVec 32) : Prog (TpuEff nD τ sig (Elt F) Λ₀ .tc) (PUnit) :=
  k0_part17 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 k0_h2 v738 v749

abbrev p18 (d0 : Dev nD) (v2 : BitVec 32) (v5 : BitVec 32) (k0_h2 : k0_cond2 i0 = 1#1) : Prog (TpuEff nD τ sig (Elt F) Λ₀ .tc) (Σ' (v858 : BitVec 32) (c2_i32_649 : BitVec 32) (v859 : BitVec 1), BitVec 32) :=
  k0_part18 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 k0_h2

abbrev p19 (d0 : Dev nD) (v2 : BitVec 32) (v5 : BitVec 32) (k0_h2 : k0_cond2 i0 = 1#1) (v858 : BitVec 32) (c2_i32_649 : BitVec 32) (v859 : BitVec 1) (c1_i32_651 : BitVec 32) : Prog (TpuEff nD τ sig (Elt F) Λ₀ .tc) (Σ' (v891 : BitVec 32) (v892 : BitVec 32) (v893 : BitVec 1), BitVec 1) :=
  k0_part19 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 k0_h2 v858 c2_i32_649 v859 c1_i32_651

abbrev p20 (d0 : Dev nD) (v2 : BitVec 32) (v5 : BitVec 32) (v8 : BitVec 32) (v10 : Sems sig S_) (k0_h2 : k0_cond2 i0 = 1#1) : Prog (TpuEff nD τ sig (Elt F) Λ₀ .tc) (PUnit) :=
  k0_part20 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v10 k0_h2

abbrev p21  : Prog (TpuEff nD τ sig (Elt F) Λ₀ .tc) (Σ' (arg0 : BitVec 32) (d0 : Dev nD) (v2 : BitVec 32) (v5 : BitVec 32) (v8 : BitVec 32) (v10 : Sems sig S_) (v15 : FVec F S1x16x128 .f32) (v29 : FVec F S4x16x64 .f32) (v32 : FVec F S4x16x128 .f32), F .f32) :=
  k0_part21 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10

abbrev p22 (v15 : FVec F S1x16x128 .f32) (v29 : FVec F S4x16x64 .f32) (v32 : FVec F S4x16x128 .f32) (cst_15 : F .f32) : Prog (TpuEff nD τ sig (Elt F) Λ₀ .tc) (Σ' (v40 : FVec F S4x16x128 .f32) (v51 : FVec F S4x16x128 .f32) (v62 : FVec F S4x16x128 .f32) (v67 : FVec F S4x16x128 .f32), F .f32) :=
  k0_part22 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v29 v32 cst_15

abbrev p23 (v15 : FVec F S1x16x128 .f32) (v29 : FVec F S4x16x64 .f32) (v67 : FVec F S4x16x128 .f32) (cst_37 : F .f32) : Prog (TpuEff nD τ sig (Elt F) Λ₀ .tc) (Σ' (v73 : FVec F S4x16x128 .f32) (v84 : FVec F S4x16x128 .f32) (v95 : FVec F S4x16x128 .f32) (v100 : FVec F S4x16x128 .f32) (v102 : IVec S1x16x128 1), F .f32) :=
  k0_part23 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v29 v67 cst_37

abbrev p24 (v15 : FVec F S1x16x128 .f32) (v29 : FVec F S4x16x64 .f32) (v100 : FVec F S4x16x128 .f32) (v102 : IVec S1x16x128 1) (cst_59 : F .f32) : Prog (TpuEff nD τ sig (Elt F) Λ₀ .tc) (Σ' (v106 : FVec F S4x16x128 .f32) (v117 : FVec F S4x16x128 .f32) (v128 : FVec F S4x16x128 .f32) (v133 : FVec F S4x16x128 .f32) (v137 : IVec S4x16x128 1), FVec F S4x16x128 .f32) :=
  k0_part24 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v29 v100 v102 cst_59

abbrev p25 (v15 : FVec F S1x16x128 .f32) (v29 : FVec F S4x16x64 .f32) (v133 : FVec F S4x16x128 .f32) (v137 : IVec S4x16x128 1) (v138 : FVec F S4x16x128 .f32) : Prog (TpuEff nD τ sig (Elt F) Λ₀ .tc) (Σ' (v139 : FVec F S4x16x128 .f32) (v150 : FVec F S4x16x128 .f32) (v161 : FVec F S4x16x128 .f32), FVec F S4x16x128 .f32) :=
  k0_part25 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v29 v133 v137 v138

abbrev p26 (v15 : FVec F S1x16x128 .f32) (v29 : FVec F S4x16x64 .f32) (v40 : FVec F S4x16x128 .f32) (v51 : FVec F S4x16x128 .f32) : Prog (TpuEff nD τ sig (Elt F) Λ₀ .tc) (Σ' (v183 : FVec F S4x16x128 .f32) (v194 : FVec F S4x16x128 .f32) (v205 : FVec F S4x16x128 .f32), FVec F S4x16 .f32) :=
  k0_part26 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v29 v40 v51

abbrev p27 (v62 : FVec F S4x16x128 .f32) (v73 : FVec F S4x16x128 .f32) (v84 : FVec F S4x16x128 .f32) (v95 : FVec F S4x16x128 .f32) (v106 : FVec F S4x16x128 .f32) (v117 : FVec F S4x16x128 .f32) (v128 : FVec F S4x16x128 .f32) (v139 : FVec F S4x16x128 .f32) (v150 : FVec F S4x16x128 .f32) (v161 : FVec F S4x16x128 .f32) (v172 : FVec F S4x16x128 .f32) (v183 : FVec F S4x16x128 .f32) (v194 : FVec F S4x16x128 .f32) (v205 : FVec F S4x16x128 .f32) (v208 : FVec F S4x16 .f32) : Prog (TpuEff nD τ sig (Elt F) Λ₀ .tc) (Σ' (v238 : FVec F S4x16 .f32) (v242 : FVec F S4x16 .f32) (v246 : FVec F S4x16x64 .f32), FVec F S4x16x1 .f32) :=
  k0_part27 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v62 v73 v84 v95 v106 v117 v128 v139 v150 v161 v172 v183 v194 v205 v208

abbrev p28 (v15 : FVec F S1x16x128 .f32) (v40 : FVec F S4x16x128 .f32) (v51 : FVec F S4x16x128 .f32) (v62 : FVec F S4x16x128 .f32) (v73 : FVec F S4x16x128 .f32) (v238 : FVec F S4x16 .f32) (v242 : FVec F S4x16 .f32) (v246 : FVec F S4x16x64 .f32) (v247 : FVec F S4x16x1 .f32) : Prog (TpuEff nD τ sig (Elt F) Λ₀ .tc) (Σ' (v278 : FVec F S4x16 .f32) (v282 : FVec F S4x16x64 .f32), FVec F S4x16x128 .f32) :=
  k0_part28 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v40 v51 v62 v73 v238 v242 v246 v247

abbrev p29 (v15 : FVec F S1x16x128 .f32) (v84 : FVec F S4x16x128 .f32) (v95 : FVec F S4x16x128 .f32) (v106 : FVec F S4x16x128 .f32) (v238 : FVec F S4x16 .f32) (v278 : FVec F S4x16 .f32) (v282 : FVec F S4x16x64 .f32) (v288 : FVec F S4x16x128 .f32) : Prog (TpuEff nD τ sig (Elt F) Λ₀ .tc) (Σ' (v318 : FVec F S4x16x64 .f32) (v324 : FVec F S4x16x128 .f32), FVec F S4x16 .f32) :=
  k0_part29 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v84 v95 v106 v238 v278 v282 v288

abbrev p30 (v15 : FVec F S1x16x128 .f32) (v117 : FVec F S4x16x128 .f32) (v128 : FVec F S4x16x128 .f32) (v139 : FVec F S4x16x128 .f32) (v238 : FVec F S4x16 .f32) (v318 : FVec F S4x16x64 .f32) (v324 : FVec F S4x16x128 .f32) (v326 : FVec F S4x16 .f32) : Prog (TpuEff nD τ sig (Elt F) Λ₀ .tc) (Σ' (v362 : FVec F S4x16 .f32) (v366 : FVec F S4x16x64 .f32), FVec F S4x16x1 .f32) :=
  k0_part30 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v117 v128 v139 v238 v318 v324 v326

abbrev p31 (v15 : FVec F S1x16x128 .f32) (v150 : FVec F S4x16x128 .f32) (v161 : FVec F S4x16x128 .f32) (v172 : FVec F S4x16x128 .f32) (v183 : FVec F S4x16x128 .f32) (v238 : FVec F S4x16 .f32) (v362 : FVec F S4x16 .f32) (v366 : FVec F S4x16x64 .f32) (v367 : FVec F S4x16x1 .f32) : Prog (TpuEff nD τ sig (Elt F) Λ₀ .tc) (Σ' (v398 : FVec F S4x16 .f32) (v402 : FVec F S4x16x64 .f32), FVec F S4x16x128 .f32) :=
  k0_part31 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v150 v161 v172 v183 v238 v362 v366 v367

abbrev p32 (v15 : FVec F S1x16x128 .f32) (v194 : FVec F S4x16x128 .f32) (v205 : FVec F S4x16x128 .f32) (v238 : FVec F S4x16 .f32) (v398 : FVec F S4x16 .f32) (v402 : FVec F S4x16x64 .f32) (v408 : FVec F S4x16x128 .f32) : Prog (TpuEff nD τ sig (Elt F) Λ₀ .tc) (FVec F S4x16x64 .f32) :=
  k0_part32 (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v15 v194 v205 v238 v398 v402 v408

abbrev bAt (c : Dev nD) (b : Ref sig .tc) (f : b.ty.Contents (Elt F)) : sProp 𝕄 := ((c : Thread nD τ).loc b) ↦{fullShare} f

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide
omit [FloatOps F] in
theorem read_mr (h) (f) : (Memref.whole cc0_scratch3).view.readAt (Elt F) (Rect.unit (s := S4x16) ![0, 0] S4x16.size h).toLoadRect f = f := Memref.readAt_unit_zero (Elt F) cc0_scratch3 hz2 _ f
omit [FloatOps F] in
theorem read_lr (h) (f) : (Memref.whole cc0_scratch4).view.readAt (Elt F) (Rect.unit (s := S4x16) ![0, 0] S4x16.size h).toLoadRect f = f := Memref.readAt_unit_zero (Elt F) cc0_scratch4 hz2 _ f
omit [FloatOps F] in
theorem read_or (h) (f) : (Memref.whole cc0_scratch5).view.readAt (Elt F) (Rect.unit (s := S4x16x64) ![0, 0, 0] S4x16x64.size h).toLoadRect f = f := Memref.readAt_unit_zero (Elt F) cc0_scratch5 hz3 _ f

theorem part22_raw (c : Dev nD) (v15 : FVec F S1x16x128 .f32) (v29 : FVec F S4x16x64 .f32) (v32 : FVec F S4x16x128 .f32) (cst_15 : F .f32) (farg2) (Kt) :
    iprop(bAt c cc0_stg1_0 farg2 ∗ ((bAt c cc0_stg1_0 farg2) -∗ Kt ⟨k0_pay33 v15 v32 cst_15, k0_pay34 v15 v29 ((Memref.whole cc0_stg1_0).view.readAt (Elt F) (Rect.unit (s := S16x4x64x128) ![1, 0, 0, 0] S1x4x64x128.size inb_S16x4x64x128_S1x4x64x128_1_0_0_0).toLoadRect farg2), k0_pay35 v15 v29 ((Memref.whole cc0_stg1_0).view.readAt (Elt F) (Rect.unit (s := S16x4x64x128) ![2, 0, 0, 0] S1x4x64x128.size inb_S16x4x64x128_S1x4x64x128_2_0_0_0).toLoadRect farg2), k0_pay36 v29 ((Memref.whole cc0_stg1_0).view.readAt (Elt F) (Rect.unit (s := S16x4x64x128) ![3, 0, 0, 0] S1x4x64x128.size inb_S16x4x64x128_S1x4x64x128_3_0_0_0).toLoadRect farg2), (Scalar.ofBits .f32 0x00000000#32)⟩))
      ⊢ WP c (p22 v15 v29 v32 cst_15) Kt := by
  unfold p22
  simp only [k0_part22_eq_skeleton]; unfold k0_part22_skel
  simp only [Prog.lift, Prog.bind_op, Prog.bind_ret, Prog.pure_eq_ret]
  iintro ⟨Harg2, Hk⟩
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  rw [wp_ret]; imodintro
  iapply Hk
  iexact Harg2

theorem part22 (c : Dev nD) (D : Ins F) (Kt) :
    iprop(bAt c cc0_stg1_0 D.k ∗ ((bAt c cc0_stg1_0 D.k) -∗ Kt ⟨c40 c D, c51 c D, c62 c D, c67 c D, (Scalar.ofBits .f32 0x00000000#32)⟩))
      ⊢ WP c (p22 (c15 c D) (c29 c D) (c32 c D) (Scalar.ofBits .f32 0x3E000000#32)) Kt :=
  part22_raw c  _ _ _ _ _ Kt

theorem part23_raw (c : Dev nD) (v15 : FVec F S1x16x128 .f32) (v29 : FVec F S4x16x64 .f32) (v67 : FVec F S4x16x128 .f32) (cst_37 : F .f32) (farg2) (Kt) :
    iprop(bAt c cc0_stg1_0 farg2 ∗ ((bAt c cc0_stg1_0 farg2) -∗ Kt ⟨k0_pay37 v15 v67 cst_37, k0_pay38 v15 v29 ((Memref.whole cc0_stg1_0).view.readAt (Elt F) (Rect.unit (s := S16x4x64x128) ![4, 0, 0, 0] S1x4x64x128.size inb_S16x4x64x128_S1x4x64x128_4_0_0_0).toLoadRect farg2), k0_pay39 v15 v29 ((Memref.whole cc0_stg1_0).view.readAt (Elt F) (Rect.unit (s := S16x4x64x128) ![5, 0, 0, 0] S1x4x64x128.size inb_S16x4x64x128_S1x4x64x128_5_0_0_0).toLoadRect farg2), k0_pay40 v29 ((Memref.whole cc0_stg1_0).view.readAt (Elt F) (Rect.unit (s := S16x4x64x128) ![6, 0, 0, 0] S1x4x64x128.size inb_S16x4x64x128_S1x4x64x128_6_0_0_0).toLoadRect farg2), k0_pay41 v15, (Scalar.ofBits .f32 0xF149F2CA#32)⟩))
      ⊢ WP c (p23 v15 v29 v67 cst_37) Kt := by
  unfold p23
  simp only [k0_part23_eq_skeleton]; unfold k0_part23_skel
  simp only [Prog.lift, Prog.bind_op, Prog.bind_ret, Prog.pure_eq_ret]
  iintro ⟨Harg2, Hk⟩
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  rw [wp_ret]; imodintro
  iapply Hk
  iexact Harg2

theorem part23 (c : Dev nD) (D : Ins F) (Kt) :
    iprop(bAt c cc0_stg1_0 D.k ∗ ((bAt c cc0_stg1_0 D.k) -∗ Kt ⟨c73 c D, c84 c D, c95 c D, c100 c D, c102 c D, (Scalar.ofBits .f32 0xF149F2CA#32)⟩))
      ⊢ WP c (p23 (c15 c D) (c29 c D) (c67 c D) (Scalar.ofBits .f32 0x00000000#32)) Kt :=
  part23_raw c  _ _ _ _ _ Kt

theorem part24_raw (c : Dev nD) (v15 : FVec F S1x16x128 .f32) (v29 : FVec F S4x16x64 .f32) (v100 : FVec F S4x16x128 .f32) (v102 : IVec S1x16x128 1) (cst_59 : F .f32) (farg2) (Kt) :
    iprop(bAt c cc0_stg1_0 farg2 ∗ ((bAt c cc0_stg1_0 farg2) -∗ Kt ⟨k0_pay42 v100 v102 cst_59, k0_pay43 v15 v29 ((Memref.whole cc0_stg1_0).view.readAt (Elt F) (Rect.unit (s := S16x4x64x128) ![7, 0, 0, 0] S1x4x64x128.size inb_S16x4x64x128_S1x4x64x128_7_0_0_0).toLoadRect farg2), k0_pay44 v15 v29 ((Memref.whole cc0_stg1_0).view.readAt (Elt F) (Rect.unit (s := S16x4x64x128) ![8, 0, 0, 0] S1x4x64x128.size inb_S16x4x64x128_S1x4x64x128_8_0_0_0).toLoadRect farg2), k0_pay45 v29 ((Memref.whole cc0_stg1_0).view.readAt (Elt F) (Rect.unit (s := S16x4x64x128) ![9, 0, 0, 0] S1x4x64x128.size inb_S16x4x64x128_S1x4x64x128_9_0_0_0).toLoadRect farg2), k0_pay46 v15, k0_pay47 (F := F)⟩))
      ⊢ WP c (p24 v15 v29 v100 v102 cst_59) Kt := by
  unfold p24
  simp only [k0_part24_eq_skeleton]; unfold k0_part24_skel
  simp only [Prog.lift, Prog.bind_op, Prog.bind_ret, Prog.pure_eq_ret]
  iintro ⟨Harg2, Hk⟩
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  rw [wp_ret]; imodintro
  iapply Hk
  iexact Harg2

theorem part24 (c : Dev nD) (D : Ins F) (Kt) :
    iprop(bAt c cc0_stg1_0 D.k ∗ ((bAt c cc0_stg1_0 D.k) -∗ Kt ⟨c106 c D, c117 c D, c128 c D, c133 c D, c137 c D, c138 c D⟩))
      ⊢ WP c (p24 (c15 c D) (c29 c D) (c100 c D) (c102 c D) (Scalar.ofBits .f32 0xF149F2CA#32)) Kt :=
  part24_raw c  _ _ _ _ _ _ Kt

theorem part25_raw (c : Dev nD) (v15 : FVec F S1x16x128 .f32) (v29 : FVec F S4x16x64 .f32) (v133 : FVec F S4x16x128 .f32) (v137 : IVec S4x16x128 1) (v138 : FVec F S4x16x128 .f32) (farg2) (Kt) :
    iprop(bAt c cc0_stg1_0 farg2 ∗ ((bAt c cc0_stg1_0 farg2) -∗ Kt ⟨k0_pay48 v133 v137 v138, k0_pay49 v15 v29 ((Memref.whole cc0_stg1_0).view.readAt (Elt F) (Rect.unit (s := S16x4x64x128) ![10, 0, 0, 0] S1x4x64x128.size inb_S16x4x64x128_S1x4x64x128_10_0_0_0).toLoadRect farg2), k0_pay50 v15 v29 ((Memref.whole cc0_stg1_0).view.readAt (Elt F) (Rect.unit (s := S16x4x64x128) ![11, 0, 0, 0] S1x4x64x128.size inb_S16x4x64x128_S1x4x64x128_11_0_0_0).toLoadRect farg2), k0_pay51 v15 v29 ((Memref.whole cc0_stg1_0).view.readAt (Elt F) (Rect.unit (s := S16x4x64x128) ![12, 0, 0, 0] S1x4x64x128.size inb_S16x4x64x128_S1x4x64x128_12_0_0_0).toLoadRect farg2)⟩))
      ⊢ WP c (p25 v15 v29 v133 v137 v138) Kt := by
  unfold p25
  simp only [k0_part25_eq_skeleton]; unfold k0_part25_skel
  simp only [Prog.lift, Prog.bind_op, Prog.bind_ret, Prog.pure_eq_ret]
  iintro ⟨Harg2, Hk⟩
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  rw [wp_ret]; imodintro
  iapply Hk
  iexact Harg2

theorem part25 (c : Dev nD) (D : Ins F) (Kt) :
    iprop(bAt c cc0_stg1_0 D.k ∗ ((bAt c cc0_stg1_0 D.k) -∗ Kt ⟨c139 c D, c150 c D, c161 c D, c172 c D⟩))
      ⊢ WP c (p25 (c15 c D) (c29 c D) (c133 c D) (c137 c D) (c138 c D)) Kt :=
  part25_raw c  _ _ _ _ _ _ Kt

theorem part26_raw (c : Dev nD) (v15 : FVec F S1x16x128 .f32) (v29 : FVec F S4x16x64 .f32) (v40 : FVec F S4x16x128 .f32) (v51 : FVec F S4x16x128 .f32) (farg2) (Kt) :
    iprop(bAt c cc0_stg1_0 farg2 ∗ ((bAt c cc0_stg1_0 farg2) -∗ Kt ⟨k0_pay52 v15 v29 ((Memref.whole cc0_stg1_0).view.readAt (Elt F) (Rect.unit (s := S16x4x64x128) ![13, 0, 0, 0] S1x4x64x128.size inb_S16x4x64x128_S1x4x64x128_13_0_0_0).toLoadRect farg2), k0_pay53 v15 v29 ((Memref.whole cc0_stg1_0).view.readAt (Elt F) (Rect.unit (s := S16x4x64x128) ![14, 0, 0, 0] S1x4x64x128.size inb_S16x4x64x128_S1x4x64x128_14_0_0_0).toLoadRect farg2), k0_pay54 v15 v29 ((Memref.whole cc0_stg1_0).view.readAt (Elt F) (Rect.unit (s := S16x4x64x128) ![15, 0, 0, 0] S1x4x64x128.size inb_S16x4x64x128_S1x4x64x128_15_0_0_0).toLoadRect farg2), k0_pay55 v40 v51⟩))
      ⊢ WP c (p26 v15 v29 v40 v51) Kt := by
  unfold p26
  simp only [k0_part26_eq_skeleton]; unfold k0_part26_skel
  simp only [Prog.lift, Prog.bind_op, Prog.bind_ret, Prog.pure_eq_ret]
  iintro ⟨Harg2, Hk⟩
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  iapply (wp_load 𝒱₀ (c : Thread nD τ) none Set.univ (m := Memref.whole cc0_stg1_0) (Finset.subset_univ _)) $$ Harg2; iintro Harg2
  rw [wp_ret]; imodintro
  iapply Hk
  iexact Harg2

theorem part26 (c : Dev nD) (D : Ins F) (Kt) :
    iprop(bAt c cc0_stg1_0 D.k ∗ ((bAt c cc0_stg1_0 D.k) -∗ Kt ⟨c183 c D, c194 c D, c205 c D, c208 c D⟩))
      ⊢ WP c (p26 (c15 c D) (c29 c D) (c40 c D) (c51 c D)) Kt :=
  part26_raw c  _ _ _ _ _ Kt

theorem part27_raw (c : Dev nD) (v62 : FVec F S4x16x128 .f32) (v73 : FVec F S4x16x128 .f32) (v84 : FVec F S4x16x128 .f32) (v95 : FVec F S4x16x128 .f32) (v106 : FVec F S4x16x128 .f32) (v117 : FVec F S4x16x128 .f32) (v128 : FVec F S4x16x128 .f32) (v139 : FVec F S4x16x128 .f32) (v150 : FVec F S4x16x128 .f32) (v161 : FVec F S4x16x128 .f32) (v172 : FVec F S4x16x128 .f32) (v183 : FVec F S4x16x128 .f32) (v194 : FVec F S4x16x128 .f32) (v205 : FVec F S4x16x128 .f32) (v208 : FVec F S4x16 .f32) (farg10) (farg11) (farg12) (Kt) :
    iprop(bAt c cc0_scratch3 farg10 ∗ bAt c cc0_scratch4 farg11 ∗ bAt c cc0_scratch5 farg12 ∗ ((bAt c cc0_scratch3 farg10 ∗ bAt c cc0_scratch4 farg11 ∗ bAt c cc0_scratch5 farg12) -∗ Kt ⟨k0_pay56 v62 v73 v84 v95 v106 v117 v128 v139 v150 v161 v172 v183 v194 v205 v208 ((Memref.whole cc0_scratch3).view.readAt (Elt F) (Rect.unit (s := S4x16) ![0, 0] S4x16.size inb_S4x16_S4x16_0_0).toLoadRect farg10), k0_pay58 v62 v73 v84 v95 v106 v117 v128 v139 v150 v161 v172 v183 v194 v205 v208 ((Memref.whole cc0_scratch3).view.readAt (Elt F) (Rect.unit (s := S4x16) ![0, 0] S4x16.size inb_S4x16_S4x16_0_0).toLoadRect farg10) ((Memref.whole cc0_scratch4).view.readAt (Elt F) (Rect.unit (s := S4x16) ![0, 0] S4x16.size inb_S4x16_S4x16_0_0).toLoadRect farg11), k0_pay59 v62 v73 v84 v95 v106 v117 v128 v139 v150 v161 v172 v183 v194 v205 v208 ((Memref.whole cc0_scratch3).view.readAt (Elt F) (Rect.unit (s := S4x16) ![0, 0] S4x16.size inb_S4x16_S4x16_0_0).toLoadRect farg10) ((Memref.whole cc0_scratch5).view.readAt (Elt F) (Rect.unit (s := S4x16x64) ![0, 0, 0] S4x16x64.size inb_S4x16x64_S4x16x64_0_0_0).toLoadRect farg12), k0_pay60 v62 v73 v84 v95 v106 v117 v128 v139 v150 v161 v172 v183 v194 v205 v208 ((Memref.whole cc0_scratch3).view.readAt (Elt F) (Rect.unit (s := S4x16) ![0, 0] S4x16.size inb_S4x16_S4x16_0_0).toLoadRect farg10)⟩))
      ⊢ WP c (p27 v62 v73 v84 v95 v106 v117 v128 v139 v150 v161 v172 v183 v194 v205 v208) Kt := by
  unfold p27
  simp only [k0_part27_eq_skeleton]; unfold k0_part27_skel
  simp only [Prog.lift, Prog.bind_op, Prog.bind_ret, Prog.pure_eq_ret]
  iintro ⟨Harg10, Harg11, Harg12, Hk⟩
  iapply (wp_load 𝒱₀ (c : Thread nD τ) none Set.univ (m := Memref.whole cc0_scratch3) (Finset.subset_univ _)) $$ Harg10; iintro Harg10
  iapply (wp_load 𝒱₀ (c : Thread nD τ) none Set.univ (m := Memref.whole cc0_scratch4) (Finset.subset_univ _)) $$ Harg11; iintro Harg11
  iapply (wp_load 𝒱₀ (c : Thread nD τ) none Set.univ (m := Memref.whole cc0_scratch5) (Finset.subset_univ _)) $$ Harg12; iintro Harg12
  rw [wp_ret]; imodintro
  iapply Hk
  isplitl [Harg10]; · iexact Harg10
  isplitl [Harg11]; · iexact Harg11
  iexact Harg12

theorem part27 (c : Dev nD) (D : Ins F) (Kt) :
    iprop(bAt c cc0_scratch3 (mr0 c D) ∗ bAt c cc0_scratch4 (lr0 c D) ∗ bAt c cc0_scratch5 (or0 c D) ∗ ((bAt c cc0_scratch3 (mr0 c D) ∗ bAt c cc0_scratch4 (lr0 c D) ∗ bAt c cc0_scratch5 (or0 c D)) -∗ Kt ⟨c238 c D, c242 c D, c246 c D, c247 c D⟩))
      ⊢ WP c (p27 (c62 c D) (c73 c D) (c84 c D) (c95 c D) (c106 c D) (c117 c D) (c128 c D) (c139 c D) (c150 c D) (c161 c D) (c172 c D) (c183 c D) (c194 c D) (c205 c D) (c208 c D)) Kt := by
  have h := part27_raw (F := F) c (c62 c D) (c73 c D) (c84 c D) (c95 c D) (c106 c D) (c117 c D) (c128 c D) (c139 c D) (c150 c D) (c161 c D) (c172 c D) (c183 c D) (c194 c D) (c205 c D) (c208 c D) (mr0 c D) (lr0 c D) (or0 c D) Kt
  rw [read_mr, read_lr, read_or] at h
  exact h

theorem part28_raw (c : Dev nD) (v15 : FVec F S1x16x128 .f32) (v40 : FVec F S4x16x128 .f32) (v51 : FVec F S4x16x128 .f32) (v62 : FVec F S4x16x128 .f32) (v73 : FVec F S4x16x128 .f32) (v238 : FVec F S4x16 .f32) (v242 : FVec F S4x16 .f32) (v246 : FVec F S4x16x64 .f32) (v247 : FVec F S4x16x1 .f32) (farg3) (Kt) :
    iprop(bAt c cc0_stg2_0 farg3 ∗ ((bAt c cc0_stg2_0 farg3) -∗ Kt ⟨k0_pay64 v15 v40 v51 v62 v238 v242 v247, k0_pay65 v15 v40 v51 v62 v238 v246 v247 ((Memref.whole cc0_stg2_0).view.readAt (Elt F) (Rect.unit (s := S16x4x64x128) ![0, 0, 0, 0] S1x4x64x128.size inb_S16x4x64x128_S1x4x64x128_0_0_0_0).toLoadRect farg3) ((Memref.whole cc0_stg2_0).view.readAt (Elt F) (Rect.unit (s := S16x4x64x128) ![1, 0, 0, 0] S1x4x64x128.size inb_S16x4x64x128_S1x4x64x128_1_0_0_0).toLoadRect farg3) ((Memref.whole cc0_stg2_0).view.readAt (Elt F) (Rect.unit (s := S16x4x64x128) ![2, 0, 0, 0] S1x4x64x128.size inb_S16x4x64x128_S1x4x64x128_2_0_0_0).toLoadRect farg3), k0_pay66 v15 v73 v238⟩))
      ⊢ WP c (p28 v15 v40 v51 v62 v73 v238 v242 v246 v247) Kt := by
  unfold p28
  simp only [k0_part28_eq_skeleton]; unfold k0_part28_skel
  simp only [Prog.lift, Prog.bind_op, Prog.bind_ret, Prog.pure_eq_ret]
  iintro ⟨Harg3, Hk⟩
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  rw [wp_ret]; imodintro
  iapply Hk
  iexact Harg3

theorem part28 (c : Dev nD) (D : Ins F) (Kt) :
    iprop(bAt c cc0_stg2_0 D.v ∗ ((bAt c cc0_stg2_0 D.v) -∗ Kt ⟨c278 c D, c282 c D, c288 c D⟩))
      ⊢ WP c (p28 (c15 c D) (c40 c D) (c51 c D) (c62 c D) (c73 c D) (c238 c D) (c242 c D) (c246 c D) (c247 c D)) Kt :=
  part28_raw c  _ _ _ _ _ _ _ _ _ _ Kt

theorem part29_raw (c : Dev nD) (v15 : FVec F S1x16x128 .f32) (v84 : FVec F S4x16x128 .f32) (v95 : FVec F S4x16x128 .f32) (v106 : FVec F S4x16x128 .f32) (v238 : FVec F S4x16 .f32) (v278 : FVec F S4x16 .f32) (v282 : FVec F S4x16x64 .f32) (v288 : FVec F S4x16x128 .f32) (farg3) (Kt) :
    iprop(bAt c cc0_stg2_0 farg3 ∗ ((bAt c cc0_stg2_0 farg3) -∗ Kt ⟨k0_pay69 v15 v84 v95 v238 v282 v288 ((Memref.whole cc0_stg2_0).view.readAt (Elt F) (Rect.unit (s := S16x4x64x128) ![3, 0, 0, 0] S1x4x64x128.size inb_S16x4x64x128_S1x4x64x128_3_0_0_0).toLoadRect farg3) ((Memref.whole cc0_stg2_0).view.readAt (Elt F) (Rect.unit (s := S16x4x64x128) ![4, 0, 0, 0] S1x4x64x128.size inb_S16x4x64x128_S1x4x64x128_4_0_0_0).toLoadRect farg3) ((Memref.whole cc0_stg2_0).view.readAt (Elt F) (Rect.unit (s := S16x4x64x128) ![5, 0, 0, 0] S1x4x64x128.size inb_S16x4x64x128_S1x4x64x128_5_0_0_0).toLoadRect farg3), k0_pay70 v15 v106 v238, k0_pay71 v15 v84 v95 v106 v238 v278 v288⟩))
      ⊢ WP c (p29 v15 v84 v95 v106 v238 v278 v282 v288) Kt := by
  unfold p29
  simp only [k0_part29_eq_skeleton]; unfold k0_part29_skel
  simp only [Prog.lift, Prog.bind_op, Prog.bind_ret, Prog.pure_eq_ret]
  iintro ⟨Harg3, Hk⟩
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  rw [wp_ret]; imodintro
  iapply Hk
  iexact Harg3

theorem part29 (c : Dev nD) (D : Ins F) (Kt) :
    iprop(bAt c cc0_stg2_0 D.v ∗ ((bAt c cc0_stg2_0 D.v) -∗ Kt ⟨c318 c D, c324 c D, c326 c D⟩))
      ⊢ WP c (p29 (c15 c D) (c84 c D) (c95 c D) (c106 c D) (c238 c D) (c278 c D) (c282 c D) (c288 c D)) Kt :=
  part29_raw c  _ _ _ _ _ _ _ _ _ Kt

theorem part30_raw (c : Dev nD) (v15 : FVec F S1x16x128 .f32) (v117 : FVec F S4x16x128 .f32) (v128 : FVec F S4x16x128 .f32) (v139 : FVec F S4x16x128 .f32) (v238 : FVec F S4x16 .f32) (v318 : FVec F S4x16x64 .f32) (v324 : FVec F S4x16x128 .f32) (v326 : FVec F S4x16 .f32) (farg3) (Kt) :
    iprop(bAt c cc0_stg2_0 farg3 ∗ ((bAt c cc0_stg2_0 farg3) -∗ Kt ⟨k0_pay75 v15 v117 v128 v139 v238 v326, k0_pay76 v15 v117 v128 v139 v238 v318 v324 ((Memref.whole cc0_stg2_0).view.readAt (Elt F) (Rect.unit (s := S16x4x64x128) ![6, 0, 0, 0] S1x4x64x128.size inb_S16x4x64x128_S1x4x64x128_6_0_0_0).toLoadRect farg3) ((Memref.whole cc0_stg2_0).view.readAt (Elt F) (Rect.unit (s := S16x4x64x128) ![7, 0, 0, 0] S1x4x64x128.size inb_S16x4x64x128_S1x4x64x128_7_0_0_0).toLoadRect farg3) ((Memref.whole cc0_stg2_0).view.readAt (Elt F) (Rect.unit (s := S16x4x64x128) ![8, 0, 0, 0] S1x4x64x128.size inb_S16x4x64x128_S1x4x64x128_8_0_0_0).toLoadRect farg3) ((Memref.whole cc0_stg2_0).view.readAt (Elt F) (Rect.unit (s := S16x4x64x128) ![9, 0, 0, 0] S1x4x64x128.size inb_S16x4x64x128_S1x4x64x128_9_0_0_0).toLoadRect farg3), k0_pay77 v238⟩))
      ⊢ WP c (p30 v15 v117 v128 v139 v238 v318 v324 v326) Kt := by
  unfold p30
  simp only [k0_part30_eq_skeleton]; unfold k0_part30_skel
  simp only [Prog.lift, Prog.bind_op, Prog.bind_ret, Prog.pure_eq_ret]
  iintro ⟨Harg3, Hk⟩
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  rw [wp_ret]; imodintro
  iapply Hk
  iexact Harg3

theorem part30 (c : Dev nD) (D : Ins F) (Kt) :
    iprop(bAt c cc0_stg2_0 D.v ∗ ((bAt c cc0_stg2_0 D.v) -∗ Kt ⟨c362 c D, c366 c D, c367 c D⟩))
      ⊢ WP c (p30 (c15 c D) (c117 c D) (c128 c D) (c139 c D) (c238 c D) (c318 c D) (c324 c D) (c326 c D)) Kt :=
  part30_raw c  _ _ _ _ _ _ _ _ _ Kt

theorem part31_raw (c : Dev nD) (v15 : FVec F S1x16x128 .f32) (v150 : FVec F S4x16x128 .f32) (v161 : FVec F S4x16x128 .f32) (v172 : FVec F S4x16x128 .f32) (v183 : FVec F S4x16x128 .f32) (v238 : FVec F S4x16 .f32) (v362 : FVec F S4x16 .f32) (v366 : FVec F S4x16x64 .f32) (v367 : FVec F S4x16x1 .f32) (farg3) (Kt) :
    iprop(bAt c cc0_stg2_0 farg3 ∗ ((bAt c cc0_stg2_0 farg3) -∗ Kt ⟨k0_pay81 v15 v150 v161 v172 v238 v362 v367, k0_pay82 v15 v150 v161 v172 v238 v366 v367 ((Memref.whole cc0_stg2_0).view.readAt (Elt F) (Rect.unit (s := S16x4x64x128) ![10, 0, 0, 0] S1x4x64x128.size inb_S16x4x64x128_S1x4x64x128_10_0_0_0).toLoadRect farg3) ((Memref.whole cc0_stg2_0).view.readAt (Elt F) (Rect.unit (s := S16x4x64x128) ![11, 0, 0, 0] S1x4x64x128.size inb_S16x4x64x128_S1x4x64x128_11_0_0_0).toLoadRect farg3) ((Memref.whole cc0_stg2_0).view.readAt (Elt F) (Rect.unit (s := S16x4x64x128) ![12, 0, 0, 0] S1x4x64x128.size inb_S16x4x64x128_S1x4x64x128_12_0_0_0).toLoadRect farg3), k0_pay83 v15 v183 v238⟩))
      ⊢ WP c (p31 v15 v150 v161 v172 v183 v238 v362 v366 v367) Kt := by
  unfold p31
  simp only [k0_part31_eq_skeleton]; unfold k0_part31_skel
  simp only [Prog.lift, Prog.bind_op, Prog.bind_ret, Prog.pure_eq_ret]
  iintro ⟨Harg3, Hk⟩
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  iapply (wp_load 𝒱₀ (c : Thread nD τ) none Set.univ (m := Memref.whole cc0_stg2_0) (Finset.subset_univ _)) $$ Harg3; iintro Harg3
  rw [wp_ret]; imodintro
  iapply Hk
  iexact Harg3

theorem part31 (c : Dev nD) (D : Ins F) (Kt) :
    iprop(bAt c cc0_stg2_0 D.v ∗ ((bAt c cc0_stg2_0 D.v) -∗ Kt ⟨c398 c D, c402 c D, c408 c D⟩))
      ⊢ WP c (p31 (c15 c D) (c150 c D) (c161 c D) (c172 c D) (c183 c D) (c238 c D) (c362 c D) (c366 c D) (c367 c D)) Kt :=
  part31_raw c  _ _ _ _ _ _ _ _ _ _ Kt

end Cert.PagedProof
end
-- ==== Proof.Runs.lean ====
module

public import proofs.«01_k».proof.Proof.Parts

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # Whole loads and stores -/

section Whole
variable (c : Dev nD)

theorem ret_intro {α : Type} {Q : α → sProp 𝕄} (a : α) : Q a ⊢ WP c (.ret a) Q := by
  unfold WP; rw [wp_ret]; exact fupd_intro

theorem ld_stg0_0 {α : Type} {Q : α → sProp 𝕄} (f) (h) {hl} {k : Vec F S16x1x16x64 .bf16 → Prog (TpuEff nD τ sig (Elt F) Λ₀ .tc) α} :
    bAt c cc0_stg0_0 f ⊢ iprop((bAt c cc0_stg0_0 f -∗ WP c (k f) Q) -∗ WP c (.op (.load (Memref.whole cc0_stg0_0) (Rect.unit (s := S16x1x16x64) ![0, 0, 0, 0] S16x1x16x64.size h).toLoadRect hl) k) Q) := by
  have e : (Memref.whole cc0_stg0_0).view.readAt (Elt F) (Rect.unit (s := S16x1x16x64) ![0, 0, 0, 0] S16x1x16x64.size h).toLoadRect f = f := Memref.readAt_unit_zero (Elt F) cc0_stg0_0 hz4 _ f
  iintro H Hk
  iapply (wp_load 𝒱₀ (c : Thread nD τ) none Set.univ (m := Memref.whole cc0_stg0_0) (Finset.subset_univ _)) $$ H; iintro H
  rw [e]; iapply Hk; iexact H
theorem st_stg0_0 {α : Type} {Q : α → sProp 𝕄} (f) (w : Vec F S16x1x16x64 .bf16) (h) {hx} {hm} {k : PUnit → Prog (TpuEff nD τ sig (Elt F) Λ₀ .tc) α} :
    bAt c cc0_stg0_0 f ⊢ iprop((bAt c cc0_stg0_0 w -∗ WP c (k ⟨⟩) Q) -∗ WP c (.op (.store (Memref.whole cc0_stg0_0) (Rect.unit (s := S16x1x16x64) ![0, 0, 0, 0] S16x1x16x64.size h) w Finset.univ hx hm) k) Q) := by
  have e : ((Memref.whole cc0_stg0_0).access (Rect.unit (s := S16x1x16x64) ![0, 0, 0, 0] S16x1x16x64.size h) : View sig .tc _ _ _).write (Elt F) f w Finset.univ = w := Memref.write_access_unit_zero_univ (Elt F) cc0_stg0_0 hz4 _ f w
  iintro H Hk
  iapply (wp_store 𝒱₀ (c : Thread nD τ) none Set.univ (m := Memref.whole cc0_stg0_0) (r := (Rect.unit (s := S16x1x16x64) ![0, 0, 0, 0] S16x1x16x64.size h)) (Mk := Finset.univ) (Finset.subset_univ _)) $$ H; iintro H
  rw [e]; iapply Hk; iexact H

theorem ld_stg3_0 {α : Type} {Q : α → sProp 𝕄} (f) (h) {hl} {k : Vec F S16x128 .i32 → Prog (TpuEff nD τ sig (Elt F) Λ₀ .tc) α} :
    bAt c cc0_stg3_0 f ⊢ iprop((bAt c cc0_stg3_0 f -∗ WP c (k f) Q) -∗ WP c (.op (.load (Memref.whole cc0_stg3_0) (Rect.unit (s := S16x128) ![0, 0] S16x128.size h).toLoadRect hl) k) Q) := by
  have e : (Memref.whole cc0_stg3_0).view.readAt (Elt F) (Rect.unit (s := S16x128) ![0, 0] S16x128.size h).toLoadRect f = f := Memref.readAt_unit_zero (Elt F) cc0_stg3_0 hz2 _ f
  iintro H Hk
  iapply (wp_load 𝒱₀ (c : Thread nD τ) none Set.univ (m := Memref.whole cc0_stg3_0) (Finset.subset_univ _)) $$ H; iintro H
  rw [e]; iapply Hk; iexact H
theorem st_stg3_0 {α : Type} {Q : α → sProp 𝕄} (f) (w : Vec F S16x128 .i32) (h) {hx} {hm} {k : PUnit → Prog (TpuEff nD τ sig (Elt F) Λ₀ .tc) α} :
    bAt c cc0_stg3_0 f ⊢ iprop((bAt c cc0_stg3_0 w -∗ WP c (k ⟨⟩) Q) -∗ WP c (.op (.store (Memref.whole cc0_stg3_0) (Rect.unit (s := S16x128) ![0, 0] S16x128.size h) w Finset.univ hx hm) k) Q) := by
  have e : ((Memref.whole cc0_stg3_0).access (Rect.unit (s := S16x128) ![0, 0] S16x128.size h) : View sig .tc _ _ _).write (Elt F) f w Finset.univ = w := Memref.write_access_unit_zero_univ (Elt F) cc0_stg3_0 hz2 _ f w
  iintro H Hk
  iapply (wp_store 𝒱₀ (c : Thread nD τ) none Set.univ (m := Memref.whole cc0_stg3_0) (r := (Rect.unit (s := S16x128) ![0, 0] S16x128.size h)) (Mk := Finset.univ) (Finset.subset_univ _)) $$ H; iintro H
  rw [e]; iapply Hk; iexact H

theorem ld_stg4_0 {α : Type} {Q : α → sProp 𝕄} (f) (h) {hl} {k : Vec F S16x1 .i32 → Prog (TpuEff nD τ sig (Elt F) Λ₀ .tc) α} :
    bAt c cc0_stg4_0 f ⊢ iprop((bAt c cc0_stg4_0 f -∗ WP c (k f) Q) -∗ WP c (.op (.load (Memref.whole cc0_stg4_0) (Rect.unit (s := S16x1) ![0, 0] S16x1.size h).toLoadRect hl) k) Q) := by
  have e : (Memref.whole cc0_stg4_0).view.readAt (Elt F) (Rect.unit (s := S16x1) ![0, 0] S16x1.size h).toLoadRect f = f := Memref.readAt_unit_zero (Elt F) cc0_stg4_0 hz2 _ f
  iintro H Hk
  iapply (wp_load 𝒱₀ (c : Thread nD τ) none Set.univ (m := Memref.whole cc0_stg4_0) (Finset.subset_univ _)) $$ H; iintro H
  rw [e]; iapply Hk; iexact H
theorem st_stg4_0 {α : Type} {Q : α → sProp 𝕄} (f) (w : Vec F S16x1 .i32) (h) {hx} {hm} {k : PUnit → Prog (TpuEff nD τ sig (Elt F) Λ₀ .tc) α} :
    bAt c cc0_stg4_0 f ⊢ iprop((bAt c cc0_stg4_0 w -∗ WP c (k ⟨⟩) Q) -∗ WP c (.op (.store (Memref.whole cc0_stg4_0) (Rect.unit (s := S16x1) ![0, 0] S16x1.size h) w Finset.univ hx hm) k) Q) := by
  have e : ((Memref.whole cc0_stg4_0).access (Rect.unit (s := S16x1) ![0, 0] S16x1.size h) : View sig .tc _ _ _).write (Elt F) f w Finset.univ = w := Memref.write_access_unit_zero_univ (Elt F) cc0_stg4_0 hz2 _ f w
  iintro H Hk
  iapply (wp_store 𝒱₀ (c : Thread nD τ) none Set.univ (m := Memref.whole cc0_stg4_0) (r := (Rect.unit (s := S16x1) ![0, 0] S16x1.size h)) (Mk := Finset.univ) (Finset.subset_univ _)) $$ H; iintro H
  rw [e]; iapply Hk; iexact H

theorem ld_stg5_0 {α : Type} {Q : α → sProp 𝕄} (f) (h) {hl} {k : Vec F S16x1x16x64 .f32 → Prog (TpuEff nD τ sig (Elt F) Λ₀ .tc) α} :
    bAt c cc0_stg5_0 f ⊢ iprop((bAt c cc0_stg5_0 f -∗ WP c (k f) Q) -∗ WP c (.op (.load (Memref.whole cc0_stg5_0) (Rect.unit (s := S16x1x16x64) ![0, 0, 0, 0] S16x1x16x64.size h).toLoadRect hl) k) Q) := by
  have e : (Memref.whole cc0_stg5_0).view.readAt (Elt F) (Rect.unit (s := S16x1x16x64) ![0, 0, 0, 0] S16x1x16x64.size h).toLoadRect f = f := Memref.readAt_unit_zero (Elt F) cc0_stg5_0 hz4 _ f
  iintro H Hk
  iapply (wp_load 𝒱₀ (c : Thread nD τ) none Set.univ (m := Memref.whole cc0_stg5_0) (Finset.subset_univ _)) $$ H; iintro H
  rw [e]; iapply Hk; iexact H
theorem st_stg5_0 {α : Type} {Q : α → sProp 𝕄} (f) (w : Vec F S16x1x16x64 .f32) (h) {hx} {hm} {k : PUnit → Prog (TpuEff nD τ sig (Elt F) Λ₀ .tc) α} :
    bAt c cc0_stg5_0 f ⊢ iprop((bAt c cc0_stg5_0 w -∗ WP c (k ⟨⟩) Q) -∗ WP c (.op (.store (Memref.whole cc0_stg5_0) (Rect.unit (s := S16x1x16x64) ![0, 0, 0, 0] S16x1x16x64.size h) w Finset.univ hx hm) k) Q) := by
  have e : ((Memref.whole cc0_stg5_0).access (Rect.unit (s := S16x1x16x64) ![0, 0, 0, 0] S16x1x16x64.size h) : View sig .tc _ _ _).write (Elt F) f w Finset.univ = w := Memref.write_access_unit_zero_univ (Elt F) cc0_stg5_0 hz4 _ f w
  iintro H Hk
  iapply (wp_store 𝒱₀ (c : Thread nD τ) none Set.univ (m := Memref.whole cc0_stg5_0) (r := (Rect.unit (s := S16x1x16x64) ![0, 0, 0, 0] S16x1x16x64.size h)) (Mk := Finset.univ) (Finset.subset_univ _)) $$ H; iintro H
  rw [e]; iapply Hk; iexact H

theorem ld_scratch2 {α : Type} {Q : α → sProp 𝕄} (f) (h) {hl} {k : Vec F S16x128 .f32 → Prog (TpuEff nD τ sig (Elt F) Λ₀ .tc) α} :
    bAt c cc0_scratch2 f ⊢ iprop((bAt c cc0_scratch2 f -∗ WP c (k f) Q) -∗ WP c (.op (.load (Memref.whole cc0_scratch2) (Rect.unit (s := S16x128) ![0, 0] S16x128.size h).toLoadRect hl) k) Q) := by
  have e : (Memref.whole cc0_scratch2).view.readAt (Elt F) (Rect.unit (s := S16x128) ![0, 0] S16x128.size h).toLoadRect f = f := Memref.readAt_unit_zero (Elt F) cc0_scratch2 hz2 _ f
  iintro H Hk
  iapply (wp_load 𝒱₀ (c : Thread nD τ) none Set.univ (m := Memref.whole cc0_scratch2) (Finset.subset_univ _)) $$ H; iintro H
  rw [e]; iapply Hk; iexact H
theorem st_scratch2 {α : Type} {Q : α → sProp 𝕄} (f) (w : Vec F S16x128 .f32) (h) {hx} {hm} {k : PUnit → Prog (TpuEff nD τ sig (Elt F) Λ₀ .tc) α} :
    bAt c cc0_scratch2 f ⊢ iprop((bAt c cc0_scratch2 w -∗ WP c (k ⟨⟩) Q) -∗ WP c (.op (.store (Memref.whole cc0_scratch2) (Rect.unit (s := S16x128) ![0, 0] S16x128.size h) w Finset.univ hx hm) k) Q) := by
  have e : ((Memref.whole cc0_scratch2).access (Rect.unit (s := S16x128) ![0, 0] S16x128.size h) : View sig .tc _ _ _).write (Elt F) f w Finset.univ = w := Memref.write_access_unit_zero_univ (Elt F) cc0_scratch2 hz2 _ f w
  iintro H Hk
  iapply (wp_store 𝒱₀ (c : Thread nD τ) none Set.univ (m := Memref.whole cc0_scratch2) (r := (Rect.unit (s := S16x128) ![0, 0] S16x128.size h)) (Mk := Finset.univ) (Finset.subset_univ _)) $$ H; iintro H
  rw [e]; iapply Hk; iexact H

theorem ld_scratch3 {α : Type} {Q : α → sProp 𝕄} (f) (h) {hl} {k : Vec F S4x16 .f32 → Prog (TpuEff nD τ sig (Elt F) Λ₀ .tc) α} :
    bAt c cc0_scratch3 f ⊢ iprop((bAt c cc0_scratch3 f -∗ WP c (k f) Q) -∗ WP c (.op (.load (Memref.whole cc0_scratch3) (Rect.unit (s := S4x16) ![0, 0] S4x16.size h).toLoadRect hl) k) Q) := by
  have e : (Memref.whole cc0_scratch3).view.readAt (Elt F) (Rect.unit (s := S4x16) ![0, 0] S4x16.size h).toLoadRect f = f := Memref.readAt_unit_zero (Elt F) cc0_scratch3 hz2 _ f
  iintro H Hk
  iapply (wp_load 𝒱₀ (c : Thread nD τ) none Set.univ (m := Memref.whole cc0_scratch3) (Finset.subset_univ _)) $$ H; iintro H
  rw [e]; iapply Hk; iexact H
theorem st_scratch3 {α : Type} {Q : α → sProp 𝕄} (f) (w : Vec F S4x16 .f32) (h) {hx} {hm} {k : PUnit → Prog (TpuEff nD τ sig (Elt F) Λ₀ .tc) α} :
    bAt c cc0_scratch3 f ⊢ iprop((bAt c cc0_scratch3 w -∗ WP c (k ⟨⟩) Q) -∗ WP c (.op (.store (Memref.whole cc0_scratch3) (Rect.unit (s := S4x16) ![0, 0] S4x16.size h) w Finset.univ hx hm) k) Q) := by
  have e : ((Memref.whole cc0_scratch3).access (Rect.unit (s := S4x16) ![0, 0] S4x16.size h) : View sig .tc _ _ _).write (Elt F) f w Finset.univ = w := Memref.write_access_unit_zero_univ (Elt F) cc0_scratch3 hz2 _ f w
  iintro H Hk
  iapply (wp_store 𝒱₀ (c : Thread nD τ) none Set.univ (m := Memref.whole cc0_scratch3) (r := (Rect.unit (s := S4x16) ![0, 0] S4x16.size h)) (Mk := Finset.univ) (Finset.subset_univ _)) $$ H; iintro H
  rw [e]; iapply Hk; iexact H

theorem ld_scratch4 {α : Type} {Q : α → sProp 𝕄} (f) (h) {hl} {k : Vec F S4x16 .f32 → Prog (TpuEff nD τ sig (Elt F) Λ₀ .tc) α} :
    bAt c cc0_scratch4 f ⊢ iprop((bAt c cc0_scratch4 f -∗ WP c (k f) Q) -∗ WP c (.op (.load (Memref.whole cc0_scratch4) (Rect.unit (s := S4x16) ![0, 0] S4x16.size h).toLoadRect hl) k) Q) := by
  have e : (Memref.whole cc0_scratch4).view.readAt (Elt F) (Rect.unit (s := S4x16) ![0, 0] S4x16.size h).toLoadRect f = f := Memref.readAt_unit_zero (Elt F) cc0_scratch4 hz2 _ f
  iintro H Hk
  iapply (wp_load 𝒱₀ (c : Thread nD τ) none Set.univ (m := Memref.whole cc0_scratch4) (Finset.subset_univ _)) $$ H; iintro H
  rw [e]; iapply Hk; iexact H
theorem st_scratch4 {α : Type} {Q : α → sProp 𝕄} (f) (w : Vec F S4x16 .f32) (h) {hx} {hm} {k : PUnit → Prog (TpuEff nD τ sig (Elt F) Λ₀ .tc) α} :
    bAt c cc0_scratch4 f ⊢ iprop((bAt c cc0_scratch4 w -∗ WP c (k ⟨⟩) Q) -∗ WP c (.op (.store (Memref.whole cc0_scratch4) (Rect.unit (s := S4x16) ![0, 0] S4x16.size h) w Finset.univ hx hm) k) Q) := by
  have e : ((Memref.whole cc0_scratch4).access (Rect.unit (s := S4x16) ![0, 0] S4x16.size h) : View sig .tc _ _ _).write (Elt F) f w Finset.univ = w := Memref.write_access_unit_zero_univ (Elt F) cc0_scratch4 hz2 _ f w
  iintro H Hk
  iapply (wp_store 𝒱₀ (c : Thread nD τ) none Set.univ (m := Memref.whole cc0_scratch4) (r := (Rect.unit (s := S4x16) ![0, 0] S4x16.size h)) (Mk := Finset.univ) (Finset.subset_univ _)) $$ H; iintro H
  rw [e]; iapply Hk; iexact H

theorem ld_scratch5 {α : Type} {Q : α → sProp 𝕄} (f) (h) {hl} {k : Vec F S4x16x64 .f32 → Prog (TpuEff nD τ sig (Elt F) Λ₀ .tc) α} :
    bAt c cc0_scratch5 f ⊢ iprop((bAt c cc0_scratch5 f -∗ WP c (k f) Q) -∗ WP c (.op (.load (Memref.whole cc0_scratch5) (Rect.unit (s := S4x16x64) ![0, 0, 0] S4x16x64.size h).toLoadRect hl) k) Q) := by
  have e : (Memref.whole cc0_scratch5).view.readAt (Elt F) (Rect.unit (s := S4x16x64) ![0, 0, 0] S4x16x64.size h).toLoadRect f = f := Memref.readAt_unit_zero (Elt F) cc0_scratch5 hz3 _ f
  iintro H Hk
  iapply (wp_load 𝒱₀ (c : Thread nD τ) none Set.univ (m := Memref.whole cc0_scratch5) (Finset.subset_univ _)) $$ H; iintro H
  rw [e]; iapply Hk; iexact H
theorem st_scratch5 {α : Type} {Q : α → sProp 𝕄} (f) (w : Vec F S4x16x64 .f32) (h) {hx} {hm} {k : PUnit → Prog (TpuEff nD τ sig (Elt F) Λ₀ .tc) α} :
    bAt c cc0_scratch5 f ⊢ iprop((bAt c cc0_scratch5 w -∗ WP c (k ⟨⟩) Q) -∗ WP c (.op (.store (Memref.whole cc0_scratch5) (Rect.unit (s := S4x16x64) ![0, 0, 0] S4x16x64.size h) w Finset.univ hx hm) k) Q) := by
  have e : ((Memref.whole cc0_scratch5).access (Rect.unit (s := S4x16x64) ![0, 0, 0] S4x16x64.size h) : View sig .tc _ _ _).write (Elt F) f w Finset.univ = w := Memref.write_access_unit_zero_univ (Elt F) cc0_scratch5 hz3 _ f w
  iintro H Hk
  iapply (wp_store 𝒱₀ (c : Thread nD τ) none Set.univ (m := Memref.whole cc0_scratch5) (r := (Rect.unit (s := S4x16x64) ![0, 0, 0] S4x16x64.size h)) (Mk := Finset.univ) (Finset.subset_univ _)) $$ H; iintro H
  rw [e]; iapply Hk; iexact H

theorem ld_scratch6 {α : Type} {Q : α → sProp 𝕄} (f) (h) {hl} {k : Vec F S16x16x64 .f32 → Prog (TpuEff nD τ sig (Elt F) Λ₀ .tc) α} :
    bAt c cc0_scratch6 f ⊢ iprop((bAt c cc0_scratch6 f -∗ WP c (k f) Q) -∗ WP c (.op (.load (Memref.whole cc0_scratch6) (Rect.unit (s := S16x16x64) ![0, 0, 0] S16x16x64.size h).toLoadRect hl) k) Q) := by
  have e : (Memref.whole cc0_scratch6).view.readAt (Elt F) (Rect.unit (s := S16x16x64) ![0, 0, 0] S16x16x64.size h).toLoadRect f = f := Memref.readAt_unit_zero (Elt F) cc0_scratch6 hz3 _ f
  iintro H Hk
  iapply (wp_load 𝒱₀ (c : Thread nD τ) none Set.univ (m := Memref.whole cc0_scratch6) (Finset.subset_univ _)) $$ H; iintro H
  rw [e]; iapply Hk; iexact H
theorem st_scratch6 {α : Type} {Q : α → sProp 𝕄} (f) (w : Vec F S16x16x64 .f32) (h) {hx} {hm} {k : PUnit → Prog (TpuEff nD τ sig (Elt F) Λ₀ .tc) α} :
    bAt c cc0_scratch6 f ⊢ iprop((bAt c cc0_scratch6 w -∗ WP c (k ⟨⟩) Q) -∗ WP c (.op (.store (Memref.whole cc0_scratch6) (Rect.unit (s := S16x16x64) ![0, 0, 0] S16x16x64.size h) w Finset.univ hx hm) k) Q) := by
  have e : ((Memref.whole cc0_scratch6).access (Rect.unit (s := S16x16x64) ![0, 0, 0] S16x16x64.size h) : View sig .tc _ _ _).write (Elt F) f w Finset.univ = w := Memref.write_access_unit_zero_univ (Elt F) cc0_scratch6 hz3 _ f w
  iintro H Hk
  iapply (wp_store 𝒱₀ (c : Thread nD τ) none Set.univ (m := Memref.whole cc0_scratch6) (r := (Rect.unit (s := S16x16x64) ![0, 0, 0] S16x16x64.size h)) (Mk := Finset.univ) (Finset.subset_univ _)) $$ H; iintro H
  rw [e]; iapply Hk; iexact H

end Whole

/-! # The printed parts that signal, send, wait and keep -/

abbrev barArr : Sems sig S_ := SemArray.scalar (sig.barrier 0 rfl)
theorem bar_sem : barArr.sem = barS := rfl
theorem one_int : (1#32).toInt = ((1 : ℕ) : Int) := rfl
theorem six_int : (6#32).toInt = ((6 : ℕ) : Int) := rfl

variable (V : Vals F) (κ : GSem nD τ sig → ℕ)

/-- What a signal to a ring neighbour hands over: the right to make it, the slot that neighbour fills, and word that the
receiving semaphore is in use. -/
def sigZ (c : Dev nD) (j : Fin 3) : sProp 𝕄 :=
  iprop(dutyTok ER (bcell (zp j c)) 0 (dz (op j)) ∗ (∃ f, zPts (F := F) c (nx (op j)) fullShare f) ∗ reached ER (dcell 1 (op j) c) 0)
def sigX (c : Dev nD) (j : Fin 3) : sProp 𝕄 :=
  iprop(dutyTok ER (bcell (xp j c)) 0 (dx j) ∗ (∃ f, xPts (F := F) c (nx j) fullShare f) ∗ reached ER (dcell 3 j c) 0)

theorem sig_z (c n : Dev nD) (j : Fin 3) (hn : n = zp j c) (O : CellTallies nD τ sig Unit) {α : Type} {Q : α → sProp 𝕄}
    {k : PUnit → Prog (TpuEff nD τ sig (Elt F) Λ₀ .tc) α} :
    iprop(records V κ ∗ ow c (O + tal (bcell (zp j c)) 1) ∗ sigZ c j)
      ⊢ iprop((ow c O -∗ WP c (k ⟨⟩) Q) -∗ WP c (.op (.semSignal (n, .tc) barS ((1 : ℕ) : Int)) k) Q) := by
  unfold sigZ
  iintro ⟨#HR, HO, Ht, ⟨%f, Hf⟩, Hr⟩ Hk
  iapply (signal_z V κ c n j hn O f) $$ [HO Ht Hf Hr]
  · isplitr; · iexact HR
    isplitl [HO]; · iexact HO
    isplitl [Ht]; · iexact Ht
    isplitl [Hf]; · iexact Hf
    iexact Hr
  iexact Hk

theorem sig_x (c n : Dev nD) (j : Fin 3) (hn : n = xp j c) (O : CellTallies nD τ sig Unit) {α : Type} {Q : α → sProp 𝕄}
    {k : PUnit → Prog (TpuEff nD τ sig (Elt F) Λ₀ .tc) α} :
    iprop(records V κ ∗ ow c (O + tal (bcell (xp j c)) 1) ∗ sigX c j)
      ⊢ iprop((ow c O -∗ WP c (k ⟨⟩) Q) -∗ WP c (.op (.semSignal (n, .tc) barS ((1 : ℕ) : Int)) k) Q) := by
  unfold sigX
  iintro ⟨#HR, HO, Ht, ⟨%f, Hf⟩, Hr⟩ Hk
  iapply (signal_x V κ c n j hn O f) $$ [HO Ht Hf Hr]
  · isplitr; · iexact HR
    isplitl [HO]; · iexact HO
    isplitl [Ht]; · iexact Ht
    isplitl [Hf]; · iexact Hf
    iexact Hr
  iexact Hk

theorem part1 (c : Dev nD) (v2 v5 v8 : BitVec 32) (h) (Kt) :
    iprop(records V κ ∗ ow c (O₀ c) ∗ sigZ c 0 ∗ sigZ c 1 ∗ (ow c (oB2 c) -∗ Kt ⟨⟩)) ⊢ WP c (p1 (F := F) c v2 v5 v8 barArr h) Kt := by
  unfold p1
  simp only [k0_part1_eq_skeleton]; unfold k0_part1_skel
  simp only [semSignalWord, Prog.lift, Prog.bind_op, Prog.bind_ret, Prog.pure_eq_ret, bar_sem, one_int]
  iintro ⟨#HR, HO, H1, H2, Hk⟩
  iapply (sig_z V κ c _ 0 (dev1 c _) (oB1 c)) $$ [HO H1]
  · isplitr; · iexact HR
    isplitl [HO]; · iexact HO
    iexact H1
  iintro HO
  iapply (sig_z V κ c _ 1 (dev2 c _) (oB2 c)) $$ [HO H2]
  · isplitr; · iexact HR
    isplitl [HO]; · iexact HO
    iexact H2
  iintro HO
  iapply (ret_intro c)
  iapply Hk; iexact HO

theorem part2 (c : Dev nD) (v2 v5 v8 : BitVec 32) (h) (Kt) :
    iprop(records V κ ∗ ow c (oB2 c) ∗ sigZ c 2 ∗ (ow c (oB3 c) -∗ ∀ r, Kt r)) ⊢ WP c (p2 (F := F) c v2 v5 v8 barArr h) Kt := by
  unfold p2
  simp only [k0_part2_eq_skeleton]; unfold k0_part2_skel
  simp only [semSignalWord, Prog.lift, Prog.bind_op, Prog.bind_ret, Prog.pure_eq_ret, bar_sem, one_int]
  iintro ⟨#HR, HO, H1, Hk⟩
  iapply (sig_z V κ c _ 2 (dev3 c _) (oB3 c)) $$ [HO H1]
  · isplitr; · iexact HR
    isplitl [HO]; · iexact HO
    iexact H1
  iintro HO
  iapply (ret_intro c)
  ihave Hk := Hk $$ HO
  iapply Hk

theorem part3 (c : Dev nD) (v2 v5 v8 : BitVec 32) (h) (v512 v515 v516 v517 v518) (Kt) :
    iprop(records V κ ∗ ow c (oB3 c) ∗ sigX c 0 ∗ (ow c (oB4 c) -∗ ∀ r, Kt r)) ⊢ WP c (p3 (F := F) c v2 v5 v8 barArr h v512 v515 v516 v517 v518) Kt := by
  unfold p3
  simp only [k0_part3_eq_skeleton]; unfold k0_part3_skel
  simp only [semSignalWord, Prog.lift, Prog.bind_op, Prog.bind_ret, Prog.pure_eq_ret, bar_sem, one_int]
  iintro ⟨#HR, HO, H1, Hk⟩
  iapply (sig_x V κ c _ 0 (dev4 c _) (oB4 c)) $$ [HO H1]
  · isplitr; · iexact HR
    isplitl [HO]; · iexact HO
    iexact H1
  iintro HO
  iapply (ret_intro c)
  ihave Hk := Hk $$ HO
  iapply Hk

theorem part4 (c : Dev nD) (v2 v5 v8 : BitVec 32) (h) (v551 v553 c4) (bt) (Kt) :
    iprop(records V κ ∗ ow c (oB4 c) ∗ sigX c 1 ∗ sigX c 2 ∗ bAt c cc0_stg3_0 bt ∗ ((ow c (oZ0 c) ∗ bAt c cc0_stg3_0 bt) -∗ Kt (k0_pay3 bt)))
      ⊢ WP c (p4 (F := F) c v2 v5 v8 barArr h v551 v553 c4) Kt := by
  unfold p4
  simp only [k0_part4_eq_skeleton]; unfold k0_part4_skel
  simp only [semSignalWord, Prog.lift, Prog.bind_op, Prog.bind_ret, Prog.pure_eq_ret, bar_sem, one_int]
  iintro ⟨#HR, HO, H1, H2, Hb, Hk⟩
  iapply (sig_x V κ c _ 1 (dev5 c _) (oB5 c)) $$ [HO H1]
  · isplitr; · iexact HR
    isplitl [HO]; · iexact HO
    iexact H1
  iintro HO
  iapply (sig_x V κ c _ 2 (dev6 c _) (oZ0 c)) $$ [HO H2]
  · isplitr; · iexact HR
    isplitl [HO]; · iexact HO
    iexact H2
  iintro HO
  iapply (ld_stg3_0 c _ _) $$ Hb; iintro Hb
  iapply (ret_intro c)
  iapply Hk; isplitl [HO]; · iexact HO
  iexact Hb

theorem part21_raw (c : Dev nD) (D : Ins F) (Kt) :
    iprop(records V κ ∗ ow c (O₀ c) ∗ (sigZ c 0 ∗ sigZ c 1 ∗ sigZ c 2) ∗ (sigX c 0 ∗ sigX c 1 ∗ sigX c 2)
        ∗ bAt c cc0_stg0_0 D.q ∗ bAt c cc0_stg1_0 D.k ∗ bAt c cc0_stg3_0 D.bt ∗ bAt c cc0_stg4_0 D.ln
        ∗ (∃ f, bAt c cc0_scratch2 f) ∗ (∃ f, bAt c cc0_scratch3 f) ∗ (∃ f, bAt c cc0_scratch4 f) ∗ (∃ f, bAt c cc0_scratch5 f)
        ∗ ((ow c (oZ0 c) ∗ bAt c cc0_stg0_0 D.q ∗ bAt c cc0_stg1_0 D.k ∗ bAt c cc0_stg3_0 D.bt ∗ bAt c cc0_stg4_0 D.ln
            ∗ bAt c cc0_scratch2 (k0_pay26 c (k0_pay3 D.bt) D.ln) ∗ bAt c cc0_scratch3 (k0_pay27 (F := F)) ∗ bAt c cc0_scratch4 (k0_pay28 (F := F)) ∗ bAt c cc0_scratch5 (k0_pay29 (F := F)))
          -∗ ∀ a v2 v5 v8, Kt ⟨a, c, v2, v5, v8, barArr, k0_pay30 (k0_pay26 c (k0_pay3 D.bt) D.ln), k0_pay31 c D.q, k0_pay32 c D.q ((Memref.whole cc0_stg1_0).view.readAt (Elt F) (Rect.unit (s := S16x4x64x128) ![0, 0, 0, 0] S1x4x64x128.size inb_S16x4x64x128_S1x4x64x128_0_0_0_0).toLoadRect D.k), Scalar.ofBits .f32 0x3E000000#32⟩))
      ⊢ WP c (p21 (F := F)) Kt := by
  unfold p21
  simp only [k0_part21_eq_skeleton]; unfold k0_part21_skel
  simp only [Prog.lift, Prog.bind_op, Prog.bind_ret, Prog.pure_eq_ret, wp_deviceId, dif_pos cond1, wp_bind]
  iintro ⟨#HR, HO, ⟨Hz0, Hz1, Hz2⟩, ⟨Hx0, Hx1, Hx2⟩, Hq, Hkk, Hbt, Hln, ⟨%f2, H2⟩, ⟨%f3, H3⟩, ⟨%f4, H4⟩, ⟨%f5, H5⟩, Hk⟩
  iapply (part1 V κ c)
  isplitr; · iexact HR
  isplitl [HO]; · iexact HO
  isplitl [Hz0]; · iexact Hz0
  isplitl [Hz1]; · iexact Hz1
  iintro HO
  iapply (part2 V κ c)
  isplitr; · iexact HR
  isplitl [HO]; · iexact HO
  isplitl [Hz2]; · iexact Hz2
  iintro HO %r2
  iapply (part3 V κ c)
  isplitr; · iexact HR
  isplitl [HO]; · iexact HO
  isplitl [Hx0]; · iexact Hx0
  iintro HO %r3
  iapply (part4 V κ c)
  isplitr; · iexact HR
  isplitl [HO]; · iexact HO
  isplitl [Hx1]; · iexact Hx1
  isplitl [Hx2]; · iexact Hx2
  isplitl [Hbt]; · iexact Hbt
  iintro ⟨HO, Hbt⟩
  iapply (ld_stg4_0 c _ _) $$ Hln; iintro Hln
  iapply (ld_scratch2 c _ _) $$ H2; iintro H2
  iapply (st_scratch2 c _ _ _) $$ H2; iintro H2
  iapply (ld_scratch3 c _ _) $$ H3; iintro H3
  iapply (st_scratch3 c _ _ _) $$ H3; iintro H3
  iapply (ld_scratch4 c _ _) $$ H4; iintro H4
  iapply (st_scratch4 c _ _ _) $$ H4; iintro H4
  iapply (ld_scratch5 c _ _) $$ H5; iintro H5
  iapply (st_scratch5 c _ _ _) $$ H5; iintro H5
  iapply (ld_scratch2 c _ _) $$ H2; iintro H2
  iapply (ld_stg0_0 c _ _) $$ Hq; iintro Hq
  iapply (wp_load 𝒱₀ (c : Thread nD τ) none Set.univ (m := Memref.whole cc0_stg1_0) (Finset.subset_univ _)) $$ Hkk; iintro Hkk
  iapply (ret_intro c)
  ihave Hk := Hk $$ [HO Hq Hkk Hbt Hln H2 H3 H4 H5]
  · isplitl [HO]; · iexact HO
    isplitl [Hq]; · iexact Hq
    isplitl [Hkk]; · iexact Hkk
    isplitl [Hbt]; · iexact Hbt
    isplitl [Hln]; · iexact Hln
    isplitl [H2]; · iexact H2
    isplitl [H3]; · iexact H3
    isplitl [H4]; · iexact H4
    iexact H5
  iapply Hk

theorem part21 (c : Dev nD) (D : Ins F) (Kt) :
    iprop(records V κ ∗ ow c (O₀ c) ∗ (sigZ c 0 ∗ sigZ c 1 ∗ sigZ c 2) ∗ (sigX c 0 ∗ sigX c 1 ∗ sigX c 2)
        ∗ bAt c cc0_stg0_0 D.q ∗ bAt c cc0_stg1_0 D.k ∗ bAt c cc0_stg3_0 D.bt ∗ bAt c cc0_stg4_0 D.ln
        ∗ (∃ f, bAt c cc0_scratch2 f) ∗ (∃ f, bAt c cc0_scratch3 f) ∗ (∃ f, bAt c cc0_scratch4 f) ∗ (∃ f, bAt c cc0_scratch5 f)
        ∗ ((ow c (oZ0 c) ∗ bAt c cc0_stg0_0 D.q ∗ bAt c cc0_stg1_0 D.k ∗ bAt c cc0_stg3_0 D.bt ∗ bAt c cc0_stg4_0 D.ln
            ∗ bAt c cc0_scratch2 (cnt c D) ∗ bAt c cc0_scratch3 (mr0 c D) ∗ bAt c cc0_scratch4 (lr0 c D) ∗ bAt c cc0_scratch5 (or0 c D))
          -∗ ∀ a v2 v5 v8, Kt ⟨a, c, v2, v5, v8, barArr, c15 c D, c29 c D, c32 c D, Scalar.ofBits .f32 0x3E000000#32⟩))
      ⊢ WP c (p21 (F := F)) Kt :=
  part21_raw V κ c D Kt

end Cert.PagedProof
end
-- ==== Proof.Runs2.lean ====
module

public import proofs.«01_k».proof.Proof.Runs

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # Packing, sending, waiting -/

/-- Writing `w` at the rectangle `r` of the z buffer, and of the buffer between planes. -/
abbrev wz (r : Rect S4x4x16x128) (w : r.shape.Idx → F .f32) (f : CBuf F) : CBuf F := (zM.access r).write (Elt F) f w Finset.univ
abbrev wx (r : Rect S4x4x16x128) (w : r.shape.Idx → F .f32) (f : CBuf F) : CBuf F := (xM.access r).write (Elt F) f w Finset.univ

omit [FloatOps F] in
theorem rd_wz (r : Rect S4x4x16x128) (w : r.shape.Idx → F .f32) (f : CBuf F) : rd r (wz r w f) = w :=
  funext fun y => View.write_emb_of_mem (v := zM.access r) f w (Finset.mem_univ y)
omit [FloatOps F] in
theorem rd_wx (r : Rect S4x4x16x128) (w : r.shape.Idx → F .f32) (f : CBuf F) : rd r (wx r w f) = w :=
  funext fun y => View.write_emb_of_mem (v := xM.access r) f w (Finset.mem_univ y)
omit [FloatOps F] in
theorem rd_wz_off (r r' : Rect S4x4x16x128) (h : ∀ y y', r.emb y ≠ r'.emb y') (w : r'.shape.Idx → F .f32) (f : CBuf F) : rd r (wz r' w f) = rd r f :=
  funext fun y => View.write_of_not_mem (v := zM.access r') f w Finset.univ (i := r.emb y) (fun hm => by
    obtain ⟨y', -, e⟩ := Finset.mem_map.mp hm
    exact h y y' e.symm)

theorem off_OX (k : Fin 4) (y y') : (rO k).emb y ≠ (rX k).emb y' := fun e => by
  have e3 := congrArg Fin.val (congrFun e 3)
  have h := (y 3).isLt
  simp [Rect.emb_apply] at e3 h; omega
theorem off_OL (k : Fin 4) (y y') : (rO k).emb y ≠ (rL k).emb y' := fun e => by
  have e3 := congrArg Fin.val (congrFun e 3)
  have h := (y 3).isLt
  simp [Rect.emb_apply] at e3 h; omega
theorem off_XL (k : Fin 4) (y y') : (rX k).emb y ≠ (rL k).emb y' := fun e => by
  have e3 := congrArg Fin.val (congrFun e 3)
  have h := (y 3).isLt
  have h' := (y' 3).isLt
  simp [Rect.emb_apply] at e3 h h'; omega

omit [FloatOps F] in
theorem zok_fill (V : Vals F) (c : Dev nD) (o m l) (ho : V.O c = o) (hm : V.M c = m) (hl : V.L c = l) (f : CBuf F) :
    ZOK V 0 c (wz (rL 0) l (wz (rX 0) m (wz (rO 0) o f))) := by
  refine ⟨?_, ?_, ?_⟩
  · rw [rd_wz_off _ _ (off_OL 0), rd_wz_off _ _ (off_OX 0), rd_wz, ho]
  · rw [rd_wz_off _ _ (off_XL 0), rd_wz, hm]
  · rw [rd_wz, hl]

section Slot
variable (c : Dev nD)

theorem setOn_z (r : Rect S4x4x16x128) (h : ∀ y, r.emb y ∈ slotSet 0) : (zM.access r).setOn Finset.univ ⊆ slotSet 0 := fun i hi => by
  obtain ⟨y, -, rfl⟩ := Finset.mem_map.mp hi
  exact h y
theorem setOn_x (r : Rect S4x4x16x128) (h : ∀ y, r.emb y ∈ slotSet 0) : (xM.access r).setOn Finset.univ ⊆ slotSet 0 := fun i hi => by
  obtain ⟨y, -, rfl⟩ := Finset.mem_map.mp hi
  exact h y
theorem setOn_zl (r : Rect S4x4x16x128) (h : ∀ y, r.emb y ∈ slotSet 0) : zM.view.setOn r.toLoadRect.set ⊆ slotSet 0 := by
  have h' := setOn_z r h
  rw [View.setOn_univ, View.set_slice] at h'; exact h'
theorem setOn_xl (r : Rect S4x4x16x128) (h : ∀ y, r.emb y ∈ slotSet 0) : xM.view.setOn r.toLoadRect.set ⊆ slotSet 0 := by
  have h' := setOn_x r h
  rw [View.setOn_univ, View.set_slice] at h'; exact h'

theorem ldz {α : Type} {Q : α → sProp 𝕄} (r : Rect S4x4x16x128) (h : ∀ y, r.emb y ∈ slotSet 0) (f) {hl} {k : (r.shape.Idx → Elt F .f32) → Prog (TpuEff nD τ sig (Elt F) Λ₀ .tc) α} :
    zPts c 0 fullShare f ⊢ iprop((zPts c 0 fullShare f -∗ WP c (k (rd r f)) Q) -∗ WP c (.op (.load zM r.toLoadRect hl) k) Q) := by
  unfold zPts
  iintro H Hk
  iapply (wp_load 𝒱₀ (c : Thread nD τ) none Set.univ (m := zM) (r := r.toLoadRect) (setOn_zl r h)) $$ H; iintro H
  iapply Hk; iexact H
theorem ldx {α : Type} {Q : α → sProp 𝕄} (r : Rect S4x4x16x128) (h : ∀ y, r.emb y ∈ slotSet 0) (f) {hl} {k : (r.shape.Idx → Elt F .f32) → Prog (TpuEff nD τ sig (Elt F) Λ₀ .tc) α} :
    xPts c 0 fullShare f ⊢ iprop((xPts c 0 fullShare f -∗ WP c (k (rd r f)) Q) -∗ WP c (.op (.load xM r.toLoadRect hl) k) Q) := by
  unfold xPts
  iintro H Hk
  iapply (wp_load 𝒱₀ (c : Thread nD τ) none Set.univ (m := xM) (r := r.toLoadRect) (setOn_xl r h)) $$ H; iintro H
  iapply Hk; iexact H
theorem stz {α : Type} {Q : α → sProp 𝕄} (r : Rect S4x4x16x128) (h : ∀ y, r.emb y ∈ slotSet 0) (f) (w) {hx} {hm} {k : PUnit → Prog (TpuEff nD τ sig (Elt F) Λ₀ .tc) α} :
    zPts c 0 fullShare f ⊢ iprop((zPts c 0 fullShare (wz r w f) -∗ WP c (k ⟨⟩) Q) -∗ WP c (.op (.store zM r w Finset.univ hx hm) k) Q) := by
  unfold zPts
  iintro H Hk
  iapply (wp_store 𝒱₀ (c : Thread nD τ) none Set.univ (m := zM) (r := r) (Mk := Finset.univ) (setOn_z r h)) $$ H; iintro H
  iapply Hk; iexact H
theorem stx {α : Type} {Q : α → sProp 𝕄} (r : Rect S4x4x16x128) (h : ∀ y, r.emb y ∈ slotSet 0) (f) (w) {hx} {hm} {k : PUnit → Prog (TpuEff nD τ sig (Elt F) Λ₀ .tc) α} :
    xPts c 0 fullShare f ⊢ iprop((xPts c 0 fullShare (wx r w f) -∗ WP c (k ⟨⟩) Q) -∗ WP c (.op (.store xM r w Finset.univ hx hm) k) Q) := by
  unfold xPts
  iintro H Hk
  iapply (wp_store 𝒱₀ (c : Thread nD τ) none Set.univ (m := xM) (r := r) (Mk := Finset.univ) (setOn_x r h)) $$ H; iintro H
  iapply Hk; iexact H
theorem ldzA {α : Type} {Q : α → sProp 𝕄} (r : Rect S4x4x16x128) (f) {hl} {k : (r.shape.Idx → Elt F .f32) → Prog (TpuEff nD τ sig (Elt F) Λ₀ .tc) α} :
    zAll c f ⊢ iprop((zAll c f -∗ WP c (k (rd r f)) Q) -∗ WP c (.op (.load zM r.toLoadRect hl) k) Q) := by
  iintro H Hk
  iapply (wp_load 𝒱₀ (c : Thread nD τ) none Set.univ (m := zM) (r := r.toLoadRect) (Finset.subset_univ _)) $$ H; iintro H
  iapply Hk; iexact H
theorem ldxA {α : Type} {Q : α → sProp 𝕄} (r : Rect S4x4x16x128) (f) {hl} {k : (r.shape.Idx → Elt F .f32) → Prog (TpuEff nD τ sig (Elt F) Λ₀ .tc) α} :
    xAll c f ⊢ iprop((xAll c f -∗ WP c (k (rd r f)) Q) -∗ WP c (.op (.load xM r.toLoadRect hl) k) Q) := by
  iintro H Hk
  iapply (wp_load 𝒱₀ (c : Thread nD τ) none Set.univ (m := xM) (r := r.toLoadRect) (Finset.subset_univ _)) $$ H; iintro H
  iapply Hk; iexact H
end Slot

variable (V : Vals F) (κ : GSem nD τ sig → ℕ)

def sndZ (c : Dev nD) (j : Fin 3) : sProp 𝕄 :=
  iprop(dutyTok ER (dcell 0 j c) 0 0 ∗ reached ER (dcell 0 j c) 0 ∗ dutyTok ER (dcell 1 j (zp j c)) 0 0)
def sndX (c : Dev nD) (j : Fin 3) : sProp 𝕄 :=
  iprop(dutyTok ER (dcell 2 j c) 0 0 ∗ reached ER (dcell 2 j c) 0 ∗ dutyTok ER (dcell 3 j (xp j c)) 0 0)
abbrev cr (t : Fin 4) (j : Fin 3) (c : Dev nD) : sProp 𝕄 := cred (tal (dcell t j c) N)
abbrev at0 (t : Fin 4) (j : Fin 3) (c : Dev nD) : sProp 𝕄 := atPos ER (dcell t j c) 0 ∅ 0
abbrev at1 (t : Fin 4) (j : Fin 3) (c : Dev nD) : sProp 𝕄 := atPos ER (dcell t j c) 1 ∅ 0

theorem snd_z (c n : Dev nD) (j : Fin 3) (hn : n = zp j c) (O : CellTallies nD τ sig Unit) (fs : CBuf F) (hfs : ZOK V 0 c fs)
    {src dst : Memref sig .tc .vmem S4x16x128 .f32} (hs : src = slot zM 0) (hd : dst = slot zM (nx j))
    {sS sR : DmaSem sig} (hsS : sS = ds 0 j) (hsR : sR = ds 1 j)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records V κ ∗ ow c (O + tal (dcell 1 j (zp j c)) N) ∗ zPts c 0 (shJ j) fs ∗ barZ c j ∗ sndZ c j)
      ⊢ iprop(((cr 0 j c ∗ ow c O) -∗ WP c (k ⟨⟩) Q)
          -∗ WP c (.op (.enqueueDma src (.remote (Dev.tc n : Thread nD τ) dst (.dma sS) hsc) (.dma sR) hsrc hdst hsem) k) Q) := by
  unfold barZ sndZ
  iintro ⟨#HR, HO, Hs, ⟨⟨%fd, Hd⟩, Hr'⟩, Ht, Hr, Ht'⟩ Hk
  iapply (send_z V κ c n j hn O fs fd hfs hs hd hsS hsR) $$ [HO Hs Hd Hr' Ht Hr Ht']
  · isplitr; · iexact HR
    isplitl [HO]; · iexact HO
    isplitl [Hs]; · iexact Hs
    isplitl [Hd]; · iexact Hd
    isplitl [Ht]; · iexact Ht
    isplitl [Hr]; · iexact Hr
    isplitl [Ht']; · iexact Ht'
    iexact Hr'
  iexact Hk

theorem snd_x (c n : Dev nD) (j : Fin 3) (hn : n = xp j c) (O : CellTallies nD τ sig Unit) (fs : CBuf F) (hfs : XOK V 0 c fs)
    {src dst : Memref sig .tc .vmem S4x16x128 .f32} (hs : src = slot xM 0) (hd : dst = slot xM (nx j))
    {sS sR : DmaSem sig} (hsS : sS = ds 2 j) (hsR : sR = ds 3 j)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records V κ ∗ ow c (O + tal (dcell 3 j (xp j c)) N) ∗ xPts c 0 (shJ j) fs ∗ barX c j ∗ sndX c j)
      ⊢ iprop(((cr 2 j c ∗ ow c O) -∗ WP c (k ⟨⟩) Q)
          -∗ WP c (.op (.enqueueDma src (.remote (Dev.tc n : Thread nD τ) dst (.dma sS) hsc) (.dma sR) hsrc hdst hsem) k) Q) := by
  unfold barX sndX
  iintro ⟨#HR, HO, Hs, ⟨⟨%fd, Hd⟩, Hr'⟩, Ht, Hr, Ht'⟩ Hk
  iapply (send_x V κ c n j hn O fs fd hfs hs hd hsS hsR) $$ [HO Hs Hd Hr' Ht Hr Ht']
  · isplitr; · iexact HR
    isplitl [HO]; · iexact HO
    isplitl [Hs]; · iexact Hs
    isplitl [Hd]; · iexact Hd
    isplitl [Ht]; · iexact Ht
    isplitl [Hr]; · iexact Hr
    isplitl [Ht']; · iexact Ht'
    iexact Hr'
  iexact Hk

section Waits
variable (c : Dev nD) (j : Fin 3) (O : CellTallies nD τ sig Unit) (m : ℕ)
  {src dst : Memref sig .tc .vmem S4x16x128 .f32} {hsrc : src.view.WordExact} {hdst : dst.view.WordExact}

theorem wt_sz {α : Type} {Q : α → sProp 𝕄} {k : PUnit → Prog (TpuEff nD τ sig (Elt F) Λ₀ .tc) α} (s : DmaSem sig) (hs : s = ds 0 j) (hm : lvS (.dma (ds 0 j)) ≤ m) (hO : Above m O) (hN : dst.view.dmaCredit = N) :
    iprop(records V κ ∗ levAts L lv ∗ cr 0 j c ∗ ow c O ∗ at0 0 j c)
      ⊢ iprop(((ow c O ∗ at1 0 j c ∗ sendZ c j) -∗ WP c (k ⟨⟩) Q) -∗ WP c (.op (.waitDma2 s src dst hsrc hdst) k) Q) := by
  have h := wait_d (Q := Q) (k := k) V κ c 0 j s hs O m hm hO (hsrc := hsrc) (hdst := hdst) hN
  rw [pay_sz] at h; exact h
theorem wt_rz {α : Type} {Q : α → sProp 𝕄} {k : PUnit → Prog (TpuEff nD τ sig (Elt F) Λ₀ .tc) α} (s : DmaSem sig) (hs : s = ds 1 j) (hm : lvS (.dma (ds 1 j)) ≤ m) (hO : Above m O) (hN : dst.view.dmaCredit = N) :
    iprop(records V κ ∗ levAts L lv ∗ cr 1 j c ∗ ow c O ∗ at0 1 j c)
      ⊢ iprop(((ow c O ∗ at1 1 j c ∗ recvZ V c j) -∗ WP c (k ⟨⟩) Q) -∗ WP c (.op (.waitDma2 s src dst hsrc hdst) k) Q) := by
  have h := wait_d (Q := Q) (k := k) V κ c 1 j s hs O m hm hO (hsrc := hsrc) (hdst := hdst) hN
  rw [pay_rz] at h; exact h
theorem wt_sx {α : Type} {Q : α → sProp 𝕄} {k : PUnit → Prog (TpuEff nD τ sig (Elt F) Λ₀ .tc) α} (s : DmaSem sig) (hs : s = ds 2 j) (hm : lvS (.dma (ds 2 j)) ≤ m) (hO : Above m O) (hN : dst.view.dmaCredit = N) :
    iprop(records V κ ∗ levAts L lv ∗ cr 2 j c ∗ ow c O ∗ at0 2 j c)
      ⊢ iprop(((ow c O ∗ at1 2 j c ∗ sendX c j) -∗ WP c (k ⟨⟩) Q) -∗ WP c (.op (.waitDma2 s src dst hsrc hdst) k) Q) := by
  have h := wait_d (Q := Q) (k := k) V κ c 2 j s hs O m hm hO (hsrc := hsrc) (hdst := hdst) hN
  rw [pay_sx] at h; exact h
theorem wt_rx {α : Type} {Q : α → sProp 𝕄} {k : PUnit → Prog (TpuEff nD τ sig (Elt F) Λ₀ .tc) α} (s : DmaSem sig) (hs : s = ds 3 j) (hm : lvS (.dma (ds 3 j)) ≤ m) (hO : Above m O) (hN : dst.view.dmaCredit = N) :
    iprop(records V κ ∗ levAts L lv ∗ cr 3 j c ∗ ow c O ∗ at0 3 j c)
      ⊢ iprop(((ow c O ∗ at1 3 j c ∗ recvX V c j) -∗ WP c (k ⟨⟩) Q) -∗ WP c (.op (.waitDma2 s src dst hsrc hdst) k) Q) := by
  have h := wait_d (Q := Q) (k := k) V κ c 3 j s hs O m hm hO (hsrc := hsrc) (hdst := hdst) hN
  rw [pay_rx] at h; exact h
end Waits

theorem part5 (c : Dev nD) (v8 : BitVec 32) (o m l) (ho : V.O c = k0_pay4 o) (hm : V.M c = k0_pay5 m) (hl : V.L c = k0_pay6 l) (Kt) :
    iprop(records V κ ∗ levAts L lv ∗ cred (tal (bcell c) 6) ∗ ow c (oZ0 c) ∗ atPos ER (bcell c) 0 ∅ 0
        ∗ bAt c cc0_scratch5 o ∗ bAt c cc0_scratch3 m ∗ bAt c cc0_scratch4 l ∗ (∃ f, zPts c 0 fullShare f)
        ∗ ((ow c (oZ0 c) ∗ atPos ER (bcell c) 1 ∅ 0 ∗ (barZ c 0 ∗ barZ c 1 ∗ barZ c 2 ∗ barX c 0 ∗ barX c 1 ∗ barX c 2)
            ∗ bAt c cc0_scratch5 o ∗ bAt c cc0_scratch3 m ∗ bAt c cc0_scratch4 l ∗ (∃ f, ⌜ZOK V 0 c f⌝ ∗ zPts c 0 fullShare f)) -∗ ∀ r, Kt r))
      ⊢ WP c (p5 (F := F) v8 barArr) Kt := by
  unfold p5
  simp only [k0_part5_eq_skeleton]; unfold k0_part5_skel
  simp only [semWaitWord, Prog.lift, Prog.bind_op, Prog.bind_ret, Prog.pure_eq_ret, bar_sem, six_int]
  iintro ⟨#HR, #Hl, Hc, HO, Hat, H5, H3, H4, ⟨%f, Hz⟩, Hk⟩
  iapply (ld_scratch5 c _ _) $$ H5; iintro H5
  iapply (ldz c (rO 0) (mem_rO 0) _) $$ Hz; iintro Hz
  iapply (stz c (rO 0) (mem_rO 0) _ _) $$ Hz; iintro Hz
  iapply (ld_scratch3 c _ _) $$ H3; iintro H3
  iapply (ldz c (rX 0) (mem_rX 0) _) $$ Hz; iintro Hz
  iapply (stz c (rX 0) (mem_rX 0) _ _) $$ Hz; iintro Hz
  iapply (ld_scratch4 c _ _) $$ H4; iintro H4
  iapply (ldz c (rL 0) (mem_rL 0) _) $$ Hz; iintro Hz
  iapply (stz c (rL 0) (mem_rL 0) _ _) $$ Hz; iintro Hz
  iapply (wait_bar V κ c) $$ [Hc HO Hat]
  · isplitr; · iexact HR
    isplitr; · iexact Hl
    isplitl [Hc]; · iexact Hc
    isplitl [HO]; · iexact HO
    iexact Hat
  iintro ⟨HO, Hat, Hp⟩
  iapply (ret_intro c)
  ihave Hk := Hk $$ [HO Hat Hp H5 H3 H4 Hz]
  · isplitl [HO]; · iexact HO
    isplitl [Hat]; · iexact Hat
    isplitl [Hp]; · iexact Hp
    isplitl [H5]; · iexact H5
    isplitl [H3]; · iexact H3
    isplitl [H4]; · iexact H4
    iexists _; isplitr; · ipureintro; exact zok_fill V c _ _ _ ho hm hl f
    iexact Hz
  iapply Hk

theorem part6 (c : Dev nD) (v2 v5 v8 : BitVec 32) (h) (v475) (f) (hf : ZOK V 0 c f) (Kt) :
    iprop(records V κ ∗ ow c (oZ0 c) ∗ zPts c 0 (shJ 0) f ∗ barZ c 0 ∗ sndZ c 0 ∗ ((cr 0 0 c ∗ ow c (oZ1 c)) -∗ ∀ r, Kt r))
      ⊢ WP c (p6 (F := F) c v2 v5 v8 h v475) Kt := by
  unfold p6
  simp only [k0_part6_eq_skeleton]; unfold k0_part6_skel
  simp only [Prog.lift, Prog.bind_op, Prog.bind_ret, Prog.pure_eq_ret]
  iintro ⟨#HR, HO, Hz, Hb, Hs, Hk⟩
  iapply (snd_z V κ c _ 0 (dev7 c _) (oZ1 c) f hf rfl rfl rfl rfl) $$ [HO Hz Hb Hs]
  · isplitr; · iexact HR
    isplitl [HO]; · iexact HO
    isplitl [Hz]; · iexact Hz
    isplitl [Hb]; · iexact Hb
    iexact Hs
  iintro HH
  iapply (ret_intro c)
  ihave Hk := Hk $$ HH
  iapply Hk

theorem part7 (c : Dev nD) (v2 v5 v8 : BitVec 32) (h) (f) (hf : ZOK V 0 c f) (Kt) :
    iprop(records V κ ∗ ow c (oZ1 c) ∗ zPts c 0 (shJ 1) f ∗ zPts c 0 (shJ 2) f ∗ barZ c 1 ∗ barZ c 2 ∗ sndZ c 1 ∗ sndZ c 2
        ∗ ((cr 0 1 c ∗ cr 0 2 c ∗ ow c (oX0 c)) -∗ ∀ r, Kt r))
      ⊢ WP c (p7 (F := F) c v2 v5 v8 h) Kt := by
  unfold p7
  simp only [k0_part7_eq_skeleton]; unfold k0_part7_skel
  simp only [Prog.lift, Prog.bind_op, Prog.bind_ret, Prog.pure_eq_ret]
  iintro ⟨#HR, HO, Hz, Hz', Hb, Hb', Hs, Hs', Hk⟩
  iapply (snd_z V κ c _ 1 (dev8 c _) (oZ2 c) f hf rfl rfl rfl rfl) $$ [HO Hz Hb Hs]
  · isplitr; · iexact HR
    isplitl [HO]; · iexact HO
    isplitl [Hz]; · iexact Hz
    isplitl [Hb]; · iexact Hb
    iexact Hs
  iintro ⟨Hc, HO⟩
  iapply (snd_z V κ c _ 2 (dev9 c _) (oX0 c) f hf rfl rfl rfl rfl) $$ [HO Hz' Hb' Hs']
  · isplitr; · iexact HR
    isplitl [HO]; · iexact HO
    isplitl [Hz']; · iexact Hz'
    isplitl [Hb']; · iexact Hb'
    iexact Hs'
  iintro ⟨Hc', HO⟩
  iapply (ret_intro c)
  ihave Hk := Hk $$ [Hc Hc' HO]
  · isplitl [Hc]; · iexact Hc
    isplitl [Hc']; · iexact Hc'
    iexact HO
  iapply Hk

theorem part8 (c : Dev nD) (v2 v5 v475 : BitVec 32) (Kt) :
    iprop(records V κ ∗ levAts L lv ∗ ow c (oX0 c) ∗ cr 0 0 c ∗ at0 0 0 c ∗ cr 1 0 c ∗ at0 1 0 c
        ∗ ((ow c (oX0 c) ∗ at1 0 0 c ∗ sendZ c 0 ∗ at1 1 0 c ∗ recvZ V c 0) -∗ Kt ⟨⟩))
      ⊢ WP c (p8 (F := F) v2 v5 v475) Kt := by
  unfold p8
  simp only [k0_part8_eq_skeleton]; unfold k0_part8_skel
  simp only [Prog.lift, Prog.bind_op, Prog.bind_ret, Prog.pure_eq_ret]
  iintro ⟨#HR, #Hl, HO, Hc, Ha, Hc', Ha', Hk⟩
  iapply (wt_sz V κ c 0 (oX0 c) 2 _ rfl (by decide) (above_oX0 c) rfl) $$ [Hc HO Ha]
  · isplitr; · iexact HR
    isplitr; · iexact Hl
    isplitl [Hc]; · iexact Hc
    isplitl [HO]; · iexact HO
    iexact Ha
  iintro ⟨HO, Ha, Hp⟩
  iapply (wt_rz (dst := slot zM 1) V κ c 0 (oX0 c) 2 _ rfl (by decide) (above_oX0 c) rfl) $$ [Hc' HO Ha']
  · isplitr; · iexact HR
    isplitr; · iexact Hl
    isplitl [Hc']; · iexact Hc'
    isplitl [HO]; · iexact HO
    iexact Ha'
  iintro ⟨HO, Ha', Hp'⟩
  iapply (ret_intro c)
  iapply Hk
  isplitl [HO]; · iexact HO
  isplitl [Ha]; · iexact Ha
  isplitl [Hp]; · iexact Hp
  isplitl [Ha']; · iexact Ha'
  iexact Hp'

theorem part9 (c : Dev nD) (v2 v5 v500 : BitVec 32) (Kt) :
    iprop(records V κ ∗ levAts L lv ∗ ow c (oX0 c) ∗ cr 0 1 c ∗ at0 0 1 c ∗ cr 1 1 c ∗ at0 1 1 c ∗ cr 0 2 c ∗ at0 0 2 c
        ∗ ((ow c (oX0 c) ∗ at1 0 1 c ∗ sendZ c 1 ∗ at1 1 1 c ∗ recvZ V c 1 ∗ at1 0 2 c ∗ sendZ c 2) -∗ ∀ r, Kt r))
      ⊢ WP c (p9 (F := F) v2 v5 v500) Kt := by
  unfold p9
  simp only [k0_part9_eq_skeleton]; unfold k0_part9_skel
  simp only [Prog.lift, Prog.bind_op, Prog.bind_ret, Prog.pure_eq_ret]
  iintro ⟨#HR, #Hl, HO, Hc, Ha, Hc', Ha', Hc'', Ha'', Hk⟩
  iapply (wt_sz V κ c 1 (oX0 c) 2 _ rfl (by decide) (above_oX0 c) rfl) $$ [Hc HO Ha]
  · isplitr; · iexact HR
    isplitr; · iexact Hl
    isplitl [Hc]; · iexact Hc
    isplitl [HO]; · iexact HO
    iexact Ha
  iintro ⟨HO, Ha, Hp⟩
  iapply (wt_rz (dst := slot zM 2) V κ c 1 (oX0 c) 2 _ rfl (by decide) (above_oX0 c) rfl) $$ [Hc' HO Ha']
  · isplitr; · iexact HR
    isplitr; · iexact Hl
    isplitl [Hc']; · iexact Hc'
    isplitl [HO]; · iexact HO
    iexact Ha'
  iintro ⟨HO, Ha', Hp'⟩
  iapply (wt_sz V κ c 2 (oX0 c) 2 _ rfl (by decide) (above_oX0 c) rfl) $$ [Hc'' HO Ha'']
  · isplitr; · iexact HR
    isplitr; · iexact Hl
    isplitl [Hc'']; · iexact Hc''
    isplitl [HO]; · iexact HO
    iexact Ha''
  iintro ⟨HO, Ha'', Hp''⟩
  iapply (ret_intro c)
  ihave Hk := Hk $$ [HO Ha Hp Ha' Hp' Ha'' Hp'']
  · isplitl [HO]; · iexact HO
    isplitl [Ha]; · iexact Ha
    isplitl [Hp]; · iexact Hp
    isplitl [Ha']; · iexact Ha'
    isplitl [Hp']; · iexact Hp'
    isplitl [Ha'']; · iexact Ha''
    iexact Hp''
  iapply Hk

end Cert.PagedProof
end
-- ==== Proof.Runs3.lean ====
module

public import proofs.«01_k».proof.Proof.Runs2

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # Merging, the exchange between planes, the result -/

/-- The pieces read from a full z buffer. -/
abbrev Wg (g : CBuf F) : Four F := ⟨fun k => rd (rO k) g, fun k => rd (rX k) g, fun k => rd (rL k) g⟩

abbrev rR (off : Fin 3 → Nat) (inb : ∀ a, off a + S4x16x64.size a ≤ S16x16x64.size a) : Rect S16x16x64 := Rect.unit (s := S16x16x64) off S4x16x64.size inb
abbrev RBuf (F : FTy → Type) : Type := (⟨S16x16x64, .f32⟩ : BufTy).Contents (Elt F)
/-- Writing four heads of the result. -/
abbrev wR (off : Fin 3 → Nat) (inb : ∀ a, off a + S4x16x64.size a ≤ S16x16x64.size a) (w : Vec F S4x16x64 .f32) (f : RBuf F) : RBuf F :=
  ((Memref.whole cc0_scratch6).access (rR off inb) : View sig .tc _ _ _).write (Elt F) f w Finset.univ

theorem ldR (c : Dev nD) {α : Type} {Q : α → sProp 𝕄} (off inb) (f : RBuf F) {hl} {k : ((rR off inb).shape.Idx → Elt F .f32) → Prog (TpuEff nD τ sig (Elt F) Λ₀ .tc) α} :
    bAt c cc0_scratch6 f ⊢ iprop((∀ v, bAt c cc0_scratch6 f -∗ WP c (k v) Q) -∗ WP c (.op (.load (Memref.whole cc0_scratch6) (rR off inb).toLoadRect hl) k) Q) := by
  iintro H Hk
  iapply (wp_load 𝒱₀ (c : Thread nD τ) none Set.univ (m := Memref.whole cc0_scratch6) (r := (rR off inb).toLoadRect) (Finset.subset_univ _)) $$ H; iintro H
  iapply Hk; iexact H
theorem stR (c : Dev nD) {α : Type} {Q : α → sProp 𝕄} (off inb) (f : RBuf F) (w : Vec F S4x16x64 .f32) {hx} {hm} {k : PUnit → Prog (TpuEff nD τ sig (Elt F) Λ₀ .tc) α} :
    bAt c cc0_scratch6 f ⊢ iprop((bAt c cc0_scratch6 (wR off inb w f) -∗ WP c (k ⟨⟩) Q) -∗ WP c (.op (.store (Memref.whole cc0_scratch6) (rR off inb) w Finset.univ hx hm) k) Q) := by
  iintro H Hk
  iapply (wp_store 𝒱₀ (c : Thread nD τ) none Set.univ (m := Memref.whole cc0_scratch6) (r := rR off inb) (Mk := Finset.univ) (Finset.subset_univ _)) $$ H; iintro H
  iapply Hk; iexact H

variable (V : Vals F) (κ : GSem nD τ sig → ℕ)

def ZAll4 (c : Dev nD) (g : CBuf F) : Prop := ZOK V 0 c g ∧ ZOK V 1 (zp 2 c) g ∧ ZOK V 2 (zp 1 c) g ∧ ZOK V 3 (zp 0 c) g
def XAll4 (c : Dev nD) (g : CBuf F) : Prop := XOK V 0 c g ∧ XOK V 1 (xp 0 c) g ∧ XOK V 2 (xp 1 c) g ∧ XOK V 3 (xp 2 c) g

theorem part10_raw (c : Dev nD) (v525 v585 c1 : BitVec 32) (f) (hf : ZOK V 0 c f) (Kt) :
    iprop(records V κ ∗ levAts L lv ∗ ow c (oX0 c) ∗ cr 1 2 c ∗ at0 1 2 c ∗ zPts c 0 sh0 f ∗ (sendZ c 0 ∗ sendZ c 1 ∗ sendZ c 2) ∗ recvZ V c 0 ∗ recvZ V c 1
        ∗ (∀ g, ⌜ZAll4 V c g⌝ -∗ (ow c (oX0 c) ∗ at1 1 2 c ∗ zAll c g)
          -∗ Kt ⟨k0_pay8 (rd (rX 1) g), k0_pay9 (rd (rX 2) g), k0_pay10 (rd (rX 3) g), k0_pay11 (rd (rX 0) g) (rd (rX 1) g) (rd (rX 2) g) (rd (rX 3) g), k0_pay12 (F := F),
              k0_pay13 (rd (rX 0) g) (rd (rX 1) g) (rd (rX 2) g) (rd (rX 3) g), k0_pay14 (rd (rX 0) g) (rd (rX 1) g) (rd (rX 2) g) (rd (rX 3) g) (rd (rO 0) g)⟩))
      ⊢ WP c (p10 (F := F) v525 v585 c1) Kt := by
  unfold p10
  simp only [k0_part10_eq_skeleton]; unfold k0_part10_skel
  simp only [Prog.lift, Prog.bind_op, Prog.bind_ret, Prog.pure_eq_ret]
  iintro ⟨#HR, #Hl, HO, Hc, Ha, Hz, Hs, H0, H1, Hk⟩
  iapply (wt_rz (dst := slot zM 3) V κ c 2 (oX0 c) 2 _ rfl (by decide) (above_oX0 c) rfl) $$ [Hc HO Ha]
  · isplitr; · iexact HR
    isplitr; · iexact Hl
    isplitl [Hc]; · iexact Hc
    isplitl [HO]; · iexact HO
    iexact Ha
  iintro ⟨HO, Ha, H2⟩
  ihave Hg := (z_gather V c f hf) $$ [Hz Hs H0 H1 H2]
  · isplitl [Hz]; · iexact Hz
    isplitl [Hs]; · iexact Hs
    isplitl [H0]; · iexact H0
    isplitl [H1]; · iexact H1
    iexact H2
  icases Hg with ⟨%g, %hg, Hg⟩
  iapply (ldzA c (rX 0) g) $$ Hg; iintro Hg
  iapply (ldzA c (rX 1) g) $$ Hg; iintro Hg
  iapply (ldzA c (rX 2) g) $$ Hg; iintro Hg
  iapply (ldzA c (rX 3) g) $$ Hg; iintro Hg
  iapply (ldzA c (rO 0) g) $$ Hg; iintro Hg
  iapply (ret_intro c)
  iapply Hk $$ %g %hg [HO Ha Hg]
  isplitl [HO]; · iexact HO
  isplitl [Ha]; · iexact Ha
  iexact Hg

theorem part10 (c : Dev nD) (v525 v585 c1 : BitVec 32) (f) (hf : ZOK V 0 c f) (Kt) :
    iprop(records V κ ∗ levAts L lv ∗ ow c (oX0 c) ∗ cr 1 2 c ∗ at0 1 2 c ∗ zPts c 0 sh0 f ∗ (sendZ c 0 ∗ sendZ c 1 ∗ sendZ c 2) ∗ recvZ V c 0 ∗ recvZ V c 1
        ∗ (∀ g, ⌜ZAll4 V c g⌝ -∗ (ow c (oX0 c) ∗ at1 1 2 c ∗ zAll c g)
          -∗ Kt ⟨d597 (Wg g), d599 (Wg g), d601 (Wg g), d604 (Wg g), d606, d608 (Wg g), d613 (Wg g)⟩))
      ⊢ WP c (p10 (F := F) v525 v585 c1) Kt := part10_raw V κ c v525 v585 c1 f hf Kt

theorem part11_raw (c : Dev nD) (v597 v599 v601 v604 v606 v608 v613) (g) (Kt) :
    iprop(zAll c g ∗ (zAll c g -∗ Kt ⟨k0_pay17 v597 v599 v604 v606 v608 (rd (rL 0) g) (rd (rL 1) g) (rd (rL 2) g), k0_pay18 v601 v604,
        k0_pay19 v597 v599 v601 v604 v613 (rd (rO 1) g) (rd (rO 2) g) (rd (rO 3) g), k0_pay20 (rd (rL 3) g)⟩))
      ⊢ WP c (p11 (F := F) v597 v599 v601 v604 v606 v608 v613) Kt := by
  unfold p11
  simp only [k0_part11_eq_skeleton]; unfold k0_part11_skel
  simp only [Prog.lift, Prog.bind_op, Prog.bind_ret, Prog.pure_eq_ret]
  iintro ⟨Hg, Hk⟩
  iapply (ldzA c (rL 0) g) $$ Hg; iintro Hg
  iapply (ldzA c (rO 1) g) $$ Hg; iintro Hg
  iapply (ldzA c (rL 1) g) $$ Hg; iintro Hg
  iapply (ldzA c (rO 2) g) $$ Hg; iintro Hg
  iapply (ldzA c (rL 2) g) $$ Hg; iintro Hg
  iapply (ldzA c (rO 3) g) $$ Hg; iintro Hg
  iapply (ldzA c (rL 3) g) $$ Hg; iintro Hg
  iapply (ret_intro c)
  iapply Hk; iexact Hg

theorem part11 (c : Dev nD) (g : CBuf F) (Kt) :
    iprop(zAll c g ∗ (zAll c g -∗ Kt ⟨d639 (Wg g), d641 (Wg g), d646 (Wg g), d648 (Wg g)⟩))
      ⊢ WP c (p11 (F := F) (d597 (Wg g)) (d599 (Wg g)) (d601 (Wg g)) (d604 (Wg g)) d606 (d608 (Wg g)) (d613 (Wg g))) Kt :=
  part11_raw c (d597 (Wg g)) (d599 (Wg g)) (d601 (Wg g)) (d604 (Wg g)) d606 (d608 (Wg g)) (d613 (Wg g)) g Kt

theorem part12 (c : Dev nD) (v2 v5 : BitVec 32) (v639 v641 v646 v648) (hX : V.X c = k0_pay21 (F := F) v639 v641 v646 v648) (Kt) :
    iprop((∃ f, xPts c 0 fullShare f) ∗ ((∃ f, ⌜XOK V 0 c f⌝ ∗ xPts c 0 fullShare f) -∗ ∀ r, Kt r))
      ⊢ WP c (p12 (F := F) v2 v5 v639 v641 v646 v648) Kt := by
  unfold p12
  simp only [k0_part12_eq_skeleton]; unfold k0_part12_skel
  simp only [Prog.lift, Prog.bind_op, Prog.bind_ret, Prog.pure_eq_ret]
  iintro ⟨⟨%f, Hx⟩, Hk⟩
  iapply (ldx c (rO 0) (mem_rO 0) f) $$ Hx; iintro Hx
  iapply (stx c (rO 0) (mem_rO 0) f _) $$ Hx; iintro Hx
  iapply (ret_intro c)
  ihave Hk := Hk $$ [Hx]
  · iexists _; isplitr; · ipureintro; exact (rd_wx (rO 0) _ f).trans hX.symm
    iexact Hx
  iapply Hk

theorem part13 (c : Dev nD) (v2 v5 v8 : BitVec 32) (h) (v681 c1) (f) (hf : XOK V 0 c f) (Kt) :
    iprop(records V κ ∗ ow c (oX0 c) ∗ xPts c 0 (shJ 0) f ∗ barX c 0 ∗ sndX c 0 ∗ ((cr 2 0 c ∗ ow c (oX1 c)) -∗ ∀ r, Kt r))
      ⊢ WP c (p13 (F := F) c v2 v5 v8 h v681 c1) Kt := by
  unfold p13
  simp only [k0_part13_eq_skeleton]; unfold k0_part13_skel
  simp only [Prog.lift, Prog.bind_op, Prog.bind_ret, Prog.pure_eq_ret]
  iintro ⟨#HR, HO, Hz, Hb, Hs, Hk⟩
  iapply (snd_x V κ c _ 0 (dev10 c _) (oX1 c) f hf rfl rfl rfl rfl) $$ [HO Hz Hb Hs]
  · isplitr; · iexact HR
    isplitl [HO]; · iexact HO
    isplitl [Hz]; · iexact Hz
    isplitl [Hb]; · iexact Hb
    iexact Hs
  iintro HH
  iapply (ret_intro c)
  ihave Hk := Hk $$ HH
  iapply Hk

theorem part14 (c : Dev nD) (v2 v5 v8 : BitVec 32) (h) (v713 v714 c0) (f) (hf : XOK V 0 c f) (Kt) :
    iprop(records V κ ∗ ow c (oX1 c) ∗ xPts c 0 (shJ 1) f ∗ barX c 1 ∗ sndX c 1 ∗ ((cr 2 1 c ∗ ow c (oX2 c)) -∗ ∀ r, Kt r))
      ⊢ WP c (p14 (F := F) c v2 v5 v8 h v713 v714 c0) Kt := by
  unfold p14
  simp only [k0_part14_eq_skeleton]; unfold k0_part14_skel
  simp only [Prog.lift, Prog.bind_op, Prog.bind_ret, Prog.pure_eq_ret]
  iintro ⟨#HR, HO, Hz, Hb, Hs, Hk⟩
  iapply (snd_x V κ c _ 1 (dev11 c _) (oX2 c) f hf rfl rfl rfl rfl) $$ [HO Hz Hb Hs]
  · isplitr; · iexact HR
    isplitl [HO]; · iexact HO
    isplitl [Hz]; · iexact Hz
    isplitl [Hb]; · iexact Hb
    iexact Hs
  iintro HH
  iapply (ret_intro c)
  ihave Hk := Hk $$ HH
  iapply Hk

theorem part15 (c : Dev nD) (v8 : BitVec 32) (h) (v666 v677 v738 v749) (f) (hf : XOK V 0 c f) (Kt) :
    iprop(records V κ ∗ levAts L lv ∗ ow c (oX2 c) ∗ xPts c 0 (shJ 2) f ∗ barX c 2 ∗ sndX c 2 ∗ cr 2 0 c ∗ at0 2 0 c
        ∗ ((cr 2 2 c ∗ ow c 0 ∗ at1 2 0 c ∗ sendX c 0) -∗ Kt ⟨⟩))
      ⊢ WP c (p15 (F := F) c v8 h v666 v677 v738 v749) Kt := by
  unfold p15
  simp only [k0_part15_eq_skeleton]; unfold k0_part15_skel
  simp only [Prog.lift, Prog.bind_op, Prog.bind_ret, Prog.pure_eq_ret]
  iintro ⟨#HR, #Hl, HO, Hz, Hb, Hs, Hc, Ha, Hk⟩
  iapply (snd_x V κ c _ 2 (dev12 c _) 0 f hf rfl rfl rfl rfl) $$ [HO Hz Hb Hs]
  · isplitr; · iexact HR
    isplitl [HO]; · iexact HO
    isplitl [Hz]; · iexact Hz
    isplitl [Hb]; · iexact Hb
    iexact Hs
  iintro ⟨Hc2, HO⟩
  iapply (wt_sx (dst := slot xM 0) V κ c 0 0 3 _ rfl (by decide) (above_zero 3) rfl) $$ [Hc HO Ha]
  · isplitr; · iexact HR
    isplitr; · iexact Hl
    isplitl [Hc]; · iexact Hc
    isplitl [HO]; · iexact HO
    iexact Ha
  iintro ⟨HO, Ha, Hp⟩
  iapply (ret_intro c)
  iapply Hk
  isplitl [Hc2]; · iexact Hc2
  isplitl [HO]; · iexact HO
  isplitl [Ha]; · iexact Ha
  iexact Hp

theorem part16 (c : Dev nD) (v8 v702 v713 : BitVec 32) (Kt) :
    iprop(records V κ ∗ levAts L lv ∗ ow c 0 ∗ cr 3 0 c ∗ at0 3 0 c ∗ cr 2 1 c ∗ at0 2 1 c ∗ cr 3 1 c ∗ at0 3 1 c
        ∗ ((ow c 0 ∗ at1 3 0 c ∗ recvX V c 0 ∗ at1 2 1 c ∗ sendX c 1 ∗ at1 3 1 c ∗ recvX V c 1) -∗ Kt ⟨⟩))
      ⊢ WP c (p16 (F := F) v8 v702 v713) Kt := by
  unfold p16
  simp only [k0_part16_eq_skeleton]; unfold k0_part16_skel
  simp only [Prog.lift, Prog.bind_op, Prog.bind_ret, Prog.pure_eq_ret]
  iintro ⟨#HR, #Hl, HO, Hc, Ha, Hc', Ha', Hc'', Ha'', Hk⟩
  iapply (wt_rx (dst := slot xM 1) V κ c 0 0 3 _ rfl (by decide) (above_zero 3) rfl) $$ [Hc HO Ha]
  · isplitr; · iexact HR
    isplitr; · iexact Hl
    isplitl [Hc]; · iexact Hc
    isplitl [HO]; · iexact HO
    iexact Ha
  iintro ⟨HO, Ha, Hp⟩
  iapply (wt_sx (dst := slot xM 0) V κ c 1 0 3 _ rfl (by decide) (above_zero 3) rfl) $$ [Hc' HO Ha']
  · isplitr; · iexact HR
    isplitr; · iexact Hl
    isplitl [Hc']; · iexact Hc'
    isplitl [HO]; · iexact HO
    iexact Ha'
  iintro ⟨HO, Ha', Hp'⟩
  iapply (wt_rx (dst := slot xM 2) V κ c 1 0 3 _ rfl (by decide) (above_zero 3) rfl) $$ [Hc'' HO Ha'']
  · isplitr; · iexact HR
    isplitr; · iexact Hl
    isplitl [Hc'']; · iexact Hc''
    isplitl [HO]; · iexact HO
    iexact Ha''
  iintro ⟨HO, Ha'', Hp''⟩
  iapply (ret_intro c)
  iapply Hk
  isplitl [HO]; · iexact HO
  isplitl [Ha]; · iexact Ha
  isplitl [Hp]; · iexact Hp
  isplitl [Ha']; · iexact Ha'
  isplitl [Hp']; · iexact Hp'
  isplitl [Ha'']; · iexact Ha''
  iexact Hp''

theorem part17 (c : Dev nD) (v2 v5 v8 : BitVec 32) (h) (v738 v749) (f) (hf : XOK V 0 c f) (r0 : RBuf F) (Kt) :
    iprop(records V κ ∗ levAts L lv ∗ ow c 0 ∗ cr 2 2 c ∗ at0 2 2 c ∗ cr 3 2 c ∗ at0 3 2 c
        ∗ xPts c 0 sh0 f ∗ sendX c 0 ∗ sendX c 1 ∗ recvX V c 0 ∗ recvX V c 1 ∗ bAt c cc0_scratch6 r0
        ∗ (∀ g, ⌜XAll4 V c g⌝ -∗ (ow c 0 ∗ at1 2 2 c ∗ at1 3 2 c ∗ xAll c g ∗ bAt c cc0_scratch6 (wR (k0_off1 c) (k0_off1_inb i0 c h) (k0_pay22 (rd (rO 0) g)) r0)) -∗ Kt ⟨⟩))
      ⊢ WP c (p17 (F := F) c v2 v5 v8 h v738 v749) Kt := by
  unfold p17
  simp only [k0_part17_eq_skeleton]; unfold k0_part17_skel
  simp only [Prog.lift, Prog.bind_op, Prog.bind_ret, Prog.pure_eq_ret]
  iintro ⟨#HR, #Hl, HO, Hc, Ha, Hc', Ha', Hx, H0, H1, H2, H3, H6, Hk⟩
  iapply (wt_sx (dst := slot xM 0) V κ c 2 0 3 _ rfl (by decide) (above_zero 3) rfl) $$ [Hc HO Ha]
  · isplitr; · iexact HR
    isplitr; · iexact Hl
    isplitl [Hc]; · iexact Hc
    isplitl [HO]; · iexact HO
    iexact Ha
  iintro ⟨HO, Ha, H4⟩
  iapply (wt_rx (dst := slot xM 3) V κ c 2 0 3 _ rfl (by decide) (above_zero 3) rfl) $$ [Hc' HO Ha']
  · isplitr; · iexact HR
    isplitr; · iexact Hl
    isplitl [Hc']; · iexact Hc'
    isplitl [HO]; · iexact HO
    iexact Ha'
  iintro ⟨HO, Ha', H5⟩
  ihave Hg := (x_gather V c f hf) $$ [Hx H0 H1 H2 H3 H4 H5]
  · isplitl [Hx]; · iexact Hx
    isplitl [H0 H1 H4]
    · isplitl [H0]; · iexact H0
      isplitl [H1]; · iexact H1
      iexact H4
    isplitl [H2]; · iexact H2
    isplitl [H3]; · iexact H3
    iexact H5
  icases Hg with ⟨%g, %hg, Hg⟩
  iapply (ldxA c (rO 0) g) $$ Hg; iintro Hg
  iapply (ldR c _ _ r0) $$ H6; iintro %vv H6
  iapply (stR c _ _ r0 _) $$ H6; iintro H6
  iapply (ret_intro c)
  iapply Hk $$ %g %hg [HO Ha Ha' Hg H6]
  isplitl [HO]; · iexact HO
  isplitl [Ha]; · iexact Ha
  isplitl [Ha']; · iexact Ha'
  isplitl [Hg]; · iexact Hg
  iexact H6

theorem part18 (c : Dev nD) (v2 v5 : BitVec 32) (h) (g) (r0 : RBuf F) (Kt) :
    iprop(xAll c g ∗ bAt c cc0_scratch6 r0
        ∗ ((xAll c g ∗ bAt c cc0_scratch6 (wR (k0_off2 c 0#32 1#32) (k0_off2_inb i0 c h 0) (k0_pay23 (rd (rO 1) g)) r0)) -∗ ∀ r, Kt r))
      ⊢ WP c (p18 (F := F) c v2 v5 h) Kt := by
  unfold p18
  simp only [k0_part18_eq_skeleton]; unfold k0_part18_skel
  simp only [Prog.lift, Prog.bind_op, Prog.bind_ret, Prog.pure_eq_ret]
  iintro ⟨Hg, H6, Hk⟩
  iapply (ldxA c (rO 1) g) $$ Hg; iintro Hg
  iapply (ldR c _ _ r0) $$ H6; iintro %vv H6
  iapply (stR c _ _ r0 _) $$ H6; iintro H6
  iapply (ret_intro c)
  ihave Hk := Hk $$ [Hg H6]
  · isplitl [Hg]; · iexact Hg
    iexact H6
  iapply Hk

theorem part19 (c : Dev nD) (v2 v5 : BitVec 32) (h) (v858 c2 v859 c1) (g) (r0 : RBuf F) (Kt) :
    iprop(xAll c g ∗ bAt c cc0_scratch6 r0
        ∗ ((xAll c g ∗ bAt c cc0_scratch6 (wR (k0_off2 c 1#32 0#32) (k0_off2_inb i0 c h 1) (k0_pay24 (rd (rO 2) g)) r0)) -∗ ∀ r, Kt r))
      ⊢ WP c (p19 (F := F) c v2 v5 h v858 c2 v859 c1) Kt := by
  unfold p19
  simp only [k0_part19_eq_skeleton]; unfold k0_part19_skel
  simp only [Prog.lift, Prog.bind_op, Prog.bind_ret, Prog.pure_eq_ret]
  iintro ⟨Hg, H6, Hk⟩
  iapply (ldxA c (rO 2) g) $$ Hg; iintro Hg
  iapply (ldR c _ _ r0) $$ H6; iintro %vv H6
  iapply (stR c _ _ r0 _) $$ H6; iintro H6
  iapply (ret_intro c)
  ihave Hk := Hk $$ [Hg H6]
  · isplitl [Hg]; · iexact Hg
    iexact H6
  iapply Hk

/-- The four heads' groups written into the result, from the pieces in the four slots. -/
def resOf (c : Dev nD) (X : Fin 4 → Vec F S1x4x16x64 .f32) (r0 : RBuf F) : RBuf F :=
  wR (k0_off2 c 1#32 1#32) (k0_off2_inb i0 c cond2 2) (k0_pay25 (X 3))
    (wR (k0_off2 c 1#32 0#32) (k0_off2_inb i0 c cond2 1) (k0_pay24 (X 2))
      (wR (k0_off2 c 0#32 1#32) (k0_off2_inb i0 c cond2 0) (k0_pay23 (X 1))
        (wR (k0_off1 c) (k0_off1_inb i0 c cond2) (k0_pay22 (X 0)) r0)))

theorem part32_raw (c : Dev nD) (v15 v194 v205 v238 v398 v402 v408) (fv f3 f4) (Kt) :
    iprop(bAt c cc0_stg2_0 fv ∗ bAt c cc0_scratch3 f3 ∗ bAt c cc0_scratch4 f4
        ∗ ((bAt c cc0_stg2_0 fv ∗ bAt c cc0_scratch3 (k0_pay87 v238) ∗ bAt c cc0_scratch4 (k0_pay88 v15 v194 v205 v238 v398 v408))
          -∗ Kt (k0_pay86 v15 v194 v205 v238 v402 v408
              ((Memref.whole cc0_stg2_0).view.readAt (Elt F) (Rect.unit (s := S16x4x64x128) ![13, 0, 0, 0] S1x4x64x128.size inb_S16x4x64x128_S1x4x64x128_13_0_0_0).toLoadRect fv)
              ((Memref.whole cc0_stg2_0).view.readAt (Elt F) (Rect.unit (s := S16x4x64x128) ![14, 0, 0, 0] S1x4x64x128.size inb_S16x4x64x128_S1x4x64x128_14_0_0_0).toLoadRect fv)
              ((Memref.whole cc0_stg2_0).view.readAt (Elt F) (Rect.unit (s := S16x4x64x128) ![15, 0, 0, 0] S1x4x64x128.size inb_S16x4x64x128_S1x4x64x128_15_0_0_0).toLoadRect fv))))
      ⊢ WP c (p32 (F := F) v15 v194 v205 v238 v398 v402 v408) Kt := by
  unfold p32
  simp only [k0_part32_eq_skeleton]; unfold k0_part32_skel
  simp only [Prog.lift, Prog.bind_op, Prog.bind_ret, Prog.pure_eq_ret]
  iintro ⟨Hv, H3, H4, Hk⟩
  iapply (wp_load 𝒱₀ (c : Thread nD τ) none Set.univ (m := Memref.whole cc0_stg2_0) (Finset.subset_univ _)) $$ Hv; iintro Hv
  iapply (wp_load 𝒱₀ (c : Thread nD τ) none Set.univ (m := Memref.whole cc0_stg2_0) (Finset.subset_univ _)) $$ Hv; iintro Hv
  iapply (wp_load 𝒱₀ (c : Thread nD τ) none Set.univ (m := Memref.whole cc0_stg2_0) (Finset.subset_univ _)) $$ Hv; iintro Hv
  iapply (ld_scratch3 c _ _) $$ H3; iintro H3
  iapply (st_scratch3 c _ _ _) $$ H3; iintro H3
  iapply (ld_scratch4 c _ _) $$ H4; iintro H4
  iapply (st_scratch4 c _ _ _) $$ H4; iintro H4
  iapply (ret_intro c)
  iapply Hk
  isplitl [Hv]; · iexact Hv
  isplitl [H3]; · iexact H3
  iexact H4

theorem part32 (c : Dev nD) (D : Ins F) (Kt) :
    iprop(bAt c cc0_stg2_0 D.v ∗ bAt c cc0_scratch3 (mr0 c D) ∗ bAt c cc0_scratch4 (lr0 c D)
        ∗ ((bAt c cc0_stg2_0 D.v ∗ bAt c cc0_scratch3 (mr1 c D) ∗ bAt c cc0_scratch4 (lr1 c D)) -∗ Kt (c438 c D)))
      ⊢ WP c (p32 (F := F) (c15 c D) (c194 c D) (c205 c D) (c238 c D) (c398 c D) (c402 c D) (c408 c D)) Kt :=
  part32_raw c _ _ _ _ _ _ _ D.v _ _ Kt

end Cert.PagedProof
end
-- ==== Proof.Body.lean ====
module

public import proofs.«01_k».proof.Proof.Runs3

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! # The body of the kernel on one device -/

theorem shares_z (c : Dev nD) (f : CBuf F) : zPts c 0 fullShare f ⊢ iprop(zPts c 0 sh0 f ∗ zPts c 0 (shJ 0) f ∗ zPts c 0 (shJ 1) f ∗ zPts c 0 (shJ 2) f) := by
  unfold zPts; exact shares4 (ℓ := zM.view.loc (c : Thread nD τ)) (I := slotSet 0) f
theorem shares_x (c : Dev nD) (f : CBuf F) : xPts c 0 fullShare f ⊢ iprop(xPts c 0 sh0 f ∗ xPts c 0 (shJ 0) f ∗ xPts c 0 (shJ 1) f ∗ xPts c 0 (shJ 2) f) := by
  unfold xPts; exact shares4 (ℓ := xM.view.loc (c : Thread nD τ)) (I := slotSet 0) f

variable (D : Dev nD → Ins F) (κ : GSem nD τ sig → ℕ)

theorem Wg_eq (c : Dev nD) (g : CBuf F) (h : ZAll4 (valsOf D) c g) : Wg g = fourOf D (zs c) := by
  obtain ⟨⟨a0, b0, c0⟩, ⟨a1, b1, c1⟩, ⟨a2, b2, c2⟩, ⟨a3, b3, c3⟩⟩ := h
  unfold fourOf Wg
  rw [Four.mk.injEq]
  refine ⟨?_, ?_, ?_⟩
  · funext k; fin_cases k
    · exact a0
    · exact a1
    · exact a2
    · exact a3
  · funext k; fin_cases k
    · exact b0
    · exact b1
    · exact b2
    · exact b3
  · funext k; fin_cases k
    · exact c0
    · exact c1
    · exact c2
    · exact c3

theorem Xg_eq (c : Dev nD) (g : CBuf F) (h : XAll4 (valsOf D) c g) : (fun k => rd (rO k) g) = fun k => (valsOf D).X (xs c k) := by
  obtain ⟨a0, a1, a2, a3⟩ := h
  funext k; fin_cases k
  · exact a0
  · exact a1
  · exact a2
  · exact a3

/-- What the ring step `j` uses up: the rights to send and the positions and credit of its two cells. -/
def zc (c : Dev nD) (j : Fin 3) : sProp 𝕄 := iprop(sndZ c j ∗ at0 0 j c ∗ at0 1 j c ∗ cr 1 j c)
def xc (c : Dev nD) (j : Fin 3) : sProp 𝕄 := iprop(sndX c j ∗ at0 2 j c ∗ at0 3 j c ∗ cr 3 j c)
/-- All the copies' cells, their round over. -/
def doneCells (c : Dev nD) : sProp 𝕄 :=
  iprop((at1 0 0 c ∗ at1 0 1 c ∗ at1 0 2 c) ∗ (at1 1 0 c ∗ at1 1 1 c ∗ at1 1 2 c) ∗ (at1 2 0 c ∗ at1 2 1 c ∗ at1 2 2 c) ∗ (at1 3 0 c ∗ at1 3 1 c ∗ at1 3 2 c))

set_option maxHeartbeats 1000000 in
theorem part20 (c : Dev nD) (v2 v5 v8 : BitVec 32) (r0 : RBuf F) (Kt) :
    iprop(records (valsOf D) κ ∗ levAts L lv ∗ cred (tal (bcell c) 6) ∗ ow c (oZ0 c) ∗ atPos ER (bcell c) 0 ∅ 0
        ∗ (zc c 0 ∗ zc c 1 ∗ zc c 2) ∗ (xc c 0 ∗ xc c 1 ∗ xc c 2)
        ∗ bAt c cc0_scratch5 (or1 c (D c)) ∗ bAt c cc0_scratch3 (mr1 c (D c)) ∗ bAt c cc0_scratch4 (lr1 c (D c))
        ∗ (∃ f, zPts c 0 fullShare f) ∗ (∃ f, xPts c 0 fullShare f) ∗ bAt c cc0_scratch6 r0
        ∗ ((ow c 0 ∗ atPos ER (bcell c) 1 ∅ 0 ∗ doneCells c
            ∗ bAt c cc0_scratch5 (or1 c (D c)) ∗ bAt c cc0_scratch3 (mr1 c (D c)) ∗ bAt c cc0_scratch4 (lr1 c (D c))
            ∗ (∃ f, zAll c f) ∗ (∃ f, xAll c f) ∗ bAt c cc0_scratch6 (resOf c (fun k => (valsOf D).X (xs c k)) r0)) -∗ Kt ⟨⟩))
      ⊢ WP c (p20 (F := F) c v2 v5 v8 barArr cond2) Kt := by
  unfold p20
  simp only [k0_part20_eq_skeleton]; unfold k0_part20_skel
  simp only [Prog.lift, Prog.bind_op, Prog.bind_ret, Prog.pure_eq_ret, wp_bind]
  unfold zc xc
  iintro ⟨#HR, #Hl, Hcb, HO, Hat, ⟨⟨Zs0, Za0, Zb0, Zc0⟩, ⟨Zs1, Za1, Zb1, Zc1⟩, ⟨Zs2, Za2, Zb2, Zc2⟩⟩, ⟨⟨Xs0, Xa0, Xb0, Xc0⟩, ⟨Xs1, Xa1, Xb1, Xc1⟩, ⟨Xs2, Xa2, Xb2, Xc2⟩⟩, H5, H3, H4, Hz, Hx, H6, Hk⟩
  iapply (part5 (valsOf D) κ c _ (or1 c (D c)) (mr1 c (D c)) (lr1 c (D c)) rfl rfl rfl)
  isplitr; · iexact HR
  isplitr; · iexact Hl
  isplitl [Hcb]; · iexact Hcb
  isplitl [HO]; · iexact HO
  isplitl [Hat]; · iexact Hat
  isplitl [H5]; · iexact H5
  isplitl [H3]; · iexact H3
  isplitl [H4]; · iexact H4
  isplitl [Hz]; · iexact Hz
  iintro ⟨HO, Hat, ⟨Bz0, Bz1, Bz2, Bx0, Bx1, Bx2⟩, H5, H3, H4, ⟨%f, %hf, Hz⟩⟩ %r5
  ihave Hz := (shares_z c f) $$ Hz
  icases Hz with ⟨Hz, Hz0, Hz1, Hz2⟩
  iapply (part6 (valsOf D) κ c _ _ _ _ _ f hf)
  isplitr; · iexact HR
  isplitl [HO]; · iexact HO
  isplitl [Hz0]; · iexact Hz0
  isplitl [Bz0]; · iexact Bz0
  isplitl [Zs0]; · iexact Zs0
  iintro ⟨Sc0, HO⟩ %r6
  iapply (part7 (valsOf D) κ c _ _ _ _ f hf)
  isplitr; · iexact HR
  isplitl [HO]; · iexact HO
  isplitl [Hz1]; · iexact Hz1
  isplitl [Hz2]; · iexact Hz2
  isplitl [Bz1]; · iexact Bz1
  isplitl [Bz2]; · iexact Bz2
  isplitl [Zs1]; · iexact Zs1
  isplitl [Zs2]; · iexact Zs2
  iintro ⟨Sc1, Sc2, HO⟩ %r7
  iapply (part8 (valsOf D) κ c)
  isplitr; · iexact HR
  isplitr; · iexact Hl
  isplitl [HO]; · iexact HO
  isplitl [Sc0]; · iexact Sc0
  isplitl [Za0]; · iexact Za0
  isplitl [Zc0]; · iexact Zc0
  isplitl [Zb0]; · iexact Zb0
  iintro ⟨HO, Za0, Sz0, Zb0, Rz0⟩
  iapply (part9 (valsOf D) κ c)
  isplitr; · iexact HR
  isplitr; · iexact Hl
  isplitl [HO]; · iexact HO
  isplitl [Sc1]; · iexact Sc1
  isplitl [Za1]; · iexact Za1
  isplitl [Zc1]; · iexact Zc1
  isplitl [Zb1]; · iexact Zb1
  isplitl [Sc2]; · iexact Sc2
  isplitl [Za2]; · iexact Za2
  iintro ⟨HO, Za1, Sz1, Zb1, Rz1, Za2, Sz2⟩ %r9
  iapply (part10 (valsOf D) κ c _ _ _ f hf)
  isplitr; · iexact HR
  isplitr; · iexact Hl
  isplitl [HO]; · iexact HO
  isplitl [Zc2]; · iexact Zc2
  isplitl [Zb2]; · iexact Zb2
  isplitl [Hz]; · iexact Hz
  isplitl [Sz0 Sz1 Sz2]
  · isplitl [Sz0]; · iexact Sz0
    isplitl [Sz1]; · iexact Sz1
    iexact Sz2
  isplitl [Rz0]; · iexact Rz0
  isplitl [Rz1]; · iexact Rz1
  iintro %g %hg ⟨HO, Zb2, Hz⟩
  iapply (part11 c g)
  isplitl [Hz]; · iexact Hz
  iintro Hz
  iapply (part12 (valsOf D) c _ _ (d639 (Wg g)) (d641 (Wg g)) (d646 (Wg g)) (d648 (Wg g)) (show merged (fourOf D (zs c)) = merged (Wg g) by rw [Wg_eq D c g hg]))
  isplitl [Hx]; · iexact Hx
  iintro ⟨%fx, %hfx, Hx⟩ %r12
  ihave Hx := (shares_x c fx) $$ Hx
  icases Hx with ⟨Hx, Hx0, Hx1, Hx2⟩
  iapply (part13 (valsOf D) κ c _ _ _ _ _ _ fx hfx)
  isplitr; · iexact HR
  isplitl [HO]; · iexact HO
  isplitl [Hx0]; · iexact Hx0
  isplitl [Bx0]; · iexact Bx0
  isplitl [Xs0]; · iexact Xs0
  iintro ⟨Tc0, HO⟩ %r13
  iapply (part14 (valsOf D) κ c _ _ _ _ _ _ _ fx hfx)
  isplitr; · iexact HR
  isplitl [HO]; · iexact HO
  isplitl [Hx1]; · iexact Hx1
  isplitl [Bx1]; · iexact Bx1
  isplitl [Xs1]; · iexact Xs1
  iintro ⟨Tc1, HO⟩ %r14
  iapply (part15 (valsOf D) κ c _ _ _ _ _ _ fx hfx)
  isplitr; · iexact HR
  isplitr; · iexact Hl
  isplitl [HO]; · iexact HO
  isplitl [Hx2]; · iexact Hx2
  isplitl [Bx2]; · iexact Bx2
  isplitl [Xs2]; · iexact Xs2
  isplitl [Tc0]; · iexact Tc0
  isplitl [Xa0]; · iexact Xa0
  iintro ⟨Tc2, HO, Xa0, Sx0⟩
  iapply (part16 (valsOf D) κ c)
  isplitr; · iexact HR
  isplitr; · iexact Hl
  isplitl [HO]; · iexact HO
  isplitl [Xc0]; · iexact Xc0
  isplitl [Xb0]; · iexact Xb0
  isplitl [Tc1]; · iexact Tc1
  isplitl [Xa1]; · iexact Xa1
  isplitl [Xc1]; · iexact Xc1
  isplitl [Xb1]; · iexact Xb1
  iintro ⟨HO, Xb0, Rx0, Xa1, Sx1, Xb1, Rx1⟩
  iapply (part17 (valsOf D) κ c _ _ _ _ _ _ fx hfx r0)
  isplitr; · iexact HR
  isplitr; · iexact Hl
  isplitl [HO]; · iexact HO
  isplitl [Tc2]; · iexact Tc2
  isplitl [Xa2]; · iexact Xa2
  isplitl [Xc2]; · iexact Xc2
  isplitl [Xb2]; · iexact Xb2
  isplitl [Hx]; · iexact Hx
  isplitl [Sx0]; · iexact Sx0
  isplitl [Sx1]; · iexact Sx1
  isplitl [Rx0]; · iexact Rx0
  isplitl [Rx1]; · iexact Rx1
  isplitl [H6]; · iexact H6
  iintro %gx %hgx ⟨HO, Xa2, Xb2, Hx, H6⟩
  iapply (part18 c _ _ _ gx _)
  isplitl [Hx]; · iexact Hx
  isplitl [H6]; · iexact H6
  iintro ⟨Hx, H6⟩ %r18
  iapply (part19 c _ _ _ _ _ _ _ gx _)
  isplitl [Hx]; · iexact Hx
  isplitl [H6]; · iexact H6
  iintro ⟨Hx, H6⟩ %r19
  iapply (ldxA c (rO 3) gx) $$ Hx; iintro Hx
  iapply (ldR c _ _ _) $$ H6; iintro %vv H6
  iapply (stR c _ _ _ _) $$ H6; iintro H6
  iapply (ret_intro c)
  rw [← Xg_eq D c gx hgx]
  iapply Hk
  unfold doneCells
  isplitl [HO]; · iexact HO
  isplitl [Hat]; · iexact Hat
  isplitl [Za0 Za1 Za2 Zb0 Zb1 Zb2 Xa0 Xa1 Xa2 Xb0 Xb1 Xb2]
  · isplitl [Za0 Za1 Za2]
    · isplitl [Za0]; · iexact Za0
      isplitl [Za1]; · iexact Za1
      iexact Za2
    isplitl [Zb0 Zb1 Zb2]
    · isplitl [Zb0]; · iexact Zb0
      isplitl [Zb1]; · iexact Zb1
      iexact Zb2
    isplitl [Xa0 Xa1 Xa2]
    · isplitl [Xa0]; · iexact Xa0
      isplitl [Xa1]; · iexact Xa1
      iexact Xa2
    isplitl [Xb0]; · iexact Xb0
    isplitl [Xb1]; · iexact Xb1
    iexact Xb2
  isplitl [H5]; · iexact H5
  isplitl [H3]; · iexact H3
  isplitl [H4]; · iexact H4
  isplitl [Hz]; · iexists g; iexact Hz
  isplitl [Hx]; · iexists gx; iexact Hx
  iexact H6

end Cert.PagedProof
end
-- ==== Proof.Whole.lean ====
module

public import proofs.«01_k».proof.Proof.Body

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
/-! ## The result's heads, four at a time -/

/-- The place of an index within its group of four heads. -/
def inGroup (i : S16x16x64.Idx) : S4x16x64.Idx
  | 0 => ⟨(i 0).val % 4, Nat.mod_lt _ (by decide)⟩
  | 1 => ⟨(i 1).val, (i 1).isLt⟩
  | 2 => ⟨(i 2).val, (i 2).isLt⟩

theorem wR_in (off : Fin 3 → Nat) (inb) (w : Vec F S4x16x64 .f32) (f : RBuf F) (i : S16x16x64.Idx)
    (h0 : off 0 = 4 * ((i 0).val / 4)) (h1 : off 1 = 0) (h2 : off 2 = 0) : wR off inb w f i = w (inGroup i) := by
  have e : ((Memref.whole cc0_scratch6).access (rR off inb) : View sig .tc _ _ _).emb (inGroup i) = i := by
    refine Eq.trans (b := (rR off inb).emb (inGroup i)) rfl ?_
    funext a
    apply Fin.ext
    rw [Rect.emb_apply]
    fin_cases a
    · show off 0 + 1 * ((i 0).val % 4) = (i 0).val; rw [h0]; omega
    · show off 1 + 1 * (i 1).val = (i 1).val; rw [h1]; omega
    · show off 2 + 1 * (i 2).val = (i 2).val; rw [h2]; omega
  have h := View.write_emb_of_mem (Val := Elt F) (v := ((Memref.whole cc0_scratch6).access (rR off inb) : View sig .tc _ _ _)) f w (M := Finset.univ) (x := inGroup i) (Finset.mem_univ _)
  rw [e] at h
  exact h

theorem wR_out (off : Fin 3 → Nat) (inb) (w : Vec F S4x16x64 .f32) (f : RBuf F) (i : S16x16x64.Idx)
    (g : Nat) (h0 : off 0 = 4 * g) (hg : g ≠ (i 0).val / 4) : wR off inb w f i = f i := by
  refine View.write_of_not_mem (Val := Elt F) (v := ((Memref.whole cc0_scratch6).access (rR off inb) : View sig .tc _ _ _)) f w Finset.univ (i := i) ?_
  intro hm
  obtain ⟨y, -, hy⟩ := Finset.mem_map.mp hm
  have hv : ((rR off inb).emb y 0).val = (i 0).val := congrArg (fun z : S16x16x64.Idx => (z 0).val) hy
  rw [Rect.emb_apply] at hv
  have hy0 : (y 0).val < 4 := (y 0).isLt
  replace hv : off 0 + 1 * (y 0).val = (i 0).val := hv
  rw [h0] at hv
  omega

theorem off_own (c : Dev nD) : (k0_off1 c 0 = 4 * ((xs c 0).val / 4) ∧ k0_off1 c 1 = 0 ∧ k0_off1 c 2 = 0) := by revert c; decide +kernel
theorem off_01 (c : Dev nD) : (k0_off2 c 0#32 1#32 0 = 4 * ((xs c 1).val / 4) ∧ k0_off2 c 0#32 1#32 1 = 0 ∧ k0_off2 c 0#32 1#32 2 = 0) := by revert c; decide +kernel
theorem off_10 (c : Dev nD) : (k0_off2 c 1#32 0#32 0 = 4 * ((xs c 2).val / 4) ∧ k0_off2 c 1#32 0#32 1 = 0 ∧ k0_off2 c 1#32 0#32 2 = 0) := by revert c; decide +kernel
theorem off_11 (c : Dev nD) : (k0_off2 c 1#32 1#32 0 = 4 * ((xs c 3).val / 4) ∧ k0_off2 c 1#32 1#32 1 = 0 ∧ k0_off2 c 1#32 1#32 2 = 0) := by revert c; decide +kernel
theorem xs_inj (c : Dev nD) (k l : Fin 4) (h : k ≠ l) : (xs c k).val / 4 ≠ (xs c l).val / 4 := by revert c k l; decide +kernel
theorem xs_onto (c : Dev nD) (g : Fin 4) : ∃ k, (xs c k).val / 4 = g.val := by revert c g; decide +kernel

/-- The four heads a group writes, by its place in the exchange. -/
def heads (k : Fin 4) (x : Vec F S1x4x16x64 .f32) : Vec F S4x16x64 .f32 := (![k0_pay22, k0_pay23, k0_pay24, k0_pay25] : Fin 4 → _) k x

theorem resOf_at (c : Dev nD) (X : Fin 4 → Vec F S1x4x16x64 .f32) (r0 : RBuf F) (i : S16x16x64.Idx) (k : Fin 4)
    (hk : (xs c k).val / 4 = (i 0).val / 4) : resOf c X r0 i = heads k (X k) (inGroup i) := by
  unfold resOf heads
  have n3 := xs_inj c 3 k
  have n2 := xs_inj c 2 k
  have n1 := xs_inj c 1 k
  rw [hk] at n1 n2 n3
  fin_cases k
  · refine (wR_out _ _ _ _ i _ (off_11 c).1 (n3 (by decide))).trans ?_
    refine (wR_out _ _ _ _ i _ (off_10 c).1 (n2 (by decide))).trans ?_
    refine (wR_out _ _ _ _ i _ (off_01 c).1 (n1 (by decide))).trans ?_
    exact wR_in _ _ _ _ _ ((off_own c).1.trans (congrArg (4 * ·) hk)) (off_own c).2.1 (off_own c).2.2
  · refine (wR_out _ _ _ _ i _ (off_11 c).1 (n3 (by decide))).trans ?_
    refine (wR_out _ _ _ _ i _ (off_10 c).1 (n2 (by decide))).trans ?_
    exact wR_in _ _ _ _ _ ((off_01 c).1.trans (congrArg (4 * ·) hk)) (off_01 c).2.1 (off_01 c).2.2
  · refine (wR_out _ _ _ _ i _ (off_11 c).1 (n3 (by decide))).trans ?_
    exact wR_in _ _ _ _ _ ((off_10 c).1.trans (congrArg (4 * ·) hk)) (off_10 c).2.1 (off_10 c).2.2
  · exact wR_in _ _ _ _ _ ((off_11 c).1.trans (congrArg (4 * ·) hk)) (off_11 c).2.1 (off_11 c).2.2

/-- What the exchange leaves does not depend on what the buffer held before. -/
theorem resOf_any (c : Dev nD) (X : Fin 4 → Vec F S1x4x16x64 .f32) (r0 r1 : RBuf F) : resOf c X r0 = resOf c X r1 := by
  funext i
  have hlt : (i 0).val < 16 := (i 0).isLt
  obtain ⟨k, hk⟩ := xs_onto c ⟨(i 0).val / 4, by omega⟩
  rw [resOf_at c X r0 i k hk, resOf_at c X r1 i k hk]

variable (D : Dev nD → Ins F) (κ : GSem nD τ sig → ℕ)

/-- The kernel's result on device `c`. -/
def out (c : Dev nD) : Vec F S16x1x16x64 .f32 := k0_pay2 (resOf c (fun k => (valsOf D).X (xs c k)) fun _ => (Scalar.ofBits .f32 0x00000000#32 : F .f32))

/-! ## The whole body -/

/-- The rights to credit the counters of others, one for each signal and copy the device makes. -/
def toks (c : Dev nD) : sProp 𝕄 :=
  iprop(((dutyTok ER (bcell (zp 0 c)) 0 (dz (op 0)) ∗ dutyTok ER (bcell (zp 1 c)) 0 (dz (op 1)) ∗ dutyTok ER (bcell (zp 2 c)) 0 (dz (op 2)))
      ∗ (dutyTok ER (bcell (xp 0 c)) 0 (dx 0) ∗ dutyTok ER (bcell (xp 1 c)) 0 (dx 1) ∗ dutyTok ER (bcell (xp 2 c)) 0 (dx 2)))
    ∗ ((dutyTok ER (dcell 0 0 c) 0 0 ∗ dutyTok ER (dcell 0 1 c) 0 0 ∗ dutyTok ER (dcell 0 2 c) 0 0)
      ∗ (dutyTok ER (dcell 1 0 (zp 0 c)) 0 0 ∗ dutyTok ER (dcell 1 1 (zp 1 c)) 0 0 ∗ dutyTok ER (dcell 1 2 (zp 2 c)) 0 0)
      ∗ (dutyTok ER (dcell 2 0 c) 0 0 ∗ dutyTok ER (dcell 2 1 c) 0 0 ∗ dutyTok ER (dcell 2 2 c) 0 0)
      ∗ (dutyTok ER (dcell 3 0 (xp 0 c)) 0 0 ∗ dutyTok ER (dcell 3 1 (xp 1 c)) 0 0 ∗ dutyTok ER (dcell 3 2 (xp 2 c)) 0 0)))
/-- A counter of a copy, opened. -/
def opn (t : Fin 4) (j : Fin 3) (c : Dev nD) : sProp 𝕄 := iprop(at0 t j c ∗ reached ER (dcell t j c) 0)
def opens (c : Dev nD) : sProp 𝕄 :=
  iprop((opn 0 0 c ∗ opn 0 1 c ∗ opn 0 2 c) ∗ (opn 1 0 c ∗ opn 1 1 c ∗ opn 1 2 c) ∗ (opn 2 0 c ∗ opn 2 1 c ∗ opn 2 2 c) ∗ (opn 3 0 c ∗ opn 3 1 c ∗ opn 3 2 c))
/-- The credit dealt at the launch for what others will send. -/
def creds (c : Dev nD) : sProp 𝕄 := iprop(cred (tal (bcell c) 6) ∗ (cr 1 0 c ∗ cr 1 1 c ∗ cr 1 2 c) ∗ (cr 3 0 c ∗ cr 3 1 c ∗ cr 3 2 c))
/-- The kernel's scratch buffers, at contents not chosen. -/
def scr (c : Dev nD) : sProp 𝕄 :=
  iprop((∃ f, zAll (F := F) c f) ∗ (∃ f, xAll (F := F) c f) ∗ (∃ f, bAt (F := F) c cc0_scratch2 f) ∗ (∃ f, bAt (F := F) c cc0_scratch3 f) ∗ (∃ f, bAt (F := F) c cc0_scratch4 f)
    ∗ (∃ f, bAt (F := F) c cc0_scratch5 f) ∗ (∃ f, bAt (F := F) c cc0_scratch6 f))
/-- The staged inputs. -/
def inputs (c : Dev nD) : sProp 𝕄 :=
  iprop(bAt c cc0_stg0_0 (D c).q ∗ bAt c cc0_stg1_0 (D c).k ∗ bAt c cc0_stg2_0 (D c).v ∗ bAt c cc0_stg3_0 (D c).bt ∗ bAt c cc0_stg4_0 (D c).ln)

abbrev pBody : Prog (TpuEff nD τ sig (Elt F) Λ₀ .tc) PUnit :=
  cc0_body (F := F) i0 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10

set_option maxHeartbeats 400000 in
theorem body_run (c : Dev nD) (Q : PUnit → sProp 𝕄) :
    iprop(records (valsOf D) κ ∗ levAts L lv ∗ ow c (O₀ c) ∗ creds c ∗ atPos ER (bcell c) 0 ∅ 0 ∗ toks c ∗ opens c ∗ scr (F := F) c ∗ inputs D c
        ∗ (∃ f, bAt c cc0_stg5_0 f)
        ∗ ((ow c 0 ∗ atPos ER (bcell c) 1 ∅ 0 ∗ doneCells c ∗ scr (F := F) c ∗ inputs D c ∗ bAt c cc0_stg5_0 (out D c)) -∗ Q ⟨⟩))
      ⊢ WP c (pBody (F := F)) Q := by
  unfold pBody
  simp only [cc0_body_eq_skeleton]; unfold cc0_body_skel
  simp only [Prog.lift, Prog.bind_op, Prog.bind_ret, Prog.pure_eq_ret, dif_pos cond2, wp_bind]
  unfold creds toks opens opn scr inputs
  iintro ⟨#HR, #Hl, HO, ⟨Hcb, ⟨Zc0, Zc1, Zc2⟩, ⟨Xc0, Xc1, Xc2⟩⟩, Hat, ⟨⟨⟨Tz0, Tz1, Tz2⟩, ⟨Tx0, Tx1, Tx2⟩⟩, ⟨A0, A1, A2⟩, ⟨B0, B1, B2⟩, ⟨C0, C1, C2⟩, ⟨E0, E1, E2⟩⟩,
    ⟨⟨⟨Za0, #a0⟩, ⟨Za1, #a1⟩, ⟨Za2, #a2⟩⟩, ⟨⟨Zb0, #b0⟩, ⟨Zb1, #b1⟩, ⟨Zb2, #b2⟩⟩, ⟨⟨Xa0, #c0⟩, ⟨Xa1, #c1⟩, ⟨Xa2, #c2⟩⟩, ⟨⟨Xb0, #e0⟩, ⟨Xb1, #e1⟩, ⟨Xb2, #e2⟩⟩⟩,
    ⟨⟨%fz, Hz⟩, ⟨%fx, Hx⟩, H2, H3, H4, H5, ⟨%r0, H6⟩⟩, ⟨Hq, Hk, Hv, Hbt, Hln⟩, ⟨%o0, Ho⟩, HK⟩
  ihave Hz := (z_split c fz) $$ Hz
  icases Hz with ⟨Hz, Hz1, Hz2, Hz3⟩
  ihave Hx := (x_split c fx) $$ Hx
  icases Hx with ⟨Hx, Hx1, Hx2, Hx3⟩
  iapply (part21 (valsOf D) κ c (D c))
  isplitr; · iexact HR
  isplitl [HO]; · iexact HO
  isplitl [Tz0 Tz1 Tz2 Hz1 Hz2 Hz3]
  · unfold sigZ
    isplitl [Tz0 Hz3]
    · isplitl [Tz0]; · iexact Tz0
      isplitl [Hz3]; · iexists fz; iexact Hz3
      iexact b2
    isplitl [Tz1 Hz2]
    · isplitl [Tz1]; · iexact Tz1
      isplitl [Hz2]; · iexists fz; iexact Hz2
      iexact b1
    isplitl [Tz2]; · iexact Tz2
    isplitl [Hz1]; · iexists fz; iexact Hz1
    iexact b0
  isplitl [Tx0 Tx1 Tx2 Hx1 Hx2 Hx3]
  · unfold sigX
    isplitl [Tx0 Hx1]
    · isplitl [Tx0]; · iexact Tx0
      isplitl [Hx1]; · iexists fx; iexact Hx1
      iexact e0
    isplitl [Tx1 Hx2]
    · isplitl [Tx1]; · iexact Tx1
      isplitl [Hx2]; · iexists fx; iexact Hx2
      iexact e1
    isplitl [Tx2]; · iexact Tx2
    isplitl [Hx3]; · iexists fx; iexact Hx3
    iexact e2
  isplitl [Hq]; · iexact Hq
  isplitl [Hk]; · iexact Hk
  isplitl [Hbt]; · iexact Hbt
  isplitl [Hln]; · iexact Hln
  isplitl [H2]; · iexact H2
  isplitl [H3]; · iexact H3
  isplitl [H4]; · iexact H4
  isplitl [H5]; · iexact H5
  iintro ⟨HO, Hq, Hk, Hbt, Hln, H2, H3, H4, H5⟩ %a0 %v2 %v5 %v8
  iapply (part22 c (D c))
  isplitl [Hk]; · iexact Hk
  iintro Hk
  iapply (part23 c (D c))
  isplitl [Hk]; · iexact Hk
  iintro Hk
  iapply (part24 c (D c))
  isplitl [Hk]; · iexact Hk
  iintro Hk
  iapply (part25 c (D c))
  isplitl [Hk]; · iexact Hk
  iintro Hk
  iapply (part26 c (D c))
  isplitl [Hk]; · iexact Hk
  iintro Hk
  iapply (part27 c (D c))
  isplitl [H3]; · iexact H3
  isplitl [H4]; · iexact H4
  isplitl [H5]; · iexact H5
  iintro ⟨H3, H4, H5⟩
  iapply (part28 c (D c))
  isplitl [Hv]; · iexact Hv
  iintro Hv
  iapply (part29 c (D c))
  isplitl [Hv]; · iexact Hv
  iintro Hv
  iapply (part30 c (D c))
  isplitl [Hv]; · iexact Hv
  iintro Hv
  iapply (part31 c (D c))
  isplitl [Hv]; · iexact Hv
  iintro Hv
  iapply (part32 c (D c))
  isplitl [Hv]; · iexact Hv
  isplitl [H3]; · iexact H3
  isplitl [H4]; · iexact H4
  iintro ⟨Hv, H3, H4⟩
  iapply (ld_scratch5 c _ _) $$ H5; iintro H5
  iapply (st_scratch5 c _ _ _) $$ H5; iintro H5
  dsimp only
  simp only [wp_bind]
  iapply (part20 D κ c _ _ _ r0)
  isplitr; · iexact HR
  isplitr; · iexact Hl
  isplitl [Hcb]; · iexact Hcb
  isplitl [HO]; · iexact HO
  isplitl [Hat]; · iexact Hat
  isplitl [Za0 Zb0 Zc0 A0 B0 Za1 Zb1 Zc1 A1 B1 Za2 Zb2 Zc2 A2 B2]
  · unfold zc sndZ
    isplitl [Za0 Zb0 Zc0 A0 B0]
    · isplitl [A0 B0]
      · isplitl [A0]; · iexact A0
        isplitr; · iexact a0
        iexact B0
      isplitl [Za0]; · iexact Za0
      isplitl [Zb0]; · iexact Zb0
      iexact Zc0
    isplitl [Za1 Zb1 Zc1 A1 B1]
    · isplitl [A1 B1]
      · isplitl [A1]; · iexact A1
        isplitr; · iexact a1
        iexact B1
      isplitl [Za1]; · iexact Za1
      isplitl [Zb1]; · iexact Zb1
      iexact Zc1
    isplitl [A2 B2]
    · isplitl [A2]; · iexact A2
      isplitr; · iexact a2
      iexact B2
    isplitl [Za2]; · iexact Za2
    isplitl [Zb2]; · iexact Zb2
    iexact Zc2
  isplitl [Xa0 Xb0 Xc0 C0 E0 Xa1 Xb1 Xc1 C1 E1 Xa2 Xb2 Xc2 C2 E2]
  · unfold xc sndX
    isplitl [Xa0 Xb0 Xc0 C0 E0]
    · isplitl [C0 E0]
      · isplitl [C0]; · iexact C0
        isplitr; · iexact c0
        iexact E0
      isplitl [Xa0]; · iexact Xa0
      isplitl [Xb0]; · iexact Xb0
      iexact Xc0
    isplitl [Xa1 Xb1 Xc1 C1 E1]
    · isplitl [C1 E1]
      · isplitl [C1]; · iexact C1
        isplitr; · iexact c1
        iexact E1
      isplitl [Xa1]; · iexact Xa1
      isplitl [Xb1]; · iexact Xb1
      iexact Xc1
    isplitl [C2 E2]
    · isplitl [C2]; · iexact C2
      isplitr; · iexact c2
      iexact E2
    isplitl [Xa2]; · iexact Xa2
    isplitl [Xb2]; · iexact Xb2
    iexact Xc2
  isplitl [H5]; · iexact H5
  isplitl [H3]; · iexact H3
  isplitl [H4]; · iexact H4
  isplitl [Hz]; · iexists fz; iexact Hz
  isplitl [Hx]; · iexists fx; iexact Hx
  isplitl [H6]; · iexact H6
  iintro ⟨HO, Hat, Hd, H5, H3, H4, Hz, Hx, H6⟩
  iapply (ld_scratch6 c _ _) $$ H6; iintro H6
  iapply (ld_stg5_0 c _ _) $$ Ho; iintro Ho
  iapply (st_stg5_0 c _ _ _) $$ Ho; iintro Ho
  iapply (ret_intro c)
  iapply HK
  isplitl [HO]; · iexact HO
  isplitl [Hat]; · iexact Hat
  isplitl [Hd]; · iexact Hd
  isplitl [Hz Hx H2 H3 H4 H5 H6]
  · isplitl [Hz]; · iexact Hz
    isplitl [Hx]; · iexact Hx
    isplitl [H2]; · iexists _; iexact H2
    isplitl [H3]; · iexists _; iexact H3
    isplitl [H4]; · iexists _; iexact H4
    isplitl [H5]; · iexists _; iexact H5
    iexists _; iexact H6
  isplitl [Hq Hk Hv Hbt Hln]
  · isplitl [Hq]; · iexact Hq
    isplitl [Hk]; · iexact Hk
    isplitl [Hv]; · iexact Hv
    isplitl [Hbt]; · iexact Hbt
    iexact Hln
  unfold out
  rw [resOf_any c _ (fun _ => (Scalar.ofBits .f32 0x00000000#32 : F .f32)) r0]
  iexact Ho

end Cert.PagedProof
end
-- ==== Proof.Output.lean ====
module

public import proofs.«01_k».proof.Proof.Device
public import proofs.«01_k».proof.Proof.Whole

@[expose] public section
set_option maxRecDepth 16384
noncomputable section
namespace Cert.PagedProof
open Cert.KernelIdeal Cert.KernelIdeal.Gen
open Idealize.ShloMosaic Idealize.ShloMosaic.ValueIdx
open scoped BigOperators

/-! # The kernel's result in closed form -/

/-! ## The merge at an index -/

section Merge
variable (W : Four Ideal) (h : Fin 4) (b : Fin 16)

/-- The maximum of partial result `i`. -/
def mOf (i : Fin 4) : EReal := W.m i (ix4 0 h b 0)
/-- The sum of weights of partial result `i`. -/
def lOf (i : Fin 4) : EReal := W.l i (ix4 0 h b 0)
/-- The weighted values of partial result `i`. -/
def oOf (d : Fin 64) (i : Fin 4) : EReal := W.o i (ix4 0 h b d)
/-- The common maximum. -/
def mxOf : EReal := max (max (max (mOf W h b 0) (mOf W h b 1)) (mOf W h b 2)) (mOf W h b 3)
/-- What brings partial result `i` to the common maximum. -/
def eOf (i : Fin 4) : EReal := Ideal.exp (mOf W h b i - mxOf W h b)

theorem cast_m (x : Vec Ideal S1x4x16x1 .f32) (u : Fin 1) : shapeCast S4x16x1 x shapeCasts_S1x4x16x1_S4x16x1 (ix3 h b u) = x (ix4 0 h b u) :=
  shapeCast_1abc_abc_apply _ _ _ _ _

theorem d597_at (u : Fin 1) : d597 W (ix3 h b u) = mOf W h b 1 := by
  have hu : u = 0 := Subsingleton.elim _ _
  subst hu; unfold d597 k0_pay8; exact cast_m h b _ _
theorem d599_at (u : Fin 1) : d599 W (ix3 h b u) = mOf W h b 2 := by
  have hu : u = 0 := Subsingleton.elim _ _
  subst hu; unfold d599 k0_pay9; exact cast_m h b _ _
theorem d601_at (u : Fin 1) : d601 W (ix3 h b u) = mOf W h b 3 := by
  have hu : u = 0 := Subsingleton.elim _ _
  subst hu; unfold d601 k0_pay10; exact cast_m h b _ _
theorem m0_at (u : Fin 1) : k0_pay7 (W.m 0) (ix3 h b u) = mOf W h b 0 := by
  have hu : u = 0 := Subsingleton.elim _ _
  subst hu; unfold k0_pay7; exact cast_m h b _ _
theorem d604_at (u : Fin 1) : d604 W (ix3 h b u) = mxOf W h b := by
  show max (max (max (k0_pay7 (W.m 0) (ix3 h b u)) (d597 W (ix3 h b u))) (d599 W (ix3 h b u))) (d601 W (ix3 h b u)) = _
  rw [m0_at, d597_at, d599_at, d601_at]; rfl
theorem e0_at (u : Fin 1) : d608 W (ix3 h b u) = eOf W h b 0 := by
  show Ideal.exp (k0_pay7 (W.m 0) (ix3 h b u) - d604 W (ix3 h b u)) = _
  rw [m0_at, d604_at]; rfl
theorem e1_at (u : Fin 1) : k0_pay15 (d597 W) (d604 W) (ix3 h b u) = eOf W h b 1 := by
  show Ideal.exp (d597 W (ix3 h b u) - d604 W (ix3 h b u)) = _
  rw [d597_at, d604_at]; rfl
theorem e2_at (u : Fin 1) : k0_pay16 (d599 W) (d604 W) (ix3 h b u) = eOf W h b 2 := by
  show Ideal.exp (d599 W (ix3 h b u) - d604 W (ix3 h b u)) = _
  rw [d599_at, d604_at]; rfl
theorem e3_at (u : Fin 1) : k0_pay18 (d601 W) (d604 W) (ix3 h b u) = eOf W h b 3 := by
  show Ideal.exp (d601 W (ix3 h b u) - d604 W (ix3 h b u)) = _
  rw [d601_at, d604_at]; rfl

theorem sum_four (f : Fin 4 → EReal) : (((0 + f 0) + f 1) + f 2) + f 3 = ∑ i, f i := by
  simp only [Fin.sum_univ_castSucc, Fin.sum_univ_zero]; rfl

theorem den_at (u : Fin 1) : addf (d639 W) (mulf (d648 W) (d641 W)) (ix3 h b u) = ∑ i, lOf W h b i * eOf W h b i := by
  show (((Ideal.ofBits .f32 0x00000000#32 + shapeCast S4x16x1 (W.l 0) shapeCasts_S1x4x16x1_S4x16x1 (ix3 h b u) * d608 W (ix3 h b u))
      + shapeCast S4x16x1 (W.l 1) shapeCasts_S1x4x16x1_S4x16x1 (ix3 h b u) * k0_pay15 (d597 W) (d604 W) (ix3 h b u))
      + shapeCast S4x16x1 (W.l 2) shapeCasts_S1x4x16x1_S4x16x1 (ix3 h b u) * k0_pay16 (d599 W) (d604 W) (ix3 h b u))
      + shapeCast S4x16x1 (W.l 3) shapeCasts_S1x4x16x1_S4x16x1 (ix3 h b u) * k0_pay18 (d601 W) (d604 W) (ix3 h b u) = _
  rw [e0_at, e1_at, e2_at, e3_at, cast_m, cast_m, cast_m, cast_m, zero_lit, ← sum_four]
  have hu : u = 0 := Subsingleton.elim _ _
  subst hu; rfl

theorem num_at (d : Fin 64) : d646 W (ix3 h b d) = ∑ i, oOf W h b d i * eOf W h b i := by
  show (((Ideal.ofBits .f32 0x00000000#32
        + shapeCast S4x16x64 (W.o 0) shapeCasts_S1x4x16x64_S4x16x64 (ix3 h b d) * broadcastTo S4x16x64 (d608 W) broadcasts_S4x16x1_S4x16x64 (ix3 h b d))
      + shapeCast S4x16x64 (W.o 1) shapeCasts_S1x4x16x64_S4x16x64 (ix3 h b d) * broadcastTo S4x16x64 (k0_pay15 (d597 W) (d604 W)) broadcasts_S4x16x1_S4x16x64 (ix3 h b d))
      + shapeCast S4x16x64 (W.o 2) shapeCasts_S1x4x16x64_S4x16x64 (ix3 h b d) * broadcastTo S4x16x64 (k0_pay16 (d599 W) (d604 W)) broadcasts_S4x16x1_S4x16x64 (ix3 h b d))
      + shapeCast S4x16x64 (W.o 3) shapeCasts_S1x4x16x64_S4x16x64 (ix3 h b d) * broadcastTo S4x16x64 (k0_pay18 (d601 W) (d604 W)) broadcasts_S4x16x1_S4x16x64 (ix3 h b d) = _
  have C : ∀ x : Vec Ideal S1x4x16x64 .f32, shapeCast S4x16x64 x shapeCasts_S1x4x16x64_S4x16x64 (ix3 h b d) = x (ix4 0 h b d) :=
    fun x => shapeCast_1abc_abc_apply _ _ _ _ _
  rw [bc_lane64, bc_lane64, bc_lane64, bc_lane64, e0_at, e1_at, e2_at, e3_at, C, C, C, C, zero_lit, ← sum_four]
  rfl

theorem merged_at (u : Fin 1) (d : Fin 64) : (merged W (ix4 u h b d) : EReal)
    = Ideal.div (∑ i, oOf W h b d i * eOf W h b i) (∑ i, lOf W h b i * eOf W h b i) := by
  unfold merged k0_pay21
  refine (shapeCast_abc_1abc_apply _ _ _ _ _ _).trans ?_
  show Ideal.div (d646 W (ix3 h b d)) (broadcastTo S4x16x64 (addf (d639 W) (mulf (d648 W) (d641 W))) broadcasts_S4x16x1_S4x16x64 (ix3 h b d)) = _
  rw [bc_lane64, den_at, num_at]

end Merge

/-! ## The four partial results a device merges -/

section Four
variable (D : Dev nD → Ins Ideal) (s : Fin 4 → Dev nD) (h : Fin 4) (b : Fin 16)
theorem mOf_four (i : Fin 4) : mOf (fourOf D s) h b i = mr1 (s i) (D (s i)) (ix2 h b) := by
  show shapeCast S1x4x16x1 (shapeCast S4x16x1 (mr1 (s i) (D (s i))) shapeCasts_S4x16_S4x16x1) shapeCasts_S4x16x1_S1x4x16x1 (ix4 0 h b 0) = _
  exact (shapeCast_abc_1abc_apply _ _ _ _ _ _).trans (cast_ab_ab1 _ _ _ _ _)
theorem lOf_four (i : Fin 4) : lOf (fourOf D s) h b i = lr1 (s i) (D (s i)) (ix2 h b) := by
  show shapeCast S1x4x16x1 (shapeCast S4x16x1 (lr1 (s i) (D (s i))) shapeCasts_S4x16_S4x16x1) shapeCasts_S4x16x1_S1x4x16x1 (ix4 0 h b 0) = _
  exact (shapeCast_abc_1abc_apply _ _ _ _ _ _).trans (cast_ab_ab1 _ _ _ _ _)
theorem oOf_four (d : Fin 64) (i : Fin 4) : oOf (fourOf D s) h b d i = or1 (s i) (D (s i)) (ix3 h b d) := by
  show shapeCast S1x4x16x64 (or1 (s i) (D (s i))) shapeCasts_S4x16x64_S1x4x16x64 (ix4 0 h b d) = _
  exact shapeCast_abc_1abc_apply _ _ _ _ _ _
end Four

/-! ## The whole arrays the devices stage -/

/-- The whole arrays: queries, keys and values by page, the table, the lengths. -/
structure Glob where
  q : Fin 16 → Fin 16 → Fin 64 → EReal
  k : ℕ → Fin 16 → Fin 16 → Fin 64 → EReal
  v : ℕ → Fin 16 → Fin 16 → Fin 64 → EReal
  bt : (⟨S16x128, .i32⟩ : BufTy).Contents (Elt Ideal)
  ln : (⟨S16x1, .i32⟩ : BufTy).Contents (Elt Ideal)

/-- Every device stages its own part of the whole arrays. -/
structure Staged (A : Glob) (D : Dev nD → Ins Ideal) : Prop where
  q : ∀ c b hh d, (D c).q (ix4 b 0 hh d) = A.q b hh d
  k : ∀ c k h d p, (D c).k (ix4 k h d p) = A.k (128 * (c.val % 4) + p.val) k (headOf c h) d
  v : ∀ c k h d p, (D c).v (ix4 k h d p) = A.v (128 * (c.val % 4) + p.val) k (headOf c h) d
  bt : ∀ c, (D c).bt = A.bt
  ln : ∀ c, (D c).ln = A.ln

/-- The scores are the real numbers `σ`: sequence, head, place in the page, page. -/
def Scores (A : Glob) (σ : Fin 16 → Fin 16 → Fin 16 → ℕ → ℝ) : Prop :=
  ∀ b hh k pg, pg < 512 → (∑ d : Fin 64, A.q b hh d * A.k pg k hh d) * scale = (σ b hh k pg : EReal)

theorem zs_group (c : Dev nD) (i : Fin 4) : (zs c i).val / 4 = c.val / 4 := by revert c i; decide +kernel
/-- The part of the pages that partial result `i` covers. -/
def zOf (c : Dev nD) (i : Fin 4) : Fin 4 := ⟨(zs c i).val % 4, Nat.mod_lt _ (by decide)⟩
theorem zOf_bij (c : Dev nD) : Function.Bijective (zOf c) := by revert c; decide +kernel

variable {A : Glob} {D : Dev nD → Ins Ideal} {σ : Fin 16 → Fin 16 → Fin 16 → ℕ → ℝ}

theorem max_real {x y : EReal} (hx : ∃ r : ℝ, x = r) (hy : ∃ r : ℝ, y = r) : ∃ r : ℝ, max x y = r := by
  rcases max_choice x y with e | e <;> rw [e] <;> assumption

/-- The place of an entry of a page of part `i`: its row and its page's place. -/
abbrev Pl := Fin 16 × Fin 128
/-- The score of a place of part `i`. -/
def sAt (σ : Fin 16 → Fin 16 → Fin 16 → ℕ → ℝ) (c : Dev nD) (b hh : Fin 16) (i : Fin 4) (x : Pl) : ℝ := σ b hh x.1 (128 * (zOf c i).val + x.2.val)
/-- How often the table names the page of a place of part `i`. -/
def tAt (A : Glob) (c : Dev nD) (b : Fin 16) (i : Fin 4) (x : Pl) : ℝ := times A.bt A.ln (zOf c i).val b x.2
/-- The value of a place of part `i`. -/
def vAt (A : Glob) (c : Dev nD) (hh : Fin 16) (d : Fin 64) (i : Fin 4) (x : Pl) : EReal := A.v (128 * (zOf c i).val + x.2.val) x.1 hh d

theorem merged_closed (S : Staged A D) (hσ : Scores A σ) (c : Dev nD) (h : Fin 4) (b : Fin 16) (u : Fin 1) (d : Fin 64)
    (hW : 0 < ∑ i, ∑ x, tAt A c b i x * Real.exp (sAt σ c b (headOf c h) i x)) :
    (merged (fourOf D (zs c)) (ix4 u h b d) : EReal)
      = ∑ i, ∑ x, ((tAt A c b i x * Real.exp (sAt σ c b (headOf c h) i x) / (∑ i, ∑ x, tAt A c b i x * Real.exp (sAt σ c b (headOf c h) i x)) : ℝ) : EReal)
          * vAt A c (headOf c h) d i x := by
  have hh : ∀ i, headOf (zs c i) h = headOf c h := fun i => Fin.ext (by
    show 4 * ((zs c i).val / 4) + h.val = 4 * (c.val / 4) + h.val
    rw [zs_group])
  have dev := fun i => device_at (zs c i) (D (zs c i)) h b (fun k p => sAt σ c b (headOf c h) i (k, p)) (fun k p => by
    have hp : 128 * (zOf c i).val + p.val < 512 := by have := p.isLt; have := (zOf c i).isLt; omega
    refine Eq.trans ?_ (hσ b (headOf c h) k _ hp)
    refine congrArg (fun z : EReal => z * scale) (Finset.sum_congr rfl fun d _ => ?_)
    rw [S.q, S.k, hh]; rfl)
  choose m hm hl ho using dev
  have hmx : ∃ r : ℝ, mxOf (fourOf D (zs c)) h b = r := by
    unfold mxOf
    have r : ∀ i, ∃ r : ℝ, mOf (fourOf D (zs c)) h b i = r := fun i => ⟨m i, (mOf_four D (zs c) h b i).trans (hm i)⟩
    exact max_real (max_real (max_real (r 0) (r 1)) (r 2)) (r 3)
  obtain ⟨M, hM⟩ := hmx
  have he : ∀ i, eOf (fourOf D (zs c)) h b i = ((Real.exp (m i - M) : ℝ) : EReal) := fun i => by
    unfold eOf
    rw [mOf_four, hm, hM, ← EReal.coe_sub, Ideal.exp_coe]
  have hnum : ∑ i, oOf (fourOf D (zs c)) h b d i * eOf (fourOf D (zs c)) h b i
      = ∑ i, (∑ x, ((Real.exp (sAt σ c b (headOf c h) i x - m i) * tAt A c b i x : ℝ) : EReal) * vAt A c (headOf c h) d i x) * ((Real.exp (m i - M) : ℝ) : EReal) := by
    refine Finset.sum_congr rfl fun i _ => ?_
    rw [he, oOf_four, ho]
    refine congrArg (fun z : EReal => z * ((Real.exp (m i - M) : ℝ) : EReal)) (Finset.sum_congr rfl fun x _ => ?_)
    rw [S.v, S.bt, S.ln, hh]; rfl
  have hden : ∑ i, lOf (fourOf D (zs c)) h b i * eOf (fourOf D (zs c)) h b i
      = ((∑ i, (∑ x, Real.exp (sAt σ c b (headOf c h) i x - m i) * tAt A c b i x) * Real.exp (m i - M) : ℝ) : EReal) := by
    rw [coe_sum]
    refine Finset.sum_congr rfl fun i _ => ?_
    rw [he, lOf_four, hl, S.bt, S.ln, EReal.coe_mul]; rfl
  have key := merge m M (sAt σ c b (headOf c h)) (tAt A c b) (fun i x => times_nonneg _ _ _ _ _) (vAt A c (headOf c h) d) hW
  exact (merged_at _ h b u d).trans ((congrArg₂ Ideal.div hnum hden).trans key)

/-! ## By the table's entries -/

/-- Entry `j` of sequence `b` is within its length. -/
def live (A : Glob) (b : Fin 16) (j : Fin 128) : Prop := (j.val : ℤ) < (A.ln (ix2 b 0) : BitVec 32).toInt
/-- The page entry `j` of sequence `b` names. -/
def page (A : Glob) (b : Fin 16) (j : Fin 128) : ℕ := (A.bt (ix2 b j) : BitVec 32).toNat
open Classical in
/-- The sum of the weights of sequence `b`, head `hh`. -/
def total (A : Glob) (σ : Fin 16 → Fin 16 → Fin 16 → ℕ → ℝ) (b hh : Fin 16) : ℝ :=
  ∑ j : Fin 128, if live A b j then ∑ k : Fin 16, Real.exp (σ b hh k (page A b j)) else 0
open Classical in
/-- The attention of sequence `b`, head `hh`, at lane `d`. -/
def attn (A : Glob) (σ : Fin 16 → Fin 16 → Fin 16 → ℕ → ℝ) (b hh : Fin 16) (d : Fin 64) : EReal :=
  ∑ j : Fin 128, if live A b j then ∑ k : Fin 16, ((Real.exp (σ b hh k (page A b j)) / total A σ b hh : ℝ) : EReal) * A.v (page A b j) k hh d else 0

theorem total_eq (hpg : ∀ b j, live A b j → page A b j < 512) (c : Dev nD) (b hh : Fin 16) :
    ∑ i, ∑ x, tAt A c b i x * Real.exp (sAt σ c b hh i x) = total A σ b hh := by
  classical
  unfold total
  rw [← by_pages (live A b) (page A b) (hpg b) (zOf c) (zOf_bij c) (fun pg => ∑ k : Fin 16, Real.exp (σ b hh k pg))]
  refine Finset.sum_congr rfl fun i _ => ?_
  rw [Fintype.sum_prod_type_right]
  refine Finset.sum_congr rfl fun p _ => ?_
  show ∑ k : Fin 16, times A.bt A.ln (zOf c i).val b p * Real.exp (σ b hh k (128 * (zOf c i).val + p.val)) = _
  rw [← Finset.mul_sum]
  unfold times
  rw [Finset.sum_mul]
  refine Finset.sum_congr rfl fun j _ => ?_
  rw [ite_mul, one_mul, zero_mul]
  exact if_congr Iff.rfl rfl rfl

theorem attn_eq (hpg : ∀ b j, live A b j → page A b j < 512) (c : Dev nD) (b hh : Fin 16) (d : Fin 64) :
    ∑ i, ∑ x, ((tAt A c b i x * Real.exp (sAt σ c b hh i x) / total A σ b hh : ℝ) : EReal) * vAt A c hh d i x = attn A σ b hh d := by
  classical
  have ht : 0 ≤ total A σ b hh := Finset.sum_nonneg fun j _ => by
    split_ifs
    · exact Finset.sum_nonneg fun k _ => (Real.exp_pos _).le
    · exact le_rfl
  unfold attn
  rw [← by_pages (live A b) (page A b) (hpg b) (zOf c) (zOf_bij c) (fun pg => ∑ k : Fin 16, ((Real.exp (σ b hh k pg) / total A σ b hh : ℝ) : EReal) * A.v pg k hh d)]
  refine Finset.sum_congr rfl fun i _ => ?_
  rw [Fintype.sum_prod_type_right]
  refine Finset.sum_congr rfl fun p _ => ?_
  have e : ∀ k : Fin 16, ((times A.bt A.ln (zOf c i).val b p * Real.exp (σ b hh k (128 * (zOf c i).val + p.val)) / total A σ b hh : ℝ) : EReal)
          * A.v (128 * (zOf c i).val + p.val) k hh d
      = ∑ j : Fin 128, if page A b j = 128 * (zOf c i).val + p.val ∧ live A b j
          then ((Real.exp (σ b hh k (128 * (zOf c i).val + p.val)) / total A σ b hh : ℝ) : EReal) * A.v (128 * (zOf c i).val + p.val) k hh d else 0 := by
    intro k
    unfold times
    rw [mul_div_assoc, Finset.sum_mul, sum_mul_nn]
    · refine Finset.sum_congr rfl fun j _ => ?_
      rw [ite_mul, one_mul, zero_mul, apply_ite (fun z : ℝ => (z : EReal)), ite_mul, EReal.coe_zero, zero_mul]
      exact if_congr Iff.rfl rfl rfl
    · intro j
      refine mul_nonneg (by split_ifs <;> norm_num) (div_nonneg (Real.exp_pos _).le ht)
  refine (Finset.sum_congr rfl fun k _ => e k).trans ?_
  rw [Finset.sum_comm]
  refine Finset.sum_congr rfl fun j _ => ?_
  split_ifs
  · rfl
  · exact Finset.sum_const_zero

theorem total_pos (b hh : Fin 16) (j : Fin 128) (hj : live A b j) : 0 < total A σ b hh := by
  classical
  refine Finset.sum_pos' (fun j _ => ?_) ⟨j, Finset.mem_univ _, ?_⟩
  · split_ifs
    · exact Finset.sum_nonneg fun k _ => (Real.exp_pos _).le
    · exact le_rfl
  · rw [if_pos hj]
    exact Finset.sum_pos (fun k _ => Real.exp_pos _) ⟨0, Finset.mem_univ _⟩

/-- The kernel's result is the attention. -/
theorem out_at (S : Staged A D) (hσ : Scores A σ) (hpg : ∀ b j, live A b j → page A b j < 512) (hl : ∀ b, ∃ j, live A b j)
    (c : Dev nD) (b : Fin 16) (u : Fin 1) (hh : Fin 16) (d : Fin 64) : (out D c (ix4 b u hh d) : EReal) = attn A σ b hh d := by
  obtain ⟨k, hk⟩ := xs_onto c ⟨hh.val / 4, by have := hh.isLt; omega⟩
  have hk' : (xs c k).val / 4 = hh.val / 4 := hk
  have e1 : out D c (ix4 b u hh d) = merged (fourOf D (zs (xs c k))) (ix4 0 ⟨hh.val % 4, Nat.mod_lt _ (by decide)⟩ b d) := by
    unfold out k0_pay2
    refine (cast_abc_a1bc _ _ b u hh d).trans ?_
    refine (transpose_apply _ _ _ (ix3 b hh d) (ix3 hh b d) (fun a => match a with | ⟨0, _⟩ => rfl | ⟨1, _⟩ => rfl | ⟨2, _⟩ => rfl)).trans ?_
    refine (resOf_at c _ _ (ix3 hh b d) k hk').trans ?_
    have ei : inGroup (ix3 hh b d) = ix3 ⟨hh.val % 4, Nat.mod_lt _ (by decide)⟩ b d := by
      funext a; match a with | ⟨0, _⟩ => rfl | ⟨1, _⟩ => rfl | ⟨2, _⟩ => rfl
    rw [ei]
    have hd : ∀ (k : Fin 4) (x : Vec Ideal S1x4x16x64 .f32) (h : Fin 4), heads k x (ix3 h b d) = x (ix4 0 h b d) := by
      intro k x h
      have P : shapeCast S4x16x64 (shapeCast S4x16x64 x shapeCasts_S1x4x16x64_S4x16x64) shapeCasts_S4x16x64_S4x16x64 (ix3 h b d) = x (ix4 0 h b d) :=
        (cast_self _ _ _).trans (shapeCast_1abc_abc_apply _ _ _ _ _)
      match k with
      | 0 => exact P
      | 1 => exact P
      | 2 => exact P
      | 3 => exact P
    exact hd k _ _
  have e2 : headOf (xs c k) ⟨hh.val % 4, Nat.mod_lt _ (by decide)⟩ = hh := Fin.ext (by
    show 4 * ((xs c k).val / 4) + hh.val % 4 = hh.val
    rw [hk']; omega)
  obtain ⟨j, hj⟩ := hl b
  rw [e1, merged_closed S hσ, e2, total_eq hpg, attn_eq hpg]
  rw [e2, total_eq hpg]
  exact total_pos b hh j hj

end Cert.PagedProof
end
-- ==== Proof.Region.lean ====
module

public import proofs.«01_k».proof.Proof.Whole

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
/-! # The region: its proof data and its record -/

local notation "ℝ𝕊" => Pipeline.RegionSeg (pcfgs (F := F)) adm

/-- Twelve resources, one for each counter of the copies. -/
def grp (Ψ : Fin 4 → Fin 3 → sProp 𝕄) : sProp 𝕄 :=
  iprop((Ψ 0 0 ∗ Ψ 0 1 ∗ Ψ 0 2) ∗ (Ψ 1 0 ∗ Ψ 1 1 ∗ Ψ 1 2) ∗ (Ψ 2 0 ∗ Ψ 2 1 ∗ Ψ 2 2) ∗ (Ψ 3 0 ∗ Ψ 3 1 ∗ Ψ 3 2))

theorem bigSep12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)] (by decide) (by decide) Φ

theorem grp_of (Φ : Fin 12 → sProp 𝕄) : bigSep Finset.univ Φ ⊢ grp (fun t j => Φ (kj t j)) := by
  rw [bigSep12]; unfold grp
  show iprop(Φ 0 ∗ Φ 1 ∗ Φ 2 ∗ Φ 3 ∗ Φ 4 ∗ Φ 5 ∗ Φ 6 ∗ Φ 7 ∗ Φ 8 ∗ Φ 9 ∗ Φ 10 ∗ Φ 11) ⊢ iprop((Φ 0 ∗ Φ 1 ∗ Φ 2) ∗ (Φ 3 ∗ Φ 4 ∗ Φ 5) ∗ (Φ 6 ∗ Φ 7 ∗ Φ 8) ∗ (Φ 9 ∗ Φ 10 ∗ Φ 11))
  iintro ⟨H00, H01, H02, H10, H11, H12, H20, H21, H22, H30, H31, H32⟩
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20 H21 H22]
  · isplitl [H20]; · iexact H20
    isplitl [H21]; · iexact H21
    iexact H22
  isplitl [H30]; · iexact H30
  isplitl [H31]; · iexact H31
  iexact H32
theorem of_grp (Φ : Fin 12 → sProp 𝕄) : grp (fun t j => Φ (kj t j)) ⊢ bigSep Finset.univ Φ := by
  rw [bigSep12]; unfold grp
  show iprop((Φ 0 ∗ Φ 1 ∗ Φ 2) ∗ (Φ 3 ∗ Φ 4 ∗ Φ 5) ∗ (Φ 6 ∗ Φ 7 ∗ Φ 8) ∗ (Φ 9 ∗ Φ 10 ∗ Φ 11)) ⊢ iprop(Φ 0 ∗ Φ 1 ∗ Φ 2 ∗ Φ 3 ∗ Φ 4 ∗ Φ 5 ∗ Φ 6 ∗ Φ 7 ∗ Φ 8 ∗ Φ 9 ∗ Φ 10 ∗ Φ 11)
  iintro ⟨⟨H00, H01, H02⟩, ⟨H10, H11, H12⟩, ⟨H20, H21, H22⟩, ⟨H30, H31, H32⟩⟩
  isplitl [H00]; · iexact H00
  isplitl [H01]; · iexact H01
  isplitl [H02]; · iexact H02
  isplitl [H10]; · iexact H10
  isplitl [H11]; · iexact H11
  isplitl [H12]; · iexact H12
  isplitl [H20]; · iexact H20
  isplitl [H21]; · iexact H21
  isplitl [H22]; · iexact H22
  isplitl [H30]; · iexact H30
  isplitl [H31]; · iexact H31
  iexact H32

theorem own_grp (c : Dev nD) : (Pipeline.ownSems0 osem c : sProp 𝕄) ⊢ grp (fun t j => semVal (dcell t j c) 0) := by
  unfold Pipeline.ownSems0
  exact grp_of (fun k => semVal ((c : Thread nD τ), osem k) 0)
theorem grp_own (c : Dev nD) : grp (fun t j => (semVal (dcell t j c) 0 : sProp 𝕄)) ⊢ Pipeline.ownSems0 osem c := by
  unfold Pipeline.ownSems0
  exact of_grp (fun k => semVal ((c : Thread nD τ), osem k) 0)

section Cells
variable (D : Dev nD → Ins F) (κ : GSem nD τ sig → ℕ)

theorem open_one (c : Dev nD) (t : Fin 4) (j : Fin 3) :
    iprop(records (valsOf D) κ ∗ openTok ER (dcell t j c) ∗ semVal (dcell t j c) 0) ⊢ (|={Set.univ}=> opn t j c : sProp 𝕄) := by
  iintro ⟨#HR, Ho, Hs⟩
  unfold opn
  iapply (Rounds.cell_open ER (Rd (valsOf D)) (g := dcell t j c) (Set.mem_univ (κ (dcell t j c))))
  isplitr; · iapply (inv_at (valsOf D) κ (dcell_mem t j c)); iexact HR
  isplitl [Ho] <;> iassumption

theorem open_all (c : Dev nD) : iprop(records (valsOf D) κ ∗ grp (fun t j => openTok ER (dcell t j c)) ∗ grp (fun t j => semVal (dcell t j c) 0)) ⊢ (|={Set.univ}=> opens c : sProp 𝕄) := by
  unfold grp opens
  iintro ⟨#HR, ⟨⟨A00, A01, A02⟩, ⟨A10, A11, A12⟩, ⟨A20, A21, A22⟩, ⟨A30, A31, A32⟩⟩, ⟨⟨B00, B01, B02⟩, ⟨B10, B11, B12⟩, ⟨B20, B21, B22⟩, ⟨B30, B31, B32⟩⟩⟩
  imod (open_one D κ c 0 0) $$ [A00 B00] with H00
  · isplitr; · iexact HR
    isplitl [A00]; · iexact A00
    iexact B00
  imod (open_one D κ c 0 1) $$ [A01 B01] with H01
  · isplitr; · iexact HR
    isplitl [A01]; · iexact A01
    iexact B01
  imod (open_one D κ c 0 2) $$ [A02 B02] with H02
  · isplitr; · iexact HR
    isplitl [A02]; · iexact A02
    iexact B02
  imod (open_one D κ c 1 0) $$ [A10 B10] with H10
  · isplitr; · iexact HR
    isplitl [A10]; · iexact A10
    iexact B10
  imod (open_one D κ c 1 1) $$ [A11 B11] with H11
  · isplitr; · iexact HR
    isplitl [A11]; · iexact A11
    iexact B11
  imod (open_one D κ c 1 2) $$ [A12 B12] with H12
  · isplitr; · iexact HR
    isplitl [A12]; · iexact A12
    iexact B12
  imod (open_one D κ c 2 0) $$ [A20 B20] with H20
  · isplitr; · iexact HR
    isplitl [A20]; · iexact A20
    iexact B20
  imod (open_one D κ c 2 1) $$ [A21 B21] with H21
  · isplitr; · iexact HR
    isplitl [A21]; · iexact A21
    iexact B21
  imod (open_one D κ c 2 2) $$ [A22 B22] with H22
  · isplitr; · iexact HR
    isplitl [A22]; · iexact A22
    iexact B22
  imod (open_one D κ c 3 0) $$ [A30 B30] with H30
  · isplitr; · iexact HR
    isplitl [A30]; · iexact A30
    iexact B30
  imod (open_one D κ c 3 1) $$ [A31 B31] with H31
  · isplitr; · iexact HR
    isplitl [A31]; · iexact A31
    iexact B31
  imod (open_one D κ c 3 2) $$ [A32 B32] with H32
  · isplitr; · iexact HR
    isplitl [A32]; · iexact A32
    iexact B32
  imodintro
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20 H21 H22]
  · isplitl [H20]; · iexact H20
    isplitl [H21]; · iexact H21
    iexact H22
  isplitl [H30]; · iexact H30
  isplitl [H31]; · iexact H31
  iexact H32

theorem close_all (c : Dev nD) : iprop(records (valsOf D) κ ∗ doneCells c) ⊢ (|={Set.univ}=> grp (fun t j => semVal (dcell t j c) 0) : sProp 𝕄) := by
  unfold grp doneCells
  iintro ⟨#HR, ⟨⟨A00, A01, A02⟩, ⟨A10, A11, A12⟩, ⟨A20, A21, A22⟩, ⟨A30, A31, A32⟩⟩⟩
  imod (close_d (valsOf D) κ c 0 0) $$ [A00] with H00
  · isplitr; · iexact HR
    iexact A00
  imod (close_d (valsOf D) κ c 0 1) $$ [A01] with H01
  · isplitr; · iexact HR
    iexact A01
  imod (close_d (valsOf D) κ c 0 2) $$ [A02] with H02
  · isplitr; · iexact HR
    iexact A02
  imod (close_d (valsOf D) κ c 1 0) $$ [A10] with H10
  · isplitr; · iexact HR
    iexact A10
  imod (close_d (valsOf D) κ c 1 1) $$ [A11] with H11
  · isplitr; · iexact HR
    iexact A11
  imod (close_d (valsOf D) κ c 1 2) $$ [A12] with H12
  · isplitr; · iexact HR
    iexact A12
  imod (close_d (valsOf D) κ c 2 0) $$ [A20] with H20
  · isplitr; · iexact HR
    iexact A20
  imod (close_d (valsOf D) κ c 2 1) $$ [A21] with H21
  · isplitr; · iexact HR
    iexact A21
  imod (close_d (valsOf D) κ c 2 2) $$ [A22] with H22
  · isplitr; · iexact HR
    iexact A22
  imod (close_d (valsOf D) κ c 3 0) $$ [A30] with H30
  · isplitr; · iexact HR
    iexact A30
  imod (close_d (valsOf D) κ c 3 1) $$ [A31] with H31
  · isplitr; · iexact HR
    iexact A31
  imod (close_d (valsOf D) κ c 3 2) $$ [A32] with H32
  · isplitr; · iexact HR
    iexact A32
  imodintro
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20 H21 H22]
  · isplitl [H20]; · iexact H20
    isplitl [H21]; · iexact H21
    iexact H22
  isplitl [H30]; · iexact H30
  isplitl [H31]; · iexact H31
  iexact H32

end Cells

variable (V : Dev nD → Valuation τ sig (Elt F))

/-- What the kernel on device `c` is given. -/
abbrev insAt (c : Dev nD) : Ins F :=
  ⟨V c (Proc.devRef .tc main_arg0), V c (Proc.devRef .tc main_v17), V c (Proc.devRef .tc main_v22), V c (Proc.devRef .tc main_arg3), V c (Proc.devRef .tc main_v23)⟩

/-- Device `c`'s buffers at the end: the result in its place. -/
abbrev Vend (c : Dev nD) : Valuation τ sig (Elt F) := Function.update (V c) (Proc.devRef .tc main_v24) (out (insAt V) c)

/-- What the launch leaves with device `c`: its barrier's position, the rights to open its copies' counters, and its tokens. -/
def linear (c : Dev nD) : sProp 𝕄 :=
  iprop(atPos ER (bcell c) 0 ∅ 0 ∗ grp (fun t j => openTok ER (dcell t j c)) ∗ toks c)

def Tk (c : Dev nD) : sProp 𝕄 := iprop((∃ κ, records (valsOf (insAt V)) κ) ∗ linear c ∗ creds c)
def Xk (c : Dev nD) : sProp 𝕄 :=
  iprop((∃ κ, records (valsOf (insAt V)) κ) ∗ levAts L lv ∗ creds c ∗ atPos ER (bcell c) 0 ∅ 0 ∗ toks c ∗ opens c)
def Yk (c : Dev nD) : sProp 𝕄 := semVal (bcell c) 0

def Φ₀ (c : Dev nD) : sProp 𝕄 := iprop(Xk V c ∗ scr (F := F) c ∗ ∃ r, prngReg c r)
def Φ₁ (c : Dev nD) : sProp 𝕄 := iprop((Yk c ∗ Pipeline.ownSems0 osem c) ∗ scr (F := F) c ∗ ∃ r, prngReg c r)

def pdats (_ : Fin 1) (c : Dev nD) : Dat τ (Elt F) Unit ℕ UU ℕ cfg0 c where
  A w := V c (Proc.devRef .tc (Pipeline.arrRef spec0 w))
  after w _ := match w with
    | ⟨0, _⟩ => (insAt V c).q
    | ⟨1, _⟩ => (insAt V c).k
    | ⟨2, _⟩ => (insAt V c).v
    | ⟨3, _⟩ => (insAt V c).bt
    | ⟨4, _⟩ => (insAt V c).ln
    | ⟨5, _⟩ => out (insAt V) c
  Φ t := match t with
    | ⟨0, _⟩ => Φ₀ V c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ bAt c b f) := by
  unfold owns; simp only [Memref.view_whole, View.read_whole, View.set_whole]

theorem stg_intro (c : Dev nD) (b : Ref sig .tc) (X : b.ty.Contents (Elt F)) : bAt c b X ⊢ (iprop(∃ f, ⌜f = X⌝ ∗ bAt c b f) : sProp 𝕄) := by
  iintro H; iexists X
  isplitr; · ipureintro; rfl
  iexact H

/-- A staging buffer known to hold `X`. -/
abbrev stg (c : Dev nD) (b : Ref sig .tc) (X : b.ty.Contents (Elt F)) : sProp 𝕄 := owns (Ix := Unit) (Name := ℕ) (U := UU) (Lvl := ℕ) (c : Thread nD τ) (Memref.whole b) fullShare X

theorem off_0 : (fun a => (win0_0.index t0_0) a * main_arg0.ty.shape.size a) = fun _ => 0 := funext fun a => by fin_cases a <;> decide
theorem before_0 (c : Dev nD) (d) : (pdats V 0 c).before (⟨0, by decide⟩ : Fin 6) t0_0 d = (insAt V c).q := by
  unfold Dat.before; rw [if_pos (fetch0_0 t0_0)]
  exact Memref.read_access_unit_zero (Elt F) main_arg0 off_0 (fun a => by fin_cases a <;> decide) (insAt V c).q

theorem off_1 : (fun a => (win0_1.index t0_0) a * main_v17.ty.shape.size a) = fun _ => 0 := funext fun a => by fin_cases a <;> decide
theorem before_1 (c : Dev nD) (d) : (pdats V 0 c).before (⟨1, by decide⟩ : Fin 6) t0_0 d = (insAt V c).k := by
  unfold Dat.before; rw [if_pos (fetch0_1 t0_0)]
  exact Memref.read_access_unit_zero (Elt F) main_v17 off_1 (fun a => by fin_cases a <;> decide) (insAt V c).k

theorem off_2 : (fun a => (win0_2.index t0_0) a * main_v22.ty.shape.size a) = fun _ => 0 := funext fun a => by fin_cases a <;> decide
theorem before_2 (c : Dev nD) (d) : (pdats V 0 c).before (⟨2, by decide⟩ : Fin 6) t0_0 d = (insAt V c).v := by
  unfold Dat.before; rw [if_pos (fetch0_2 t0_0)]
  exact Memref.read_access_unit_zero (Elt F) main_v22 off_2 (fun a => by fin_cases a <;> decide) (insAt V c).v

theorem off_3 : (fun a => (win0_3.index t0_0) a * main_arg3.ty.shape.size a) = fun _ => 0 := funext fun a => by fin_cases a <;> decide
theorem before_3 (c : Dev nD) (d) : (pdats V 0 c).before (⟨3, by decide⟩ : Fin 6) t0_0 d = (insAt V c).bt := by
  unfold Dat.before; rw [if_pos (fetch0_3 t0_0)]
  exact Memref.read_access_unit_zero (Elt F) main_arg3 off_3 (fun a => by fin_cases a <;> decide) (insAt V c).bt

theorem off_4 : (fun a => (win0_4.index t0_0) a * main_v23.ty.shape.size a) = fun _ => 0 := funext fun a => by fin_cases a <;> decide
theorem before_4 (c : Dev nD) (d) : (pdats V 0 c).before (⟨4, by decide⟩ : Fin 6) t0_0 d = (insAt V c).ln := by
  unfold Dat.before; rw [if_pos (fetch0_4 t0_0)]
  exact Memref.read_access_unit_zero (Elt F) main_v23 off_4 (fun a => by fin_cases a <;> decide) (insAt V c).ln

theorem off_5 : (fun a => (win0_5.index t0_0) a * main_v24.ty.shape.size a) = fun _ => 0 := funext fun a => by fin_cases a <;> decide

theorem owed_first (c : Dev nD) : (pdats V 0 c).owed t0_0.castSucc = O₀ c := rfl
theorem owed_last (c : Dev nD) : (pdats V 0 c).owed t0_0.succ = 0 := rfl

def bodyPre (c : Dev nD) : sProp 𝕄 :=
  iprop(Φ₀ V c ∗ (pdats V 0 c).owesAt () t0_0.castSucc
    ∗ (∃ d, stg c cc0_stg0_0 ((pdats V 0 c).before (⟨0, by decide⟩ : Fin 6) t0_0 d))
    ∗ (∃ d, stg c cc0_stg1_0 ((pdats V 0 c).before (⟨1, by decide⟩ : Fin 6) t0_0 d))
    ∗ (∃ d, stg c cc0_stg2_0 ((pdats V 0 c).before (⟨2, by decide⟩ : Fin 6) t0_0 d))
    ∗ (∃ d, stg c cc0_stg3_0 ((pdats V 0 c).before (⟨3, by decide⟩ : Fin 6) t0_0 d))
    ∗ (∃ d, stg c cc0_stg4_0 ((pdats V 0 c).before (⟨4, by decide⟩ : Fin 6) t0_0 d))
    ∗ (∃ d, stg c cc0_stg5_0 ((pdats V 0 c).before (⟨5, by decide⟩ : Fin 6) t0_0 d)))
def bodyPost (c : Dev nD) : sProp 𝕄 :=
  iprop(Φ₁ (F := F) c ∗ (pdats V 0 c).owesAt () t0_0.succ
    ∗ stg c cc0_stg0_0 (insAt V c).q ∗ stg c cc0_stg1_0 (insAt V c).k ∗ stg c cc0_stg2_0 (insAt V c).v
    ∗ stg c cc0_stg3_0 (insAt V c).bt ∗ stg c cc0_stg4_0 (insAt V c).ln ∗ stg c cc0_stg5_0 (out (insAt V) c))

theorem body_sound (c : Dev nD) : bodyPre V c ⊢ WP c (pBody (F := F)) (fun _ => bodyPost V c) := by
  refine BIBase.Entails.trans ?_ (wp_fupd frame (wpE (defs₀ (F := F)) 𝒱₀ (c : Thread nD τ) none) Set.univ (pBody (F := F)) (fun _ => bodyPost V c))
  unfold bodyPre bodyPost Φ₀ Xk stg
  simp only [owns_whole]
  iintro ⟨⟨⟨⟨%κ, #HR⟩, #Hl, Hcr, Hat, Htk, Hop⟩, Hscr, Hp⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [before_0] at e0; rw [before_1] at e1; rw [before_2] at e2; rw [before_3] at e3; rw [before_4] at e4
  subst e0 e1 e2 e3 e4
  iapply (body_run (insAt V) κ c)
  isplitr; · iexact HR
  isplitr; · iexact Hl
  isplitl [HO]
  · unfold Dat.owesAt Pipeline.owesWithin ow
    rw [owed_first]
    icases HO with ⟨%W, -, HO⟩; iexists W; iexact HO
  isplitl [Hcr]; · iexact Hcr
  isplitl [Hat]; · iexact Hat
  isplitl [Htk]; · iexact Htk
  isplitl [Hop]; · iexact Hop
  isplitl [Hscr]; · iexact Hscr
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  iintro ⟨HO, Hat, Hd, Hscr, Hin, Hout⟩
  imod (close_b (valsOf (insAt V)) κ c) $$ [Hat] with Hb
  · isplitr; · iexact HR
    iexact Hat
  imod (close_all (insAt V) κ c) $$ [Hd] with Hs
  · isplitr; · iexact HR
    iexact Hd
  imodintro
  unfold Φ₁ Yk inputs
  icases Hin with ⟨H0, H1, H2, H3, H4⟩
  isplitl [Hb Hs Hscr Hp]
  · isplitl [Hb Hs]
    · isplitl [Hb]; · iexact Hb
      iapply (grp_own c); iexact Hs
    isplitl [Hscr]; · iexact Hscr
    iexact Hp
  isplitl [HO]
  · unfold Dat.owesAt Pipeline.owesWithin ow
    rw [owed_last]
    icases HO with ⟨%W, HO⟩; iexists W
    isplitr; · ipureintro; exact fun _ _ => Or.inl trivial
    iexact HO
  isplitl [H0]; · iapply stg_intro; iexact H0
  isplitl [H1]; · iapply stg_intro; iexact H1
  isplitl [H2]; · iapply stg_intro; iexact H2
  isplitl [H3]; · iapply stg_intro; iexact H3
  isplitl [H4]; · iapply stg_intro; iexact H4
  iapply stg_intro; iexact Hout

theorem body_ok (c : Dev nD) : BodyObligation (pdats V 0 c) (defs₀ (F := F)) 𝒱₀ () Set.univ := fun t => by
  rw [fin_N0 t]
  rw [bigSep_W0, bigSep_W0]
  exact body_sound V c

theorem hopen (c : Dev nD) : iprop(Tk V c ∗ Pipeline.ownSems0 osem c ∗ levAts L lv) ⊢ (|={Set.univ}=> Xk V c : sProp 𝕄) := by
  unfold Tk Xk linear
  iintro ⟨⟨⟨%κ, #HR⟩, ⟨Hat, Hop, Htk⟩, Hcr⟩, Hos, #Hl⟩
  ihave Hos := (own_grp c) $$ Hos
  imod (open_all (insAt V) κ c) $$ [Hop Hos] with Ho
  · isplitr; · iexact HR
    isplitl [Hop]; · iexact Hop
    iexact Hos
  imodintro
  isplitr; · iexists κ; iexact HR
  isplitr; · iexact Hl
  isplitl [Hcr]; · iexact Hcr
  isplitl [Hat]; · iexact Hat
  isplitl [Htk]; · iexact Htk
  iexact Ho

theorem hin (c : Dev nD) : iprop(Pipeline.scopedRest (Pipeline.pin (pcfgs (F := F)) adm 0).spec c ∗ (∃ r, prngReg c r) ∗ StableHlo.held (c.tc : Thread nD τ) ∅ (V c) ∗ Xk V c)
    ⊢ (pdats V 0 c).Φ 0 := by
  rw [show (pdats V 0 c).Φ 0 = Φ₀ V c from rfl,
    show (Pipeline.scopedRest (Ix := Unit) (Name := ℕ) (U := UU) (Lvl := ℕ) (Val := Elt F) (Pipeline.pin (pcfgs (F := F)) adm 0).spec c : sProp 𝕄) = scr (F := F) c from scopedRest0_eq c]
  unfold Φ₀
  iintro ⟨Hs, Hp, -, HX⟩
  isplitl [HX]; · iexact HX
  isplitl [Hs]; · iexact Hs
  iexact Hp

theorem held_none (c : Dev nD) (X : Valuation τ sig (Elt F)) : (StableHlo.held (c.tc : Thread nD τ) ∅ X : sProp 𝕄) = BI.emp := by
  unfold StableHlo.held; exact BI.bigSep_empty

theorem hout (c : Dev nD) : (pdats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vend V c) ∗ Pipeline.ownSems0 osem c ∗ Yk c) := by
  rw [show (pdats V 0 c).Φ (Fin.last _) = Φ₁ (F := F) c from rfl, held_none,
    show (Pipeline.scopedRest (Ix := Unit) (Name := ℕ) (U := UU) (Lvl := ℕ) (Val := Elt F) (Pipeline.pin (pcfgs (F := F)) adm 0).spec c : sProp 𝕄) = scr (F := F) c from scopedRest0_eq c]
  unfold Φ₁
  iintro ⟨⟨Hb, Ho⟩, Hs, Hp⟩
  isplitl [Hs]; · iexact Hs
  isplitl [Hp]; · iexact Hp
  isplitr; · iempintro
  isplitl [Ho]; · iexact Ho
  iexact Hb

theorem cut (c : Dev nD) (t : Fin ((Pipeline.pin (pcfgs (F := F)) adm 0).N + 1)) (g : GSem nD τ sig) (i : Unit) (h : 0 < (pdats V 0 c).owed t g i) :
    i ∈ L g ∧ (0 : ℕ) < lv g i := by
  have hO : (pdats V 0 c).owed t = O₀ c ∨ (pdats V 0 c).owed t = 0 := by
    obtain ⟨t, ht⟩ := t
    cases t
    · exact .inl rfl
    · exact .inr rfl
  rcases hO with hO | hO
  · rw [hO] at h
    obtain ⟨h1, h2⟩ := above_O₀ c g i h
    exact ⟨by rw [L, if_pos h1]; exact Finset.mem_singleton_self _, h2⟩
  · rw [hO] at h; exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (pdats V 0 c).share w = fullShare := by unfold Dat.share; split <;> rfl

attribute [local irreducible] out in
/-- The result array's contents when the region is done. -/
theorem arr_out (c : Dev nD) : (pdats V 0 c).arrAt (⟨5, by decide⟩ : Fin 6) cfg0.N = out (insAt V) c := by
  refine ((pdats V 0 c).arrAt_succ (⟨5, by decide⟩ : Fin 6) t0_0).trans ?_
  rw [if_pos (flush0_5 t0_0)]
  exact Memref.write_access_unit_zero_univ (Elt F) main_v24 off_5 (fun a => by fin_cases a <;> decide) _ (out (insAt V) c)

theorem hW' (c : Dev nD) (w : Fin 6) :
    (pdats V 0 c).arrAt w (Pipeline.pin (pcfgs (F := F)) adm 0).N = Vend V c (Proc.devRef .tc (Pipeline.arrRef (Pipeline.pin (pcfgs (F := F)) adm 0).spec w)) := by
  have h : ∀ w : Fin 6, (cfg0.win w).isOut = false → (Proc.devRef .tc (Pipeline.arrRef spec0 w) : DevRef τ sig) ≠ Proc.devRef .tc main_v24 →
      (pdats V 0 c).arrAt w cfg0.N = Vend V c (Proc.devRef .tc (Pipeline.arrRef spec0 w)) := fun w hi hn => by
    refine ((pdats V 0 c).arrAt_in w hi _).trans ?_
    show V c (Proc.devRef .tc (Pipeline.arrRef spec0 w)) = Function.update (V c) (Proc.devRef .tc main_v24) (out (insAt V) c) (Proc.devRef .tc (Pipeline.arrRef spec0 w))
    rw [Function.update_of_ne hn]
  fin_cases w
  · exact h 0 rfl (by decide)
  · exact h 1 rfl (by decide)
  · exact h 2 rfl (by decide)
  · exact h 3 rfl (by decide)
  · exact h 4 rfl (by decide)
  · exact (arr_out V c).trans (Function.update_self (Proc.devRef .tc main_v24 : DevRef τ sig) (out (insAt V) c) (V c)).symm

theorem lev_staging : ∀ (w : Fin 6) (s : Fin (win0 w).nbuf), lvS (.dma ((win0 w).sem s)) ≤ 0 := by decide

theorem osemFacts : Pipeline.OwnSemFacts spec0 osem := by decide

/-- The unscoped buffers that are no window's. -/
abbrev Srest : Finset (DevRef τ sig) := Pipeline.ucRefs τ sig \ Pipeline.arrRefs (τ := τ) spec0

set_option backward.isDefEq.respectTransparency.types false in
def reg : ℝ𝕊 (pdats V) () defs₀ 𝒱₀ L lv 0 :=
  Pipeline.RegionSeg.ofTalk (pcfgs (F := F)) adm (pdats V) () defs₀ 𝒱₀ L lv 0 osem osemFacts
    ∅ Srest (Finset.empty_subset _) kitP rfl (fun c => (body_ok V c).loose)
    (fun _ => 0) O₀ (fun c => (zero_add (O₀ c)).symm) (fun c => rfl) (fun _ => rfl) (share_eq V)
    V (Vend V)
    (fun c b hb => Function.update_of_ne (fun e => by
      subst e
      exact (Finset.mem_sdiff.mp (Finset.mem_sdiff.mp hb).1).2 (by decide)) _ _)
    (Tk V) Yk (Xk V) Yk (hopen V) (hin V) (hout V)
    (fun c => by iintro H; imodintro; iexact H)
    (fun _ => 0)
    ⟨fun c w s => by rw [L_tc]; exact Finset.mem_singleton_self _, fun c w s => lev_staging w s, fun c t g i h => cut V c t g i h⟩
    (fun _ => iprop(emp))
    (fun _ _ => rfl) (hW' V)

end Cert.PagedProof
end
-- ==== Proof.Launch.lean ====
module

public import proofs.«01_k».proof.Proof.Region

@[expose] public section
set_option maxRecDepth 16384
noncomputable section
namespace Cert.PagedProof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
/-! # The launch: what every device starts with, and the run of the whole program -/

abbrev Tok (c : Dev nD) (g : SemLoc sig) (d : Fin 6) : sProp 𝕄 := dutyTok ER ((c : Thread nD τ), g) 0 d

/-- The counter and the duty of a device's `k`-th token. -/
def semK (k : Fin 18) : SemLoc sig := if h : k.val < 6 then .reg barS else osem ⟨k.val - 6, by omega⟩
def dutyK (k : Fin 18) : Fin 6 := (![dz (op 0), dz (op 1), dz (op 2), dx 0, dx 1, dx 2, 0, 0, 0, 0, 0, 0, 0, 0, 0, 0, 0, 0] : Fin 18 → Fin 6) k
theorem tok_inj : ∀ k k' : Fin 18, semK k = semK k' → dutyK k = dutyK k' → k = k' := by decide +kernel
def tokEmb : Dev nD × Fin 18 ↪ GSem nD τ sig × ℕ × Fin 6 :=
  ⟨fun ck => (((ck.1 : Thread nD τ), semK ck.2), 0, dutyK ck.2), fun _ _ h =>
    Prod.ext (congrArg (fun g : GSem nD τ sig × ℕ × Fin 6 => g.1.1.1) h)
      (tok_inj _ _ (congrArg (fun g : GSem nD τ sig × ℕ × Fin 6 => g.1.2) h) (congrArg (fun g : GSem nD τ sig × ℕ × Fin 6 => g.2.2) h))⟩
abbrev talkToks : Finset (GSem nD τ sig × ℕ × Fin 6) := Finset.univ.map tokEmb

/-- The tokens of device `c`'s own counters. -/
def toksOwn (c : Dev nD) : sProp 𝕄 :=
  iprop(((dutyTok ER (bcell c) 0 (dz (op 0)) ∗ dutyTok ER (bcell c) 0 (dz (op 1)) ∗ dutyTok ER (bcell c) 0 (dz (op 2))) ∗ (dutyTok ER (bcell c) 0 (dx 0) ∗ dutyTok ER (bcell c) 0 (dx 1) ∗ dutyTok ER (bcell c) 0 (dx 2)))
    ∗ ((dutyTok ER (dcell 0 0 c) 0 0 ∗ dutyTok ER (dcell 0 1 c) 0 0 ∗ dutyTok ER (dcell 0 2 c) 0 0) ∗ (dutyTok ER (dcell 1 0 c) 0 0 ∗ dutyTok ER (dcell 1 1 c) 0 0 ∗ dutyTok ER (dcell 1 2 c) 0 0) ∗ (dutyTok ER (dcell 2 0 c) 0 0 ∗ dutyTok ER (dcell 2 1 c) 0 0 ∗ dutyTok ER (dcell 2 2 c) 0 0) ∗ (dutyTok ER (dcell 3 0 c) 0 0 ∗ dutyTok ER (dcell 3 1 c) 0 0 ∗ dutyTok ER (dcell 3 2 c) 0 0)))

theorem bigSep18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide) Φ

theorem own_toks (c : Dev nD) : (bigSep Finset.univ fun k : Fin 18 => Tok (F := F) c (semK k) (dutyK k)) ⊢ toksOwn c := by
  rw [bigSep18]
  show iprop(dutyTok ER (bcell c) 0 (dz (op 0)) ∗ dutyTok ER (bcell c) 0 (dz (op 1)) ∗ dutyTok ER (bcell c) 0 (dz (op 2)) ∗ dutyTok ER (bcell c) 0 (dx 0) ∗ dutyTok ER (bcell c) 0 (dx 1) ∗ dutyTok ER (bcell c) 0 (dx 2) ∗ dutyTok ER (dcell 0 0 c) 0 0 ∗ dutyTok ER (dcell 0 1 c) 0 0 ∗ dutyTok ER (dcell 0 2 c) 0 0 ∗ dutyTok ER (dcell 1 0 c) 0 0 ∗ dutyTok ER (dcell 1 1 c) 0 0 ∗ dutyTok ER (dcell 1 2 c) 0 0 ∗ dutyTok ER (dcell 2 0 c) 0 0 ∗ dutyTok ER (dcell 2 1 c) 0 0 ∗ dutyTok ER (dcell 2 2 c) 0 0 ∗ dutyTok ER (dcell 3 0 c) 0 0 ∗ dutyTok ER (dcell 3 1 c) 0 0 ∗ dutyTok ER (dcell 3 2 c) 0 0) ⊢ toksOwn c
  unfold toksOwn
  iintro ⟨k0, k1, k2, k3, k4, k5, k6, k7, k8, k9, k10, k11, k12, k13, k14, k15, k16, k17⟩
  isplitl [k0 k1 k2 k3 k4 k5]
  · isplitl [k0 k1 k2]
    · isplitl [k0]; · iexact k0
      isplitl [k1]; · iexact k1
      iexact k2
    isplitl [k3]; · iexact k3
    isplitl [k4]; · iexact k4
    iexact k5
  isplitl [k6 k7 k8]
  · isplitl [k6]; · iexact k6
    isplitl [k7]; · iexact k7
    iexact k8
  isplitl [k9 k10 k11]
  · isplitl [k9]; · iexact k9
    isplitl [k10]; · iexact k10
    iexact k11
  isplitl [k12 k13 k14]
  · isplitl [k12]; · iexact k12
    isplitl [k13]; · iexact k13
    iexact k14
  isplitl [k15]; · iexact k15
  isplitl [k16]; · iexact k16
  iexact k17

/-- Dealing a family among the devices. -/
abbrev Deal (Φ Ψ : Dev nD → sProp 𝕄) : Prop := bigSep Finset.univ Φ ⊢ bigSep Finset.univ Ψ
theorem deal_sep {Φ Ψ Φ' Ψ' : Dev nD → sProp 𝕄} (h : Deal Φ Φ') (h' : Deal Ψ Ψ') :
    Deal (fun c => iprop(Φ c ∗ Ψ c)) (fun c => iprop(Φ' c ∗ Ψ' c)) := by
  unfold Deal; rw [bigSep_sep', bigSep_sep']; exact BIClass.sep_mono h h'
theorem deal_id (Φ : Dev nD → sProp 𝕄) : Deal Φ Φ := BIBase.Entails.rfl
theorem deal_to (e : Dev nD ≃ Dev nD) (Φ : Dev nD → sProp 𝕄) : Deal Φ (fun c => Φ (e c)) := by
  unfold Deal; rw [bigSep_univ_equiv e Φ]
theorem deal3 {Φ₀ Φ₁ Φ₂ Ψ₀ Ψ₁ Ψ₂ : Dev nD → sProp 𝕄} (h₀ : Deal Φ₀ Ψ₀) (h₁ : Deal Φ₁ Ψ₁) (h₂ : Deal Φ₂ Ψ₂) :
    Deal (fun c => iprop(Φ₀ c ∗ Φ₁ c ∗ Φ₂ c)) (fun c => iprop(Ψ₀ c ∗ Ψ₁ c ∗ Ψ₂ c)) := deal_sep h₀ (deal_sep h₁ h₂)

theorem deal_toks : Deal (toksOwn (F := F)) toks := by
  unfold toksOwn toks
  exact deal_sep (deal_sep
      (deal3 (deal_to (zE 0) fun c => dutyTok ER (bcell c) 0 (dz (op 0))) (deal_to (zE 1) fun c => dutyTok ER (bcell c) 0 (dz (op 1))) (deal_to (zE 2) fun c => dutyTok ER (bcell c) 0 (dz (op 2))))
      (deal3 (deal_to (xE 0) fun c => dutyTok ER (bcell c) 0 (dx 0)) (deal_to (xE 1) fun c => dutyTok ER (bcell c) 0 (dx 1)) (deal_to (xE 2) fun c => dutyTok ER (bcell c) 0 (dx 2))))
    (deal_sep (deal_id _) (deal_sep
      (deal3 (deal_to (zE 0) fun c => dutyTok ER (dcell 1 0 c) 0 0) (deal_to (zE 1) fun c => dutyTok ER (dcell 1 1 c) 0 0) (deal_to (zE 2) fun c => dutyTok ER (dcell 1 2 c) 0 0))
      (deal_sep (deal_id _)
      (deal3 (deal_to (xE 0) fun c => dutyTok ER (dcell 3 0 c) 0 0) (deal_to (xE 1) fun c => dutyTok ER (dcell 3 1 c) 0 0) (deal_to (xE 2) fun c => dutyTok ER (dcell 3 2 c) 0 0)))))

/-! ## The credit -/

theorem sum_tal (e : Dev nD ≃ Dev nD) (s s' : SemLoc sig) (n : ℕ) (c : Dev nD) :
    (∑ d : Dev nD, tal ((e d : Thread nD τ), s) n ((c : Thread nD τ), s') ()) = if s' = s then n else 0 := by
  simp only [tallyAt_apply, and_true]
  by_cases h : s' = s
  · subst h
    rw [if_pos rfl, Finset.sum_eq_single (e.symm c)]
    · rw [Equiv.apply_symm_apply, if_pos rfl]
    · intro d _ hd
      rw [if_neg]
      intro h
      exact hd (by rw [Equiv.eq_symm_apply]; exact (congrArg (fun g : GSem nD τ sig => g.1.1) h).symm)
    · intro h; exact absurd (Finset.mem_univ _) h
  · rw [if_neg h]
    exact Finset.sum_eq_zero fun d _ => if_neg fun h' => h (congrArg Prod.snd h')

theorem sum_step (O : Dev nD → CellTallies nD τ sig Unit) (e : Dev nD ≃ Dev nD) (s' : SemLoc sig) (n R : ℕ) (c : Dev nD) (s : SemLoc sig)
    (h : (∑ d : Dev nD, O d ((c : Thread nD τ), s) ()) = R) :
    (∑ d : Dev nD, (O d + tal ((e d : Thread nD τ), s') n) ((c : Thread nD τ), s) ()) = R + if s = s' then n else 0 := by
  simp only [Pi.add_apply, Finsupp.add_apply, Finset.sum_add_distrib]
  rw [h, sum_tal e s' s n c]

/-- What all devices owe to the counter `s` of device `c`. -/
theorem sum_owed (c : Dev nD) (s : SemLoc sig) : (∑ d : Dev nD, O₀ d ((c : Thread nD τ), s) ()) =
    ((((((((((((0 + (if s = .dma (ds 3 2) then N else 0)) + (if s = .dma (ds 3 1) then N else 0)) + (if s = .dma (ds 3 0) then N else 0))
      + (if s = .dma (ds 1 2) then N else 0)) + (if s = .dma (ds 1 1) then N else 0)) + (if s = .dma (ds 1 0) then N else 0))
      + (if s = .reg barS then 1 else 0)) + (if s = .reg barS then 1 else 0)) + (if s = .reg barS then 1 else 0))
      + (if s = .reg barS then 1 else 0)) + (if s = .reg barS then 1 else 0)) + (if s = .reg barS then 1 else 0)) := by
  exact sum_step _ (zE 0) _ _ _ c s (sum_step _ (zE 1) _ _ _ c s (sum_step _ (zE 2) _ _ _ c s (sum_step _ (xE 0) _ _ _ c s (sum_step _ (xE 1) _ _ _ c s (sum_step _ (xE 2) _ _ _ c s
    (sum_step _ (zE 0) _ _ _ c s (sum_step _ (zE 1) _ _ _ c s (sum_step _ (zE 2) _ _ _ c s (sum_step _ (xE 0) _ _ _ c s (sum_step _ (xE 1) _ _ _ c s (sum_step _ (xE 2) _ _ _ c s
    (Finset.sum_eq_zero fun _ _ => rfl))))))))))))

theorem cred_at (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s)) = tal ((c : Thread nD τ), s) n := by
  show tallyOn _ _ = tallyOn _ (Finsupp.single () n); refine congrArg _ (Finsupp.ext fun u => ?_); cases u
  rw [Pipeline.launchCredit_owing, Finsupp.single_eq_same, h]

theorem owed_bar (c : Dev nD) : (∑ d : Dev nD, O₀ d (bcell c) ()) = 6 := by
  rw [sum_owed]
  simp only [if_neg (show ¬ (SemLoc.reg barS : SemLoc sig) = .dma (ds 3 2) by decide), if_neg (show ¬ (SemLoc.reg barS : SemLoc sig) = .dma (ds 3 1) by decide),
    if_neg (show ¬ (SemLoc.reg barS : SemLoc sig) = .dma (ds 3 0) by decide), if_neg (show ¬ (SemLoc.reg barS : SemLoc sig) = .dma (ds 1 2) by decide),
    if_neg (show ¬ (SemLoc.reg barS : SemLoc sig) = .dma (ds 1 1) by decide), if_neg (show ¬ (SemLoc.reg barS : SemLoc sig) = .dma (ds 1 0) by decide), if_true]
theorem ifs : ∀ (k k' : Fin 4) (j j' : Fin 3), ((SemLoc.dma (ds k j) : SemLoc sig) = .dma (ds k' j')) ↔ (k = k' ∧ j = j') := by decide +kernel
theorem owed_dma (c : Dev nD) (k : Fin 4) (hk : k = 1 ∨ k = 3) (j : Fin 3) : (∑ d : Dev nD, O₀ d (dcell k j c) ()) = N := by
  rw [sum_owed]
  have hb : ¬ (SemLoc.dma (ds k j) : SemLoc sig) = .reg barS := by simp
  simp only [ifs, if_neg hb]
  generalize N = n
  rcases hk with rfl | rfl <;> fin_cases j <;> simp

def cellK : Fin 7 ↪ SemLoc sig :=
  ⟨![.reg barS, .dma (ds 1 0), .dma (ds 1 1), .dma (ds 1 2), .dma (ds 3 0), .dma (ds 3 1), .dma (ds 3 2)], by decide +kernel⟩

theorem bigSep7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

theorem cred_intro (c : Dev nD) : (Pipeline.launchCred O₀ c : sProp 𝕄) ⊢ creds c := by
  have h : (Pipeline.launchCred O₀ c : sProp 𝕄) ⊢ bigSep (Finset.univ.map cellK) fun sm => cred (tallyOn ((c.tc : Thread nD τ), sm) (launchCredit (Pipeline.owing O₀) 0 ((c.tc : Thread nD τ), sm))) := by
    unfold Pipeline.launchCred
    exact BI.bigSep_subset (Finset.subset_univ _)
  refine BIBase.Entails.trans h ?_
  rw [bigSep_map, bigSep7]
  have e := fun s n h => congrArg (fun T => (cred T : sProp 𝕄)) (cred_at c s n h)
  have e0 := e _ _ (owed_bar c)
  have e1 := fun j => e _ _ (owed_dma c 1 (.inl rfl) j)
  have e3 := fun j => e _ _ (owed_dma c 3 (.inr rfl) j)
  refine BIBase.Entails.trans (Q := iprop(cred (tal (bcell c) 6) ∗ cr 1 0 c ∗ cr 1 1 c ∗ cr 1 2 c ∗ cr 3 0 c ∗ cr 3 1 c ∗ cr 3 2 c)) ?_ ?_
  · exact BIBase.Entails.of_eq (congrArg₂ (fun a b => iprop(a ∗ b)) e0 (congrArg₂ (fun a b => iprop(a ∗ b)) (e1 0) (congrArg₂ (fun a b => iprop(a ∗ b)) (e1 1)
      (congrArg₂ (fun a b => iprop(a ∗ b)) (e1 2) (congrArg₂ (fun a b => iprop(a ∗ b)) (e3 0) (congrArg₂ (fun a b => iprop(a ∗ b)) (e3 1) (e3 2)))))))
  · unfold creds
    iintro ⟨H0, H1, H2, H3, H4, H5, H6⟩
    isplitl [H0]; · iexact H0
    isplitl [H1 H2 H3]
    · isplitl [H1]; · iexact H1
      isplitl [H2]; · iexact H2
      iexact H3
    isplitl [H4]; · iexact H4
    isplitl [H5]; · iexact H5
    iexact H6

/-! ## Making every device's share -/

variable (V : Dev nD → Valuation τ sig (Elt F))

def onDev (c₀ : Dev nD) (X : sProp 𝕄) (c : Dev nD) : sProp 𝕄 := if c = c₀ then X else BI.emp
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄)) fun c hc => by
    unfold onDev; rw [if_neg (Finset.ne_of_mem_erase hc)], BI.bigSep_emp_const]
  unfold onDev; rw [if_pos rfl]; exact BI.equiv_iff.mp sep_emp

def G : Dev nD → sProp 𝕄 := onDev 0 (BI.own (ER (launchOf barCells scCells talkToks)))
def u₀ : UU := (initOf (Pipeline.cells (Pipeline.pin (pcfgs (F := F)) adm) cellOf_inj) (Pipeline.launchToks (Pipeline.pin (pcfgs (F := F)) adm) cellOf_inj), launchOf barCells scCells talkToks)

theorem hu₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ (G (F := F))) := by
  unfold u₀ G
  rw [bigSep_onDev]
  iintro Hu
  ihave H := (ownU_pair _ _) $$ Hu
  icases H with ⟨HP, HX⟩
  imodintro
  isplitl [HP]; · iexact HP
  iexact HX

theorem unscopedSems0_eq (c : Dev nD) : (unscopedSems0 c : sProp 𝕄) = semVal (bcell c) 0 := by
  unfold unscopedSems0
  rw [show (Finset.univ.filter fun sm : SemLoc sig => ¬ (sm.isScoped .tc = true)) = {SemLoc.reg barS} from by decide, BI.bigSep_singleton]

/-- What device `c` enters the program with, beside its buffers. -/
def E₀ (c : Dev nD) : sProp 𝕄 := iprop((∃ r, prngReg c r) ∗ Tk V c ∗ ∃ W, owes (c : Thread nD τ) (0 + O₀ c) W)
def E₁ (c : Dev nD) : sProp 𝕄 := iprop((∃ r, prngReg c r) ∗ Yk c ∗ ∃ W, owes (c : Thread nD τ) 0 W)

/-- What one device gets for itself of what is dealt at the launch. -/
def share (g : Dev nD → PrngReg) (c : Dev nD) : sProp 𝕄 :=
  iprop((owes (c : Thread nD τ) (O₀ c) ∅ ∗ Pipeline.launchCred O₀ c ∗ prngReg c (g c))
    ∗ (atPos ER (bcell c) 0 ∅ 0 ∗ (bigSep Finset.univ fun k : Fin 12 => openTok ER ((c : Thread nD τ), osem k)) ∗ toks c))

theorem share_intro (g : Dev nD → PrngReg) (κ : GSem nD τ sig → ℕ) (c : Dev nD) :
    iprop(records (valsOf (insAt V)) κ ∗ share g c) ⊢ E₀ V c := by
  unfold share E₀ Tk linear
  iintro ⟨#HR, ⟨HO, Hcr, Hp⟩, Hat, Hop, Htk⟩
  ihave Hcr := (cred_intro c) $$ Hcr
  ihave Hop := (grp_of (fun k => openTok ER ((c : Thread nD τ), osem k))) $$ Hop
  isplitl [Hp]; · iexists _; iexact Hp
  rw [zero_add]
  isplitr [HO]
  · isplitr; · iexists κ; iexact HR
    isplitl [Hat Hop Htk]
    · isplitl [Hat]; · iexact Hat
      isplitl [Hop]; · iexact Hop
      iexact Htk
    iexact Hcr
  iexists _; iexact HO

theorem init (g : Dev nD → PrngReg) :
    iprop((bigSep Finset.univ fun c : Dev nD => iprop(unscopedSems0 c ∗ owes (c : Thread nD τ) (O₀ c) ∅ ∗ Pipeline.launchCred O₀ c ∗ prngReg c (g c) ∗ G c)) ∗ levAts L lv)
      ⊢ (|={Set.univ}=> bigSep Finset.univ (E₀ V) : sProp 𝕄) := by
  have h1 : (bigSep Finset.univ fun c : Dev nD => iprop(unscopedSems0 c ∗ owes (c : Thread nD τ) (O₀ c) ∅ ∗ Pipeline.launchCred O₀ c ∗ prngReg c (g c) ∗ G c))
      ⊢ (iprop((bigSep barCells fun g => semVal g 0) ∗ (bigSep Finset.univ fun c : Dev nD => iprop(owes (c : Thread nD τ) (O₀ c) ∅ ∗ Pipeline.launchCred O₀ c ∗ prngReg c (g c)))
        ∗ BI.own (ER (launchOf barCells scCells talkToks))) : sProp 𝕄) := by
    rw [← bigSep_onDev (F := F) 0 (BI.own (ER (launchOf barCells scCells talkToks))), bigSep_map, ← bigSep_sep', ← bigSep_sep']
    suffices h : ∀ c : Dev nD, iprop(unscopedSems0 c ∗ owes (c : Thread nD τ) (O₀ c) ∅ ∗ Pipeline.launchCred O₀ c ∗ prngReg c (g c) ∗ G (F := F) c)
        ⊢ (iprop(semVal (bcell c) 0 ∗ (owes (c : Thread nD τ) (O₀ c) ∅ ∗ Pipeline.launchCred O₀ c ∗ prngReg c (g c)) ∗ onDev 0 (BI.own (ER (launchOf barCells scCells talkToks))) c) : sProp 𝕄) from
      bigSep_mono fun c _ => h c
    intro c
    rw [unscopedSems0_eq]
    unfold G
    iintro ⟨Hs, Ho, Hc, Hp, HG⟩
    isplitl [Hs]; · iexact Hs
    isplitr [HG]
    · isplitl [Ho]; · iexact Ho
      isplitl [Hc]; · iexact Hc
      iexact Hp
    iexact HG
  have h2 : iprop((bigSep Finset.univ fun c : Dev nD => iprop(owes (c : Thread nD τ) (O₀ c) ∅ ∗ Pipeline.launchCred O₀ c ∗ prngReg c (g c)))
      ∗ (bigSep barCells fun g => atPos ER g 0 ∅ 0) ∗ (bigSep scCells fun g => openTok ER g) ∗ (bigSep talkToks fun x => dutyTok ER x.1 x.2.1 x.2.2))
      ⊢ (bigSep Finset.univ (share g) : sProp 𝕄) := by
    have ht : (bigSep talkToks fun x => (dutyTok ER x.1 x.2.1 x.2.2 : sProp 𝕄)) ⊢ bigSep Finset.univ toks := by
      rw [bigSep_map, bigSep_univ_prod]
      exact BIBase.Entails.trans (bigSep_mono fun c _ => own_toks c) deal_toks
    have ho : (bigSep scCells fun g => (openTok ER g : sProp 𝕄)) ⊢ bigSep Finset.univ fun c : Dev nD => bigSep Finset.univ fun k : Fin 12 => openTok ER ((c : Thread nD τ), osem k) := by
      rw [bigSep_map, bigSep_univ_prod]; try exact BIBase.Entails.rfl
    have ha : (bigSep barCells fun g => (atPos ER g 0 ∅ 0 : sProp 𝕄)) ⊢ bigSep Finset.univ fun c : Dev nD => atPos ER (bcell c) 0 ∅ 0 := by
      rw [bigSep_map]; try exact BIBase.Entails.rfl
    unfold share
    rw [bigSep_sep' Finset.univ (fun c : Dev nD => iprop(owes (c : Thread nD τ) (O₀ c) ∅ ∗ Pipeline.launchCred O₀ c ∗ prngReg c (g c))),
      bigSep_sep' Finset.univ (fun c : Dev nD => atPos ER (bcell c) 0 ∅ 0), bigSep_sep' Finset.univ (fun c : Dev nD => bigSep Finset.univ fun k : Fin 12 => openTok ER ((c : Thread nD τ), osem k))]
    exact BIClass.sep_mono BIBase.Entails.rfl (BIClass.sep_mono ha (BIClass.sep_mono ho ht))
  iintro ⟨H, #Hl⟩
  ihave H := h1 $$ H
  icases H with ⟨Hv, Hs, Hu⟩
  imod (Rounds.fund_launch ER (Rd (valsOf (insAt V))) disjoint_cells (fun g _ h => h) talkToks) $$ [Hv Hu] with ⟨%κ, -, #Hinv, #Hr, Hat, Hopen, Htok⟩
  · isplitl [Hv]; · iexact Hv
    iexact Hu
  imodintro
  ihave H := h2 $$ [Hs Hat Hopen Htok]
  · isplitl [Hs]; · iexact Hs
    isplitl [Hat]; · iexact Hat
    isplitl [Hopen]; · iexact Hopen
    iexact Htok
  iapply (bigSep_with_persistent (R := records (valsOf (insAt V)) κ) (Φ := share g) fun c _ => share_intro V g κ c)
  isplitr
  · unfold records
    isplitr; · iexact Hinv
    iexact Hr
  iexact H

/-! ## The run -/

theorem held_split (c : Dev nD) (X : Valuation τ sig (Elt F)) :
    (StableHlo.held (c : Thread nD τ) (Pipeline.ucRefs τ sig) X : sProp 𝕄)
      = iprop(StableHlo.held (c : Thread nD τ) (Pipeline.arrRefs (τ := τ) spec0) X ∗ StableHlo.held (c : Thread nD τ) Srest X) :=
  StableHlo.held_sub_split (c : Thread nD τ) (by decide) X

theorem unscoped_eq : ∀ sm : SemLoc sig, sm.isScoped .tc = false → sm = .reg barS := by decide

variable (m : (ℓ : Loc nD τ sig) → Buf (Elt F) ℓ)
abbrev Vm (c : Dev nD) : Valuation τ sig (Elt F) := V1 m c
abbrev EE : Fin 2 → Dev nD → sProp 𝕄 := fun | 0 => E₀ (Vm m) | 1 => E₁

set_option backward.isDefEq.respectTransparency.types false in
theorem pre0 (c : Dev nD) : iprop(StableHlo.held (c : Thread nD τ) (Pipeline.ucRefs τ sig) (V1 m c) ∗ E₀ (Vm m) c) ⊢ (reg (Vm m)).pre c := by
  show _ ⊢ iprop(StableHlo.held (c : Thread nD τ) (Pipeline.arrRefs (τ := τ) spec0) (Vm m c) ∗ (∃ r, prngReg c r) ∗ (StableHlo.held (c : Thread nD τ) Srest (Vm m c) ∗ emp) ∗ Tk (Vm m) c ∗ ∃ W, owes (c : Thread nD τ) (0 + O₀ c) W)
  rw [held_split]
  unfold E₀
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem post0 (c : Dev nD) : (reg (Vm m)).post c ⊢ iprop((StableHlo.held (c : Thread nD τ) (Pipeline.ucRefs τ sig) (Vend (Vm m) c) ∗ Yk c) ∗ ∃ W, owes (c : Thread nD τ) (0 : CellTallies nD τ sig Unit) W) := by
  show iprop(StableHlo.held (c : Thread nD τ) (Pipeline.arrRefs (τ := τ) spec0) (Vend (Vm m) c) ∗ (∃ r, prngReg c r) ∗ (StableHlo.held (c : Thread nD τ) Srest (Vend (Vm m) c) ∗ emp) ∗ Yk c ∗ ∃ W, owes (c : Thread nD τ) 0 W) ⊢ _
  rw [held_split]
  iintro ⟨Ha, -, ⟨Hr, -⟩, HT, HO⟩
  isplitr [HO]
  · isplitr [HT]
    · isplitl [Ha]; · iexact Ha
      iexact Hr
    iexact HT
  iexact HO

/-- What is known of device `c` at the end. -/
def Done (c : Dev nD) (s : MemSt nD τ sig (Elt F)) : Prop :=
  (s.mem ((c.tc : Thread nD τ).loc main_v24) = out (insAt (Vm m)) c
    ∧ s.mem ((c.tc : Thread nD τ).loc main_arg0) = m ((c.tc : Thread nD τ).loc main_arg0) ∧ s.mem ((c.tc : Thread nD τ).loc main_arg1) = m ((c.tc : Thread nD τ).loc main_arg1)
    ∧ s.mem ((c.tc : Thread nD τ).loc main_arg2) = m ((c.tc : Thread nD τ).loc main_arg2) ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (bcell c) = 0

theorem Vend_of (c : Dev nD) (r : Ref sig .tc) (h : (Proc.devRef .tc r : DevRef τ sig) ≠ Proc.devRef .tc main_v24) (h' : r ∉ hostOps0_W) : Vend (Vm m) c (Proc.devRef .tc r) = V0 m c (Proc.devRef .tc r) :=
  (Function.update_of_ne h _ _).trans (V1_of m c r h')

theorem fin_read (c : Dev nD) (s' : Phys nD τ sig (Elt F)) :
    iprop((StableHlo.held (c : Thread nD τ) (Pipeline.ucRefs τ sig) (Vend (Vm m) c) ∗ Yk c) ∗ SI s') ⊢ (|={Set.univ}=> iprop(⌜Done m c s'.mem⌝ ∗ SI s') : sProp 𝕄) := by
  unfold StableHlo.held Yk
  iintro ⟨⟨Hh, Hb⟩, HSI⟩
  icombine HSI Hb gives %hb
  ihave Hr := (pointsTo_read_all (Pipeline.ucRefs τ sig) (fun b => ((c : Thread nD τ).1, b)) (Vend (Vm m) c) s') $$ [Hh HSI]
  · isplitl [Hh] <;> iassumption
  icases Hr with ⟨%h, HSI⟩
  imodintro
  isplitr
  · ipureintro
    have hm : ∀ b : Ref sig .tc, (Proc.devRef .tc b : DevRef τ sig) ∈ Pipeline.ucRefs τ sig → (Proc.devRef .tc b : DevRef τ sig) ≠ Proc.devRef .tc main_v24 → b ∉ hostOps0_W →
        s'.mem.mem ((c.tc : Thread nD τ).loc b) = m ((c.tc : Thread nD τ).loc b) := fun b hb h1 h2 => (h _ hb).trans (Vend_of m c _ h1 h2)
    exact ⟨⟨(h (Proc.devRef .tc main_v24) (Finset.mem_filter.mpr ⟨StableHlo.devRef_mem_tcRefs main_v24, by decide⟩)).trans (Function.update_self _ _ _),
      hm main_arg0 (Finset.mem_filter.mpr ⟨StableHlo.devRef_mem_tcRefs main_arg0, by decide⟩) (by decide) (by decide),
      hm main_arg1 (Finset.mem_filter.mpr ⟨StableHlo.devRef_mem_tcRefs main_arg1, by decide⟩) (by decide) (by decide),
      hm main_arg2 (Finset.mem_filter.mpr ⟨StableHlo.devRef_mem_tcRefs main_arg2, by decide⟩) (by decide) (by decide),
      hm main_arg3 (Finset.mem_filter.mpr ⟨StableHlo.devRef_mem_tcRefs main_arg3, by decide⟩) (by decide) (by decide),
      hm main_arg4 (Finset.mem_filter.mpr ⟨StableHlo.devRef_mem_tcRefs main_arg4, by decide⟩) (by decide) (by decide)⟩, by simpa using hb⟩
  · iexact HSI

set_option backward.isDefEq.respectTransparency.types false in
/-- The whole program runs, leaves each device the kernel's result and its arguments as they were, and every counter at zero. -/
theorem run_main (ρ : Dev nD → PrngReg) :
    θ_run (defs (F := F)) (onTc (τ := τ) (main (F := F))) ⟨m, fun _ => 0, ρ⟩ (fun r => (∀ c : Dev nD, Done m c r.2) ∧ r.2.sem = fun _ => 0) := by
  refine Pipeline.θ_run_regions_kit_dev_sems (pcfgs (F := F)) adm (pdats (Vm m)) () cellOf_inj EP defs₀ 𝒱₀ L lv m ρ main
    (segs m 𝒱₀ L lv (EE m) () (pdats (Vm m)) (reg (Vm m)))
    (fun c Q => by
      rewrite [main_chain c, Pipeline.Seg.run_eq_chain,
        show (segs m 𝒱₀ L lv (EE m) () (pdats (Vm m)) (reg (Vm m)) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F)) hu₀
    (T₀ := fun c => iprop(StableHlo.held (c : Thread nD τ) (Pipeline.ucRefs τ sig) (V0 m c) ∗ E₀ (Vm m) c))
    (Tₙ := fun c => iprop(StableHlo.held (c : Thread nD τ) (Pipeline.ucRefs τ sig) (Vend (Vm m) c) ∗ Yk c))
    (hch := fun c => ⟨.rfl, pre0 m c, post0 m c⟩)
    (hinit := ?_) (QY := Done m) (hfin := fin_read m)
    (hQ := fun s h hs => ⟨h, sem_eq_zero hs fun c sm hsm => by obtain rfl := unscoped_eq sm hsm; exact (h c).2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c)) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H := hsplit $$ H
  icases H with ⟨Hh, Hr⟩
  imod (init (Vm m) ρ) $$ [Hr Hla] with HE
  · isplitl [Hr]; · iexact Hr
    iexact Hla
  imodintro
  rw [bigSep_sep']
  isplitl [Hh]; · iexact Hh
  iexact HE

end Cert.PagedProof
end
-- ==== Proof.Inputs.lean ====
module

public import proofs.«01_k».proof.Proof.Output
public import proofs.«01_k».proof.Proof.Launch
public import Idealize.ShloMosaic.Lib.StableHlo.RunClose
public import Idealize.ShloMosaic.Lib.WordCmp

@[expose] public section
set_option maxRecDepth 16384
noncomputable section
namespace Cert.PagedProof
open Cert.KernelIdeal Cert.KernelIdeal.Gen
open Idealize.ShloMosaic Idealize.ShloMosaic.ValueIdx Idealize.ShloMosaic.TcCoe
open Idealize.ShloMosaic.StableHlo
open scoped BigOperators

/-! # What the host hands each device -/

variable (m : (ℓ : Loc nD τ sig) → Buf (Elt Ideal) ℓ) (c : Dev nD)

/-- The first of a device's heads, as the host computes it. -/
def headWord (c : Dev nD) : IVec S_ 32 :=
  muli (addi (muli (constantI S_ 32 2#32) (Host.remui (Host.divui (constantI S_ 32 (Dev.word c)) (constantI S_ 32 8#32)) (constantI S_ 32 2#32)))
    (Host.remui (Host.divui (constantI S_ 32 (Dev.word c)) (constantI S_ 32 4#32)) (constantI S_ 32 2#32))) (constantI S_ 32 4#32)
/-- The same, counted from the end when negative. -/
def startWord (c : Dev nD) : IVec S_ 32 :=
  select (cmpi .slt (headWord c) (constantI S_ 32 0#32)) (addi (headWord c) (constantI S_ 32 16#32)) (headWord c)

theorem v17_eq : V1 m c main_v17 = Host.dynamicSlice S16x4x64x128
    (transpose S16x16x64x128 [1, 2, 3, 0] (m ((c.tc : Thread nD τ).loc main_arg1)) transposes_S128x16x16x64_S16x16x64x128_1_2_3_0)
    (fun k => ((![constantI S_ 32 0#32, startWord c, constantI S_ 32 0#32, constantI S_ 32 0#32] : Fin 4 → IVec S_ 32) k (Shape.Idx.first h_S_)).toInt) sliceFits_S16x16x64x128_S16x4x64x128 := by
  show StableHlo.after (hostOps0 c) (V0 m c) main_v17 = _
  simp only [hostOps0]
  after_results_simp_entrywise
  rfl

theorem v22_eq : V1 m c main_v22 = Host.dynamicSlice S16x4x64x128
    (transpose S16x16x64x128 [1, 2, 3, 0] (m ((c.tc : Thread nD τ).loc main_arg2)) transposes_S128x16x16x64_S16x16x64x128_1_2_3_0)
    (fun k => ((![constantI S_ 32 0#32, startWord c, constantI S_ 32 0#32, constantI S_ 32 0#32] : Fin 4 → IVec S_ 32) k (Shape.Idx.first h_S_)).toInt) sliceFits_S16x16x64x128_S16x4x64x128 := by
  show StableHlo.after (hostOps0 c) (V0 m c) main_v22 = _
  simp only [hostOps0]
  after_results_simp_entrywise
  rfl

theorem v23_eq : V1 m c main_v23 = shapeCast S16x1 (m ((c.tc : Thread nD τ).loc main_arg4)) shapeCasts_S16_S16x1 := by
  show StableHlo.after (hostOps0 c) (V0 m c) main_v23 = _
  simp only [hostOps0]
  after_results_simp_entrywise
  rfl

theorem startWord_val (c : Dev nD) : (startWord c (Shape.Idx.first h_S_)).toInt = ((4 * (c.val / 4) : ℕ) : ℤ) := by revert c; decide +kernel

theorem zero_val : (constantI S_ 32 0#32 (Shape.Idx.first h_S_)).toInt = ((0 : ℕ) : ℤ) := by decide

/-- A device's heads of its keys, or of its values: the lanes are the pages. -/
theorem slice_at (x : S16x16x64x128.Idx → EReal) (k : Fin 16) (h : Fin 4) (d : Fin 64) (p : Fin 128) :
    Host.dynamicSlice S16x4x64x128 x
      (fun k => ((![constantI S_ 32 0#32, startWord c, constantI S_ 32 0#32, constantI S_ 32 0#32] : Fin 4 → IVec S_ 32) k (Shape.Idx.first h_S_)).toInt)
      sliceFits_S16x16x64x128_S16x4x64x128 (ix4 k h d p) = x (ix4 k (headOf c h) d p) := by
  have hc : c.val < 16 := c.isLt
  have hs : S16x16x64x128.Slices ![0, 4 * (c.val / 4), 0, 0] S16x4x64x128 := ⟨rfl, fun a => match a with
    | ⟨0, _⟩ => le_refl 16
    | ⟨1, _⟩ => by show 4 * (c.val / 4) + 4 ≤ 16; omega
    | ⟨2, _⟩ => le_refl 64
    | ⟨3, _⟩ => le_refl 128⟩
  rw [WordCmp.dynamicSlice_eq_extract S16x4x64x128 x _ _ ![0, 4 * (c.val / 4), 0, 0] hs (fun a => match a with
    | ⟨0, _⟩ => zero_val
    | ⟨1, _⟩ => startWord_val c
    | ⟨2, _⟩ => zero_val
    | ⟨3, _⟩ => zero_val)]
  refine extractStridedSlice_apply _ _ _ _ _ fun a => ?_
  match a with
  | ⟨0, _⟩ => exact (Nat.zero_add _).symm
  | ⟨1, _⟩ => rfl
  | ⟨2, _⟩ => exact (Nat.zero_add _).symm
  | ⟨3, _⟩ => exact (Nat.zero_add _).symm

theorem pages_last (x : S128x16x16x64.Idx → EReal) (k hd : Fin 16) (d : Fin 64) (p : Fin 128) :
    transpose S16x16x64x128 [1, 2, 3, 0] x transposes_S128x16x16x64_S16x16x64x128_1_2_3_0 (ix4 k hd d p) = x (ix4 p k hd d) :=
  transpose_apply _ _ _ _ _ fun a => match a with | ⟨0, _⟩ => rfl | ⟨1, _⟩ => rfl | ⟨2, _⟩ => rfl | ⟨3, _⟩ => rfl

abbrev S512 : Shape := ⟨4, ![512, 16, 16, 64]⟩

theorem block_at (x : S512.Idx → EReal) (p : Fin 128) (k hd : Fin 16) (d : Fin 64) (hp : 128 * (c.val % 4) + p.val < 512) :
    (Layout.blockN ⟨4, ![128, 16, 16, 64]⟩ ⟨4, ![512, 16, 16, 64]⟩ (Layout.meshBlock [2, 2, 4] ![[2], [], [], []] c) x : S128x16x16x64.Idx → EReal) (ix4 p k hd d)
      = x (ix4 ⟨128 * (c.val % 4) + p.val, hp⟩ k hd d) := by
  refine congrArg x (funext fun a => Fin.ext ?_)
  have e : Layout.meshLin [2, 2, 4] c.val [2] = c.val % 4 := by simp [Layout.meshLin, Layout.meshCoord, Layout.cutSize]
  match a with
  | ⟨0, _⟩ =>
    show Layout.meshLin [2, 2, 4] c.val [2] * 128 + p.val = 128 * (c.val % 4) + p.val
    rw [e, Nat.mul_comm]
  | ⟨1, _⟩ => show 0 * 16 + k.val = k.val; omega
  | ⟨2, _⟩ => show 0 * 16 + hd.val = hd.val; omega
  | ⟨3, _⟩ => show 0 * 64 + d.val = d.val; omega

/-- The whole arrays, by coordinates. -/
def globOf (q : S16x1x16x64.Idx → EReal) (k v : S512.Idx → EReal) (bt : IVec S16x128 32) (ln : IVec S16 32) : Glob where
  q b hh d := q (ix4 b 0 hh d)
  k pg kk hh d := if h : pg < 512 then k (ix4 ⟨pg, h⟩ kk hh d) else 0
  v pg kk hh d := if h : pg < 512 then v (ix4 ⟨pg, h⟩ kk hh d) else 0
  bt := bt
  ln := shapeCast S16x1 ln shapeCasts_S16_S16x1

section
variable (q : S16x1x16x64.Idx → EReal) (k v : S512.Idx → EReal) (bt : IVec S16x128 32) (ln : IVec S16 32)
theorem globOf_k (pg : ℕ) (h : pg < 512) (kk hh : Fin 16) (d : Fin 64) : (globOf q k v bt ln).k pg kk hh d = k (ix4 ⟨pg, h⟩ kk hh d) := by
  show (if h : pg < 512 then k (ix4 ⟨pg, h⟩ kk hh d) else 0) = _
  rw [dif_pos h]
theorem globOf_v (pg : ℕ) (h : pg < 512) (kk hh : Fin 16) (d : Fin 64) : (globOf q k v bt ln).v pg kk hh d = v (ix4 ⟨pg, h⟩ kk hh d) := by
  show (if h : pg < 512 then v (ix4 ⟨pg, h⟩ kk hh d) else 0) = _
  rw [dif_pos h]
end

/-- The devices stage the whole arrays' parts. -/
theorem staged (q : S16x1x16x64.Idx → EReal) (k v : S512.Idx → EReal) (bt : IVec S16x128 32) (ln : IVec S16 32)
    (h0 : ∀ c : Dev nD, m ((c.tc : Thread nD τ).loc main_arg0) = q)
    (h1 : ∀ c : Dev nD, m ((c.tc : Thread nD τ).loc main_arg1) = Layout.blockN ⟨4, ![128, 16, 16, 64]⟩ ⟨4, ![512, 16, 16, 64]⟩ (Layout.meshBlock [2, 2, 4] ![[2], [], [], []] c) k)
    (h2 : ∀ c : Dev nD, m ((c.tc : Thread nD τ).loc main_arg2) = Layout.blockN ⟨4, ![128, 16, 16, 64]⟩ ⟨4, ![512, 16, 16, 64]⟩ (Layout.meshBlock [2, 2, 4] ![[2], [], [], []] c) v)
    (h3 : ∀ c : Dev nD, m ((c.tc : Thread nD τ).loc main_arg3) = bt)
    (h4 : ∀ c : Dev nD, m ((c.tc : Thread nD τ).loc main_arg4) = ln) : Staged (globOf q k v bt ln) (insAt (Vm m)) where
  q c b hh d := congrFun ((V1_of m c main_arg0 (by decide)).trans (h0 c)) (ix4 b 0 hh d)
  k c kk h d p := by
    have hp : 128 * (c.val % 4) + p.val < 512 := by have := p.isLt; omega
    refine (congrFun (v17_eq m c) (ix4 kk h d p)).trans ((slice_at c _ kk h d p).trans ((pages_last _ _ _ _ _).trans ?_))
    refine (congrFun (h1 c) (ix4 p kk (headOf c h) d)).trans ((block_at c k p kk (headOf c h) d hp).trans ?_)
    exact (globOf_k q k v bt ln _ hp kk _ d).symm
  v c kk h d p := by
    have hp : 128 * (c.val % 4) + p.val < 512 := by have := p.isLt; omega
    refine (congrFun (v22_eq m c) (ix4 kk h d p)).trans ((slice_at c _ kk h d p).trans ((pages_last _ _ _ _ _).trans ?_))
    refine (congrFun (h2 c) (ix4 p kk (headOf c h) d)).trans ((block_at c v p kk (headOf c h) d hp).trans ?_)
    exact (globOf_v q k v bt ln _ hp kk _ d).symm
  bt c := (V1_of m c main_arg3 (by decide)).trans (h3 c)
  ln c := (v23_eq m c).trans (congrArg (fun x => shapeCast S16x1 x shapeCasts_S16_S16x1) (h4 c))

end Cert.PagedProof
end
-- ==== Proof.RefValue.lean ====
module

public import proofs.«01_k».proof.Proof.RefRead
public import proofs.«01_k».proof.Proof.Inputs

@[expose] public section
set_option maxRecDepth 16384
noncomputable section
namespace Cert.PagedProof.Plain
open Cert.ReferenceIdeal Cert.ReferenceIdeal.Gen Cert.PagedProof
open Idealize.ShloMosaic Idealize.ShloMosaic.ValueIdx Idealize.ShloMosaic.TcCoe
open scoped BigOperators

/-! # The reference's result -/

/-- The entry a key belongs to, and its place there. -/
def ent (x : Fin 2048) : Fin 128 := ⟨x.val / 16, by omega⟩
def pos (x : Fin 2048) : Fin 16 := ⟨x.val % 16, by omega⟩
theorem key_ent (x : Fin 2048) : key (ent x) (pos x) = x := Fin.ext (show 16 * (x.val / 16) + x.val % 16 = x.val by omega)
theorem ent_key (j : Fin 128) (kk : Fin 16) : ent (key j kk) = j := Fin.ext (show (16 * j.val + kk.val) / 16 = j.val by omega)
theorem pos_key (j : Fin 128) (kk : Fin 16) : pos (key j kk) = kk := Fin.ext (show (16 * j.val + kk.val) % 16 = kk.val by omega)

theorem by_key {A : Type} [AddCommMonoid A] (f : Fin 2048 → A) : ∑ x, f x = ∑ j : Fin 128, ∑ kk : Fin 16, f (key j kk) := by
  rw [← Equiv.sum_comp (finProdFinEquiv : Fin 128 × Fin 16 ≃ Fin (128 * 16)) f, Fintype.sum_prod_type]
  refine Finset.sum_congr rfl fun j _ => Finset.sum_congr rfl fun kk _ => congrArg f (Fin.ext ?_)
  show kk.val + 16 * j.val = 16 * j.val + kk.val
  omega

/-- The largest of some scores, of which one counts and none is infinite, is a real number. -/
theorem top_real {ι : Type} [Fintype ι] (s : ι → EReal) (h1 : ∃ x, ⊥ < s x) (h2 : ∀ x, s x < ⊤) :
    ∃ μ : ℝ, (Finset.univ : Finset ι).fold max (⊥ : EReal) s = (μ : EReal) := by
  obtain ⟨x, hx⟩ := h1
  have a : (Finset.univ : Finset ι).fold max (⊥ : EReal) s < ⊤ :=
    (Finset.fold_max_lt (c := (⊤ : EReal))).2 ⟨bot_lt_top, fun y _ => h2 y⟩
  have b : ⊥ < (Finset.univ : Finset ι).fold max (⊥ : EReal) s :=
    (Finset.lt_fold_max (c := (⊥ : EReal))).2 (.inr ⟨x, Finset.mem_univ x, hx⟩)
  exact ⟨_, (EReal.coe_toReal a.ne b.ne').symm⟩

variable (q : FVec Ideal S16x1x16x64 .bf16) (k v : FVec Ideal S512x16x16x64 .bf16) (bt : IVec S16x128 32) (ln : IVec S16 32)

theorem live_iff (b : Fin 16) (j : Fin 128) : live (globOf q k v bt ln) b j ↔ (j.val : ℤ) < (ln (ix1 b) : BitVec 32).toInt := by
  have e : (globOf q k v bt ln).ln (ix2 b 0) = ln (ix1 b) :=
    shapeCast_apply _ _ (ix2 b 0) (ix1 b) (by
      rw [Shape.rowMajor_val_two, Shape.rowMajor_val_one]
      show b.val = b.val * 1 + 0
      omega)
  unfold live
  rw [e]

open Classical in
/-- Whether a key counts, as a number. -/
def wt (b : Fin 16) (x : Fin 2048) : ℝ := if live (globOf q k v bt ln) b (ent x) then 1 else 0
/-- A key's score. -/
def sc (σ : Fin 16 → Fin 16 → Fin 16 → ℕ → ℝ) (b hh : Fin 16) (x : Fin 2048) : ℝ := σ b hh (pos x) (pick bt b (ent x)).val

variable (σ : Fin 16 → Fin 16 → Fin 16 → ℕ → ℝ) (hσ : Scores (globOf q k v bt ln) σ)
include hσ

open Classical in
theorem score_real (b hh : Fin 16) (u : Fin 1) (x : Fin 2048) :
    scores q k bt ln (ix4 b hh u x) = (if live (globOf q k v bt ln) b (ent x) then (sc bt σ b hh x : EReal) else ⊥ : EReal) := by
  obtain rfl : u = 0 := Subsingleton.elim _ _
  have h := scores_at q k bt ln b hh 0 (ent x) (pos x)
  rw [key_ent] at h
  refine h.trans ?_
  by_cases hl : live (globOf q k v bt ln) b (ent x)
  · rw [if_pos hl, if_pos ((live_iff q k v bt ln b (ent x)).1 hl)]
    refine Eq.trans ?_ (hσ b hh (pos x) (pick bt b (ent x)).val (pick bt b (ent x)).isLt)
    refine congrArg (fun z : EReal => z * scale) (Finset.sum_congr rfl fun d _ => ?_)
    refine congrArg (fun z : EReal => (q (ix4 b 0 hh d) : EReal) * z) ?_
    exact (globOf_k q k v bt ln _ (pick bt b (ent x)).isLt (pos x) hh d).symm
  · rw [if_neg hl, if_neg (fun h => hl ((live_iff q k v bt ln b (ent x)).2 h))]

theorem raw_real (hl : ∀ b, ∃ j, live (globOf q k v bt ln) b j) (b hh : Fin 16) (u : Fin 1) :
    ∃ μ : ℝ, ∀ x, raw (scores q k bt ln) (ix4 b hh u x) = ((wt q k v bt ln b x * Real.exp (sc bt σ b hh x - μ) : ℝ) : EReal) := by
  classical
  obtain ⟨j, hj⟩ := hl b
  have hs := score_real q k v bt ln σ hσ b hh u
  obtain ⟨μ, hμ⟩ := top_real (fun x => (scores q k bt ln (ix4 b hh u x) : EReal))
    ⟨key j 0, by
      show (⊥ : EReal) < scores q k bt ln (ix4 b hh u (key j 0))
      rw [hs, ent_key, if_pos hj]; exact EReal.bot_lt_coe _⟩
    (fun x => by
      show (scores q k bt ln (ix4 b hh u x) : EReal) < ⊤
      rw [hs]; split_ifs
      · exact EReal.coe_lt_top _
      · exact bot_lt_top)
  refine ⟨μ, fun x => ?_⟩
  have ht : spread (top (scores q k bt ln)) (ix4 b hh u x) = (μ : EReal) := (spread_at _ b hh u x).trans ((top_at _ b hh u).trans hμ)
  show Ideal.exp ((scores q k bt ln (ix4 b hh u x) : EReal) - spread (top (scores q k bt ln)) (ix4 b hh u x)) = _
  rw [ht, hs]
  unfold wt
  by_cases h : live (globOf q k v bt ln) b (ent x)
  · rw [if_pos h, if_pos h, ← EReal.coe_sub, Ideal.exp_coe, one_mul]
  · rw [if_neg h, if_neg h, zero_mul, EReal.bot_sub]
    exact Ideal.exp_bot

/-- The reference's result is the attention over the entries that count. -/
theorem result_attn (hpg : ∀ b j, live (globOf q k v bt ln) b j → 0 ≤ (bt (ix2 b j) : BitVec 32).toInt ∧ (bt (ix2 b j) : BitVec 32).toInt < 512)
    (hl : ∀ b, ∃ j, live (globOf q k v bt ln) b j) (b : Fin 16) (u : Fin 1) (hh : Fin 16) (d : Fin 64) :
    (result (rows v bt) (raw (scores q k bt ln)) (ix4 b u hh d) : EReal) = attn (globOf q k v bt ln) σ b hh d := by
  classical
  obtain ⟨μ, hμ⟩ := raw_real q k v bt ln σ hσ hl b hh u
  have hp : ∀ j, live (globOf q k v bt ln) b j → (pick bt b j).val = page (globOf q k v bt ln) b j := fun j hj =>
    pick_val bt b j (hpg b j hj).1 (hpg b j hj).2
  have hW : ∑ x, wt q k v bt ln b x * Real.exp (sc bt σ b hh x) = total (globOf q k v bt ln) σ b hh := by
    rw [by_key]
    unfold total
    refine Finset.sum_congr rfl fun j _ => ?_
    by_cases h : live (globOf q k v bt ln) b j
    · rw [if_pos h]
      refine Finset.sum_congr rfl fun kk _ => ?_
      unfold wt sc
      rw [ent_key, pos_key, if_pos h, one_mul, hp j h]
    · rw [if_neg h]
      refine Finset.sum_eq_zero fun kk _ => ?_
      unfold wt
      rw [ent_key, if_neg h, zero_mul]
  obtain ⟨j0, hj0⟩ := hl b
  have hpos := total_pos (A := globOf q k v bt ln) (σ := σ) b hh j0 hj0
  refine (result_at _ _ b hh u d).trans ?_
  have hsum : (∑ y : Fin 2048, raw (scores q k bt ln) (ix4 b hh u y) : EReal) = ((∑ x, wt q k v bt ln b x * Real.exp (sc bt σ b hh x - μ) : ℝ) : EReal) := by
    rw [coe_sum]; exact Finset.sum_congr rfl fun x _ => hμ x
  refine (Finset.sum_congr rfl fun x _ => by rw [hsum, hμ x]).trans
    ((softmax μ (sc bt σ b hh) (wt q k v bt ln b) (fun x => (rows v bt (ix4 b x hh d) : EReal)) (hW ▸ hpos)).trans ?_)
  rw [hW, by_key]
  unfold attn
  refine Finset.sum_congr rfl fun j _ => ?_
  by_cases h : live (globOf q k v bt ln) b j
  · rw [if_pos h]
    refine Finset.sum_congr rfl fun kk _ => ?_
    have hv : (rows v bt (ix4 b (key j kk) hh d) : EReal) = (globOf q k v bt ln).v (page (globOf q k v bt ln) b j) kk hh d := by
      refine (rows_at v bt b j kk hh d).trans ?_
      rw [← hp j h]
      exact (globOf_v q k v bt ln _ (pick bt b j).isLt kk hh d).symm
    unfold wt sc
    rw [ent_key, pos_key, if_pos h, one_mul, hp j h]
    exact congrArg (fun z : EReal => _ * z) hv
  · rw [if_neg h]
    refine Finset.sum_eq_zero fun kk _ => ?_
    unfold wt
    rw [ent_key, if_neg h, zero_mul, zero_div, EReal.coe_zero, zero_mul]

end Cert.PagedProof.Plain
end
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section
set_option maxRecDepth 16384
noncomputable section

/-! # The frames: each program runs, leaves its arguments as they were and its counters at zero -/

namespace Cert.PagedProof
open Idealize.ShloMosaic Idealize.SL.Sem

theorem frame_at {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1.2, h.2⟩) (run_main (F := F) m g)

theorem frame_kernelIdeal : Cert.quiescent_KernelIdeal := fun m g _ => frame_at (F := Ideal) m g

theorem bodies_eq {F : FTy → Type} [FloatOps F] : Cert.Kernel.defs₀ (F := F) = Cert.KernelIdeal.defs₀ (F := F) := by
  unfold Cert.Kernel.defs₀ Cert.KernelIdeal.defs₀
  refine congrArg (Defs.onTc (nD := 16)) ?_
  funext l
  match l with
  | 0 => funext x; rfl
  | ⟨_ + 1, h⟩ => exact absurd h (Nat.not_lt.2 (Nat.le_add_left _ _))
theorem defs_eq {F : FTy → Type} [FloatOps F] : Cert.Kernel.defs (F := F) = Cert.KernelIdeal.defs (F := F) :=
  congrArg (Pipeline.defs Cert.KernelIdeal.pcfgs) bodies_eq
theorem main_same {F : FTy → Type} [FloatOps F] : Cert.Kernel.main (F := F) = Cert.KernelIdeal.main (F := F) := by
  unfold Cert.Kernel.main Cert.KernelIdeal.main
  rfl

/-- The two programs have the same text, so the bit-exact one's run is the same run. -/
theorem frame_kernel : Cert.quiescent_Kernel := fun m g _ => by
  rw [defs_eq, main_same]
  exact frame_at (F := Bits) m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.PagedProof
end
-- ==== Proof.Known.lean ====
module

public import proofs.«01_k».proof.Defs
public import proofs.«01_k».proof.Proof.RefValue
public import proofs.«01_k».proof.Proof.Frames

@[expose] public section
set_option maxRecDepth 16384
noncomputable section

/-! # What the precondition says -/

namespace Cert.PagedProof
open Idealize.ShloMosaic Idealize.ShloMosaic.ValueIdx Idealize.ShloMosaic.TcCoe Idealize.SL.Sem
open scoped BigOperators

theorem known_facts : Cert.Pre_live_pages_known_KernelIdeal.Facts where
  bcast_S128_S1x128_1 := by decide
  bcast_S16_S16x1_0 := by decide
  bcast_S1x128_S16x128_0_1 := by decide
  bcast_S16x1_S16x128_0_1 := by decide
  bcast_S_S16x128 := by decide
  bcast_S_S16 := by decide
  bcast_S_S16x1x16x64 := by decide
  bcast_S_S128x16x16x64 := by decide
theorem known_facts_reference : Cert.Pre_live_pages_known_ReferenceIdeal.Facts where
  bcast_S128_S1x128_1 := by decide
  bcast_S16_S16x1_0 := by decide
  bcast_S1x128_S16x128_0_1 := by decide
  bcast_S16x1_S16x128_0_1 := by decide
  bcast_S_S16x128 := by decide
  bcast_S_S16 := by decide
  bcast_S_S16x1x16x64 := by decide
  bcast_S_S512x16x16x64 := by decide

theorem or_not_bit (x y : BitVec 1) (h : IntOp.ori (~~~x) y = 1#1) (hx : x = 1#1) : y = 1#1 := by
  subst hx; revert y; decide
theorem and_bits (x y : BitVec 1) (h : IntOp.andi x y = 1#1) : x = 1#1 ∧ y = 1#1 := by
  revert x y; decide
theorem bit_true (b : Bool) (h : BitVec.ofBool b = 1#1) : b = true := by
  cases b
  · exact absurd h (by decide)
  · rfl

/-- A value whose size is below some bound is a real number. -/
theorem real_of_small {x y : EReal} (h : Ideal.cmp .olt (max x (-x)) y = 1#1) : x = ((x.toReal : ℝ) : EReal) := by
  have h1 : max x (-x) < y := of_decide_eq_true (bit_true _ h)
  have h2 : max x (-x) < ⊤ := lt_of_lt_of_le h1 le_top
  refine (EReal.coe_toReal ?_ ?_).symm
  · rintro rfl; exact absurd h2 (by simp)
  · rintro rfl; exact absurd h2 (by simp)

section
open Cert.Pre_live_pages_known_KernelIdeal
variable [Facts] (q : FVec Ideal S16x1x16x64 .bf16) (k v : FVec Ideal S128x16x16x64 .bf16) (bt : IVec S16x128 32) (ln : IVec S16 32)

theorem known_ln (h : (fn q k v bt ln).1 = fun _ => 1#1) (b : Fin 16) : 1 ≤ (ln (ix1 b) : BitVec 32).toInt := by
  have e : IntOp.cmpi .sge (ln (ix1 b)) 1#32 = 1#1 := congrFun h (ix1 b)
  have e' := BitVec.sle_iff_toInt_le.1 (bit_true _ e)
  exact e'

theorem known_bt (h : (fn q k v bt ln).2.1 = fun _ => 1#1) (b : Fin 16) (j : Fin 128) (hj : (j.val : ℤ) < (ln (ix1 b) : BitVec 32).toInt) :
    0 ≤ (bt (ix2 b j) : BitVec 32).toInt ∧ (bt (ix2 b j) : BitVec 32).toInt < 512 := by
  have e1 : broadcastInDim S16x128 ![0, 1] Facts.bcast_S1x128_S16x128_0_1 (broadcastInDim S1x128 ![1] Facts.bcast_S128_S1x128_1 (iotaInDim S128 32 0)) (ix2 b j)
      = BitVec.ofNat 32 j.val :=
    (broadcastInDim_apply _ _ _ (ix2 b j) (ix2 0 j) fun a => match a with | ⟨0, _⟩ => rfl | ⟨1, _⟩ => rfl).trans
      (broadcastInDim_apply _ _ _ (ix2 0 j) (ix1 j) fun a => match a with | ⟨0, _⟩ => rfl)
  have e2 : broadcastInDim S16x128 ![0, 1] Facts.bcast_S16x1_S16x128_0_1 (broadcastInDim S16x1 ![0] Facts.bcast_S16_S16x1_0 ln) (ix2 b j) = ln (ix1 b) :=
    (broadcastInDim_apply _ _ _ (ix2 b j) (ix2 b 0) fun a => match a with | ⟨0, _⟩ => rfl | ⟨1, _⟩ => rfl).trans
      (broadcastInDim_apply _ _ _ (ix2 b 0) (ix1 b) fun a => match a with | ⟨0, _⟩ => rfl)
  have e : IntOp.ori (~~~(IntOp.cmpi .slt
        (broadcastInDim S16x128 ![0, 1] Facts.bcast_S1x128_S16x128_0_1 (broadcastInDim S1x128 ![1] Facts.bcast_S128_S1x128_1 (iotaInDim S128 32 0)) (ix2 b j))
        (broadcastInDim S16x128 ![0, 1] Facts.bcast_S16x1_S16x128_0_1 (broadcastInDim S16x1 ![0] Facts.bcast_S16_S16x1_0 ln) (ix2 b j))))
      (IntOp.andi (IntOp.cmpi .sge (bt (ix2 b j)) 0#32) (IntOp.cmpi .slt (bt (ix2 b j)) 512#32)) = 1#1 := congrFun h (ix2 b j)
  rw [e1, e2] at e
  have hl : IntOp.cmpi .slt (BitVec.ofNat 32 j.val) (ln (ix1 b)) = 1#1 := by
    show BitVec.ofBool (BitVec.slt _ _) = 1#1
    rw [(slt_ofNat j.val (by omega) (ln (ix1 b))).2 hj]; rfl
  obtain ⟨p, r⟩ := and_bits _ _ (or_not_bit _ _ e hl)
  exact ⟨BitVec.sle_iff_toInt_le.1 (bit_true _ p), BitVec.slt_iff_toInt_lt.1 (bit_true _ r)⟩

theorem known_q (h : (fn q k v bt ln).2.2.1 = fun _ => 1#1) (i : S16x1x16x64.Idx) : (q i : EReal) = (((q i : EReal).toReal : ℝ) : EReal) :=
  real_of_small (y := Ideal.ofBits .bf16 0x7F80#16) (congrFun h i)
theorem known_k (h : (fn q k v bt ln).2.2.2 = fun _ => 1#1) (i : S128x16x16x64.Idx) : (k i : EReal) = (((k i : EReal).toReal : ℝ) : EReal) :=
  real_of_small (y := Ideal.ofBits .bf16 0x7F80#16) (congrFun h i)
end

/-- Scores of real queries and keys are real. -/
theorem scores_real (q : Cert.KernelIdeal.S16x1x16x64.Idx → EReal) (k v : S512.Idx → EReal) (bt : IVec Cert.KernelIdeal.S16x128 32) (ln : IVec Cert.KernelIdeal.S16 32)
    (hq : ∀ i, q i = (((q i).toReal : ℝ) : EReal)) (hk : ∀ i, k i = (((k i).toReal : ℝ) : EReal)) :
    ∃ σ, Scores (globOf q k v bt ln) σ := by
  refine ⟨fun b hh kk pg => (∑ d : Fin 64, (q (ix4 b 0 hh d)).toReal * ((globOf q k v bt ln).k pg kk hh d).toReal) * (1 / 8), fun b hh kk pg hpg => ?_⟩
  rw [EReal.coe_mul, ← scale_eq, coe_sum]
  refine congrArg (fun z : EReal => z * scale) (Finset.sum_congr rfl fun d _ => ?_)
  rw [EReal.coe_mul, globOf_k q k v bt ln pg hpg, ← hk, ← hq]
  rfl

end Cert.PagedProof
end
-- ==== Proof.Value.lean ====
module

public import proofs.«01_k».proof.Proof.Known

@[expose] public section
set_option maxRecDepth 16384
noncomputable section

/-! # The kernel's result is the reference's -/

namespace Cert.PagedProof
open Idealize.ShloMosaic Idealize.ShloMosaic.ValueIdx Idealize.ShloMosaic.TcCoe Idealize.SL.Sem
open scoped BigOperators

attribute [local instance] known_facts known_facts_reference

/-- The device that holds a page. -/
def holder (pg : ℕ) (h : pg < 512) : Dev Cert.KernelIdeal.nD := ⟨pg / 128, by show pg / 128 < 16; omega⟩

/-- Keys that are real on every device are real. -/
theorem keys_real (k : S512.Idx → EReal)
    (h : ∀ (c : Dev Cert.KernelIdeal.nD) (i : Cert.KernelIdeal.S128x16x16x64.Idx),
      ((Layout.blockN ⟨4, ![128, 16, 16, 64]⟩ ⟨4, ![512, 16, 16, 64]⟩ (Layout.meshBlock [2, 2, 4] ![[2], [], [], []] c) k : Cert.KernelIdeal.S128x16x16x64.Idx → EReal) i)
        = ((((Layout.blockN ⟨4, ![128, 16, 16, 64]⟩ ⟨4, ![512, 16, 16, 64]⟩ (Layout.meshBlock [2, 2, 4] ![[2], [], [], []] c) k : Cert.KernelIdeal.S128x16x16x64.Idx → EReal) i).toReal : ℝ) : EReal))
    (pg kk hh : ℕ) (d : Fin 64) (hp : pg < 512) (hkk : kk < 16) (hhh : hh < 16) :
    k (ix4 ⟨pg, hp⟩ ⟨kk, hkk⟩ ⟨hh, hhh⟩ d) = (((k (ix4 ⟨pg, hp⟩ ⟨kk, hkk⟩ ⟨hh, hhh⟩ d)).toReal : ℝ) : EReal) := by
  have e := h (holder pg hp) (ix4 ⟨pg % 128, by omega⟩ ⟨kk, hkk⟩ ⟨hh, hhh⟩ d)
  have hq : 128 * ((holder pg hp).val % 4) + pg % 128 = pg := by
    show 128 * ((pg / 128) % 4) + pg % 128 = pg
    omega
  have e1 := block_at (holder pg hp) k ⟨pg % 128, by omega⟩ ⟨kk, hkk⟩ ⟨hh, hhh⟩ d (by show 128 * ((holder pg hp).val % 4) + pg % 128 < 512; omega)
  have e2 : (⟨128 * ((holder pg hp).val % 4) + pg % 128, by omega⟩ : Fin 512) = ⟨pg, hp⟩ := Fin.ext hq
  rw [e1] at e
  rw [← e2]
  exact e

theorem algebraic : Cert.algebraic_KernelIdeal_ReferenceIdeal_pre_live_pages_known_KernelIdeal := fun m g m' g' hpre harg => by
  let q : Cert.KernelIdeal.S16x1x16x64.Idx → EReal := m' (((0 : Dev Cert.ReferenceIdeal.nD).tc : Thread Cert.ReferenceIdeal.nD Cert.ReferenceIdeal.τ).loc Cert.ReferenceIdeal.main_arg0)
  let k : S512.Idx → EReal := m' (((0 : Dev Cert.ReferenceIdeal.nD).tc : Thread Cert.ReferenceIdeal.nD Cert.ReferenceIdeal.τ).loc Cert.ReferenceIdeal.main_arg1)
  let v : S512.Idx → EReal := m' (((0 : Dev Cert.ReferenceIdeal.nD).tc : Thread Cert.ReferenceIdeal.nD Cert.ReferenceIdeal.τ).loc Cert.ReferenceIdeal.main_arg2)
  let bt : IVec Cert.KernelIdeal.S16x128 32 := m' (((0 : Dev Cert.ReferenceIdeal.nD).tc : Thread Cert.ReferenceIdeal.nD Cert.ReferenceIdeal.τ).loc Cert.ReferenceIdeal.main_arg3)
  let ln : IVec Cert.KernelIdeal.S16 32 := m' (((0 : Dev Cert.ReferenceIdeal.nD).tc : Thread Cert.ReferenceIdeal.nD Cert.ReferenceIdeal.τ).loc Cert.ReferenceIdeal.main_arg4)
  have hS := staged m q k v bt ln (fun c => (harg c).1) (fun c => (harg c).2.1) (fun c => (harg c).2.2.1) (fun c => (harg c).2.2.2.1) (fun c => (harg c).2.2.2.2)
  have hlen : ∀ b : Fin 16, 1 ≤ (ln (ix1 b) : BitVec 32).toInt := fun b => by
    have := known_ln _ _ _ _ _ (hpre 0).1 b
    rwa [(harg 0).2.2.2.2] at this
  have hbt : ∀ (b : Fin 16) (j : Fin 128), (j.val : ℤ) < (ln (ix1 b) : BitVec 32).toInt → 0 ≤ (bt (ix2 b j) : BitVec 32).toInt ∧ (bt (ix2 b j) : BitVec 32).toInt < 512 := fun b j => by
    have := known_bt _ _ _ _ _ (hpre 0).2.1 b j
    rwa [(harg 0).2.2.2.2, (harg 0).2.2.2.1] at this
  have hq : ∀ i, q i = (((q i).toReal : ℝ) : EReal) := fun i => by
    have := known_q _ _ _ _ _ (hpre 0).2.2.1 i
    rwa [(harg 0).1] at this
  have hk : ∀ i, k i = (((k i).toReal : ℝ) : EReal) := fun i => by
    rw [eq_ix4 i]
    refine keys_real k (fun c i => ?_) (i 0).val (i 1).val (i 2).val (i 3) (i 0).isLt (i 1).isLt (i 2).isLt
    have := known_k _ _ _ _ _ (hpre c).2.2.2 i
    rwa [(harg c).2.1] at this
  obtain ⟨σ, hσ⟩ := scores_real q k v bt ln hq hk
  have hl : ∀ b, ∃ j, live (globOf q k v bt ln) b j := fun b => ⟨0, (Plain.live_iff q k v bt ln b 0).2 (by have := hlen b; show ((0 : ℕ) : ℤ) < _; omega)⟩
  have hpg : ∀ b j, live (globOf q k v bt ln) b j → 0 ≤ (bt (ix2 b j) : BitVec 32).toInt ∧ (bt (ix2 b j) : BitVec 32).toInt < 512 :=
    fun b j h => hbt b j ((Plain.live_iff q k v bt ln b j).1 h)
  have hpage : ∀ b j, live (globOf q k v bt ln) b j → page (globOf q k v bt ln) b j < 512 := fun b j h =>
    lt_of_eq_of_lt (Plain.pick_val bt b j (hpg b j h).1 (hpg b j h).2).symm (Plain.pick bt b j).isLt
  have hv : ∀ c, out (insAt (Vm m)) c = Cert.ReferenceIdeal.Value.res_main_v41 m' 0 := fun c => by
    funext i
    rw [eq_ix4 i]
    refine (out_at hS hσ hpage hl c (i 0) (i 1) (i 2) (i 3)).trans (Eq.symm ?_)
    refine (congrFun (Plain.result_eq m' 0 q k v bt ln rfl rfl rfl rfl rfl) _).trans ?_
    exact Plain.result_attn q k v bt ln σ hσ hpg hl (i 0) (i 1) (i 2) (i 3)
  refine ⟨Cert.ReferenceIdeal.Value.res_main_v41 m' 0, ?_, ?_⟩
  · exact (θ_run Cert.KernelIdeal.defs _ _).mono (fun r h c => ⟨(h.1 c).1.1.trans (hv c), (h.1 c).1.2⟩) (run_main (F := Ideal) m g)
  · exact (θ_run Cert.ReferenceIdeal.defs _ _).mono (fun r h => h 0) (Cert.ReferenceIdeal.Value.run (F := Ideal) m' g')

theorem frame_kernelIdeal_known : Cert.quiescent_KernelIdeal_pre_live_pages_known_KernelIdeal := fun m g _ => frame_at (F := Ideal) m g
theorem frame_reference_known : Cert.quiescent_ReferenceIdeal_pre_live_pages_known_ReferenceIdeal := fun m g _ => frame_reference m g trivial

end Cert.PagedProof
end
-- ==== Proof.lean ====
module

public import proofs.«01_k».proof.Defs
public import proofs.«01_k».proof.Proof.Value

@[expose] public section

noncomputable section

/-! # The claim

The paged attention kernel on sixteen devices: its runs, by `Proof/Frames.lean`, and its
result, by `Proof/Value.lean`. -/

namespace Cert.Proof

open Idealize.ShloMosaic Idealize.SL.Sem

theorem claim : Cert.Claim :=
  ⟨Cert.Kernel.Gen.facts, Cert.KernelIdeal.Gen.facts, Cert.ReferenceIdeal.Gen.facts,
    Cert.PagedProof.known_facts, Cert.PagedProof.known_facts_reference,
    Cert.PagedProof.frame_kernel, Cert.PagedProof.frame_kernelIdeal, Cert.PagedProof.frame_kernelIdeal_known,
    Cert.PagedProof.frame_reference, Cert.PagedProof.frame_reference_known, trivial, Cert.PagedProof.algebraic⟩

end Cert.Proof

end
